-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Token (m : (ℓ : Loc Cert.Token.nD Cert.Token.τ Cert.Token.sig) → Buf (Elt Bits) ℓ) : Prop :=
  True

def Pre_TokenIdeal (m : (ℓ : Loc Cert.TokenIdeal.nD Cert.TokenIdeal.τ Cert.TokenIdeal.sig) → Buf (Elt Ideal) ℓ) : Prop :=
  True

def Pre_TokenRefIdeal (m : (ℓ : Loc Cert.TokenRefIdeal.nD Cert.TokenRefIdeal.τ Cert.TokenRefIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_Token [hToken : Cert.Token.Facts] : Prop :=
  ∀ (m : (ℓ : Loc Cert.Token.nD Cert.Token.τ Cert.Token.sig) → Buf (Elt Bits) ℓ) (g : Dev Cert.Token.nD → PrngReg), Pre_Token m →
    θ_run (Cert.Token.defs (F := Bits)) (onTc (τ := Cert.Token.τ) (Cert.Token.main (F := Bits))) ⟨m, fun _ => 0, g⟩ (fun r => (∀ c : Dev Cert.Token.nD,
      r.2.mem ((c.tc : Thread Cert.Token.nD Cert.Token.τ).loc Cert.Token.main_arg0) = m ((c.tc : Thread Cert.Token.nD Cert.Token.τ).loc Cert.Token.main_arg0)
      ∧ r.2.mem ((c.tc : Thread Cert.Token.nD Cert.Token.τ).loc Cert.Token.main_arg1) = m ((c.tc : Thread Cert.Token.nD Cert.Token.τ).loc Cert.Token.main_arg1)
      ∧ r.2.mem ((c.tc : Thread Cert.Token.nD Cert.Token.τ).loc Cert.Token.main_arg2) = m ((c.tc : Thread Cert.Token.nD Cert.Token.τ).loc Cert.Token.main_arg2)
      ∧ r.2.mem ((c.tc : Thread Cert.Token.nD Cert.Token.τ).loc Cert.Token.main_arg3) = m ((c.tc : Thread Cert.Token.nD Cert.Token.τ).loc Cert.Token.main_arg3)
      ∧ r.2.mem ((c.tc : Thread Cert.Token.nD Cert.Token.τ).loc Cert.Token.main_arg4) = m ((c.tc : Thread Cert.Token.nD Cert.Token.τ).loc Cert.Token.main_arg4)
      ∧ r.2.mem ((c.tc : Thread Cert.Token.nD Cert.Token.τ).loc Cert.Token.main_arg5) = m ((c.tc : Thread Cert.Token.nD Cert.Token.τ).loc Cert.Token.main_arg5)
      ∧ r.2.mem ((c.tc : Thread Cert.Token.nD Cert.Token.τ).loc Cert.Token.main_arg6) = m ((c.tc : Thread Cert.Token.nD Cert.Token.τ).loc Cert.Token.main_arg6)
      ∧ r.2.mem ((c.tc : Thread Cert.Token.nD Cert.Token.τ).loc Cert.Token.main_arg7) = m ((c.tc : Thread Cert.Token.nD Cert.Token.τ).loc Cert.Token.main_arg7)
      ∧ r.2.mem ((c.tc : Thread Cert.Token.nD Cert.Token.τ).loc Cert.Token.main_arg8) = m ((c.tc : Thread Cert.Token.nD Cert.Token.τ).loc Cert.Token.main_arg8))
      ∧ r.2.sem = fun _ => 0)

def quiescent_TokenIdeal [hTokenIdeal : Cert.TokenIdeal.Facts] : Prop :=
  ∀ (m : (ℓ : Loc Cert.TokenIdeal.nD Cert.TokenIdeal.τ Cert.TokenIdeal.sig) → Buf (Elt Ideal) ℓ) (g : Dev Cert.TokenIdeal.nD → PrngReg), Pre_TokenIdeal m →
    θ_run (Cert.TokenIdeal.defs (F := Ideal)) (onTc (τ := Cert.TokenIdeal.τ) (Cert.TokenIdeal.main (F := Ideal))) ⟨m, fun _ => 0, g⟩ (fun r => (∀ c : Dev Cert.TokenIdeal.nD,
      r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
      ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
      ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
      ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
      ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
      ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5)
      ∧ r.2.mem ((c.tc : Thread Cert.TokenIdeal.nD Cert.TokenIdeal.τ).loc Cert.TokenIdeal.main_arg6) = m ((c.tc : Thread Cert.TokenIdeal.nD Cert.TokenIdeal.τ).loc Cert.TokenIdeal.main_arg6)
      ∧ r.2.mem ((c.tc : Thread Cert.TokenIdeal.nD Cert.TokenIdeal.τ).loc Cert.TokenIdeal.main_arg7) = m ((c.tc : Thread Cert.TokenIdeal.nD Cert.TokenIdeal.τ).loc Cert.TokenIdeal.main_arg7)
      ∧ r.2.mem ((c.tc : Thread Cert.TokenIdeal.nD Cert.TokenIdeal.τ).loc Cert.TokenIdeal.main_arg8) = m ((c.tc : Thread Cert.TokenIdeal.nD Cert.TokenIdeal.τ).loc Cert.TokenIdeal.main_arg8))
      ∧ r.2.sem = fun _ => 0)

def quiescent_TokenRefIdeal [hTokenRefIdeal : Cert.TokenRefIdeal.Facts] : Prop :=
  ∀ (m : (ℓ : Loc Cert.TokenRefIdeal.nD Cert.TokenRefIdeal.τ Cert.TokenRefIdeal.sig) → Buf (Elt Ideal) ℓ) (g : Dev Cert.TokenRefIdeal.nD → PrngReg), Pre_TokenRefIdeal m →
    θ_run (Cert.TokenRefIdeal.defs (F := Ideal)) (onTc (τ := Cert.TokenRefIdeal.τ) (Cert.TokenRefIdeal.main (F := Ideal))) ⟨m, fun _ => 0, g⟩ (fun r => (∀ c : Dev Cert.TokenRefIdeal.nD,
      r.2.mem ((c.tc : Thread Cert.TokenRefIdeal.nD Cert.TokenRefIdeal.τ).loc Cert.TokenRefIdeal.main_arg0) = m ((c.tc : Thread Cert.TokenRefIdeal.nD Cert.TokenRefIdeal.τ).loc Cert.TokenRefIdeal.main_arg0)
      ∧ r.2.mem ((c.tc : Thread Cert.TokenRefIdeal.nD Cert.TokenRefIdeal.τ).loc Cert.TokenRefIdeal.main_arg1) = m ((c.tc : Thread Cert.TokenRefIdeal.nD Cert.TokenRefIdeal.τ).loc Cert.TokenRefIdeal.main_arg1)
      ∧ r.2.mem ((c.tc : Thread Cert.TokenRefIdeal.nD Cert.TokenRefIdeal.τ).loc Cert.TokenRefIdeal.main_arg2) = m ((c.tc : Thread Cert.TokenRefIdeal.nD Cert.TokenRefIdeal.τ).loc Cert.TokenRefIdeal.main_arg2)
      ∧ r.2.mem ((c.tc : Thread Cert.TokenRefIdeal.nD Cert.TokenRefIdeal.τ).loc Cert.TokenRefIdeal.main_arg3) = m ((c.tc : Thread Cert.TokenRefIdeal.nD Cert.TokenRefIdeal.τ).loc Cert.TokenRefIdeal.main_arg3)
      ∧ r.2.mem ((c.tc : Thread Cert.TokenRefIdeal.nD Cert.TokenRefIdeal.τ).loc Cert.TokenRefIdeal.main_arg4) = m ((c.tc : Thread Cert.TokenRefIdeal.nD Cert.TokenRefIdeal.τ).loc Cert.TokenRefIdeal.main_arg4)
      ∧ r.2.mem ((c.tc : Thread Cert.TokenRefIdeal.nD Cert.TokenRefIdeal.τ).loc Cert.TokenRefIdeal.main_arg5) = m ((c.tc : Thread Cert.TokenRefIdeal.nD Cert.TokenRefIdeal.τ).loc Cert.TokenRefIdeal.main_arg5)
      ∧ r.2.mem ((c.tc : Thread Cert.TokenRefIdeal.nD Cert.TokenRefIdeal.τ).loc Cert.TokenRefIdeal.main_arg6) = m ((c.tc : Thread Cert.TokenRefIdeal.nD Cert.TokenRefIdeal.τ).loc Cert.TokenRefIdeal.main_arg6)
      ∧ r.2.mem ((c.tc : Thread Cert.TokenRefIdeal.nD Cert.TokenRefIdeal.τ).loc Cert.TokenRefIdeal.main_arg7) = m ((c.tc : Thread Cert.TokenRefIdeal.nD Cert.TokenRefIdeal.τ).loc Cert.TokenRefIdeal.main_arg7)
      ∧ r.2.mem ((c.tc : Thread Cert.TokenRefIdeal.nD Cert.TokenRefIdeal.τ).loc Cert.TokenRefIdeal.main_arg8) = m ((c.tc : Thread Cert.TokenRefIdeal.nD Cert.TokenRefIdeal.τ).loc Cert.TokenRefIdeal.main_arg8))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1)
      ∧ r.2.mem ((c.tc : Thread Cert.Weight.nD Cert.Weight.τ).loc Cert.Weight.main_arg2) = m ((c.tc : Thread Cert.Weight.nD Cert.Weight.τ).loc Cert.Weight.main_arg2)
      ∧ r.2.mem ((c.tc : Thread Cert.Weight.nD Cert.Weight.τ).loc Cert.Weight.main_arg3) = m ((c.tc : Thread Cert.Weight.nD Cert.Weight.τ).loc Cert.Weight.main_arg3)
      ∧ r.2.mem ((c.tc : Thread Cert.Weight.nD Cert.Weight.τ).loc Cert.Weight.main_arg4) = m ((c.tc : Thread Cert.Weight.nD Cert.Weight.τ).loc Cert.Weight.main_arg4)
      ∧ r.2.mem ((c.tc : Thread Cert.Weight.nD Cert.Weight.τ).loc Cert.Weight.main_arg5) = m ((c.tc : Thread Cert.Weight.nD Cert.Weight.τ).loc Cert.Weight.main_arg5)
      ∧ r.2.mem ((c.tc : Thread Cert.Weight.nD Cert.Weight.τ).loc Cert.Weight.main_arg6) = m ((c.tc : Thread Cert.Weight.nD Cert.Weight.τ).loc Cert.Weight.main_arg6)
      ∧ r.2.mem ((c.tc : Thread Cert.Weight.nD Cert.Weight.τ).loc Cert.Weight.main_arg7) = m ((c.tc : Thread Cert.Weight.nD Cert.Weight.τ).loc Cert.Weight.main_arg7))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
      ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2)
      ∧ r.2.mem ((c.tc : Thread Cert.WeightIdeal.nD Cert.WeightIdeal.τ).loc Cert.WeightIdeal.main_arg3) = m ((c.tc : Thread Cert.WeightIdeal.nD Cert.WeightIdeal.τ).loc Cert.WeightIdeal.main_arg3)
      ∧ r.2.mem ((c.tc : Thread Cert.WeightIdeal.nD Cert.WeightIdeal.τ).loc Cert.WeightIdeal.main_arg4) = m ((c.tc : Thread Cert.WeightIdeal.nD Cert.WeightIdeal.τ).loc Cert.WeightIdeal.main_arg4)
      ∧ r.2.mem ((c.tc : Thread Cert.WeightIdeal.nD Cert.WeightIdeal.τ).loc Cert.WeightIdeal.main_arg5) = m ((c.tc : Thread Cert.WeightIdeal.nD Cert.WeightIdeal.τ).loc Cert.WeightIdeal.main_arg5)
      ∧ r.2.mem ((c.tc : Thread Cert.WeightIdeal.nD Cert.WeightIdeal.τ).loc Cert.WeightIdeal.main_arg6) = m ((c.tc : Thread Cert.WeightIdeal.nD Cert.WeightIdeal.τ).loc Cert.WeightIdeal.main_arg6)
      ∧ r.2.mem ((c.tc : Thread Cert.WeightIdeal.nD Cert.WeightIdeal.τ).loc Cert.WeightIdeal.main_arg7) = m ((c.tc : Thread Cert.WeightIdeal.nD Cert.WeightIdeal.τ).loc Cert.WeightIdeal.main_arg7))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0)
      ∧ r.2.mem ((c.tc : Thread Cert.WeightRefIdeal.nD Cert.WeightRefIdeal.τ).loc Cert.WeightRefIdeal.main_arg1) = m ((c.tc : Thread Cert.WeightRefIdeal.nD Cert.WeightRefIdeal.τ).loc Cert.WeightRefIdeal.main_arg1)
      ∧ r.2.mem ((c.tc : Thread Cert.WeightRefIdeal.nD Cert.WeightRefIdeal.τ).loc Cert.WeightRefIdeal.main_arg2) = m ((c.tc : Thread Cert.WeightRefIdeal.nD Cert.WeightRefIdeal.τ).loc Cert.WeightRefIdeal.main_arg2)
      ∧ r.2.mem ((c.tc : Thread Cert.WeightRefIdeal.nD Cert.WeightRefIdeal.τ).loc Cert.WeightRefIdeal.main_arg3) = m ((c.tc : Thread Cert.WeightRefIdeal.nD Cert.WeightRefIdeal.τ).loc Cert.WeightRefIdeal.main_arg3)
      ∧ r.2.mem ((c.tc : Thread Cert.WeightRefIdeal.nD Cert.WeightRefIdeal.τ).loc Cert.WeightRefIdeal.main_arg4) = m ((c.tc : Thread Cert.WeightRefIdeal.nD Cert.WeightRefIdeal.τ).loc Cert.WeightRefIdeal.main_arg4)
      ∧ r.2.mem ((c.tc : Thread Cert.WeightRefIdeal.nD Cert.WeightRefIdeal.τ).loc Cert.WeightRefIdeal.main_arg5) = m ((c.tc : Thread Cert.WeightRefIdeal.nD Cert.WeightRefIdeal.τ).loc Cert.WeightRefIdeal.main_arg5)
      ∧ r.2.mem ((c.tc : Thread Cert.WeightRefIdeal.nD Cert.WeightRefIdeal.τ).loc Cert.WeightRefIdeal.main_arg6) = m ((c.tc : Thread Cert.WeightRefIdeal.nD Cert.WeightRefIdeal.τ).loc Cert.WeightRefIdeal.main_arg6)
      ∧ r.2.mem ((c.tc : Thread Cert.WeightRefIdeal.nD Cert.WeightRefIdeal.τ).loc Cert.WeightRefIdeal.main_arg7) = m ((c.tc : Thread Cert.WeightRefIdeal.nD Cert.WeightRefIdeal.τ).loc Cert.WeightRefIdeal.main_arg7))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)) (v4 : (c : Dev Cert.GateIdeal.nD) → Buf (Elt Ideal) ((c.tc : Thread Cert.GateIdeal.nD Cert.GateIdeal.τ).loc Cert.GateIdeal.main_v0_4)) (v5 : (c : Dev Cert.GateIdeal.nD) → Buf (Elt Ideal) ((c.tc : Thread Cert.GateIdeal.nD Cert.GateIdeal.τ).loc Cert.GateIdeal.main_v0_5)) (v6 : (c : Dev Cert.GateIdeal.nD) → Buf (Elt Ideal) ((c.tc : Thread Cert.GateIdeal.nD Cert.GateIdeal.τ).loc Cert.GateIdeal.main_v0_6)) (v7 : (c : Dev Cert.GateIdeal.nD) → Buf (Elt Ideal) ((c.tc : Thread Cert.GateIdeal.nD Cert.GateIdeal.τ).loc Cert.GateIdeal.main_v0_7)) (v8 : (c : Dev Cert.GateIdeal.nD) → Buf (Elt Ideal) ((c.tc : Thread Cert.GateIdeal.nD Cert.GateIdeal.τ).loc Cert.GateIdeal.main_v0_8)) (v9 : (c : Dev Cert.GateIdeal.nD) → Buf (Elt Ideal) ((c.tc : Thread Cert.GateIdeal.nD Cert.GateIdeal.τ).loc Cert.GateIdeal.main_v0_9)) (v10 : (c : Dev Cert.GateIdeal.nD) → Buf (Elt Ideal) ((c.tc : Thread Cert.GateIdeal.nD Cert.GateIdeal.τ).loc Cert.GateIdeal.main_v0_10)) (v11 : (c : Dev Cert.GateIdeal.nD) → Buf (Elt Ideal) ((c.tc : Thread Cert.GateIdeal.nD Cert.GateIdeal.τ).loc Cert.GateIdeal.main_v0_11)) (v12 : (c : Dev Cert.GateIdeal.nD) → Buf (Elt Ideal) ((c.tc : Thread Cert.GateIdeal.nD Cert.GateIdeal.τ).loc Cert.GateIdeal.main_v0_12)) (v13 : (c : Dev Cert.GateIdeal.nD) → Buf (Elt Ideal) ((c.tc : Thread Cert.GateIdeal.nD Cert.GateIdeal.τ).loc Cert.GateIdeal.main_v0_13)) (v14 : (c : Dev Cert.GateIdeal.nD) → Buf (Elt Ideal) ((c.tc : Thread Cert.GateIdeal.nD Cert.GateIdeal.τ).loc Cert.GateIdeal.main_v0_14)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_v0_4) = v4 c
          ∧ r.2.mem ((c.tc : Thread Cert.GateIdeal.nD Cert.GateIdeal.τ).loc Cert.GateIdeal.main_v0_5) = v5 c
          ∧ r.2.mem ((c.tc : Thread Cert.GateIdeal.nD Cert.GateIdeal.τ).loc Cert.GateIdeal.main_v0_6) = v6 c
          ∧ r.2.mem ((c.tc : Thread Cert.GateIdeal.nD Cert.GateIdeal.τ).loc Cert.GateIdeal.main_v0_7) = v7 c
          ∧ r.2.mem ((c.tc : Thread Cert.GateIdeal.nD Cert.GateIdeal.τ).loc Cert.GateIdeal.main_v0_8) = v8 c
          ∧ r.2.mem ((c.tc : Thread Cert.GateIdeal.nD Cert.GateIdeal.τ).loc Cert.GateIdeal.main_v0_9) = v9 c
          ∧ r.2.mem ((c.tc : Thread Cert.GateIdeal.nD Cert.GateIdeal.τ).loc Cert.GateIdeal.main_v0_10) = v10 c
          ∧ r.2.mem ((c.tc : Thread Cert.GateIdeal.nD Cert.GateIdeal.τ).loc Cert.GateIdeal.main_v0_11) = v11 c
          ∧ r.2.mem ((c.tc : Thread Cert.GateIdeal.nD Cert.GateIdeal.τ).loc Cert.GateIdeal.main_v0_12) = v12 c
          ∧ r.2.mem ((c.tc : Thread Cert.GateIdeal.nD Cert.GateIdeal.τ).loc Cert.GateIdeal.main_v0_13) = v13 c
          ∧ r.2.mem ((c.tc : Thread Cert.GateIdeal.nD Cert.GateIdeal.τ).loc Cert.GateIdeal.main_v0_14) = v14 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v0_0) = v0 c
          ∧ r.2.mem ((c.tc : Thread Cert.GateRefIdeal.nD Cert.GateRefIdeal.τ).loc Cert.GateRefIdeal.main_v0_1) = v1 c
          ∧ r.2.mem ((c.tc : Thread Cert.GateRefIdeal.nD Cert.GateRefIdeal.τ).loc Cert.GateRefIdeal.main_v0_2) = v2 c
          ∧ r.2.mem ((c.tc : Thread Cert.GateRefIdeal.nD Cert.GateRefIdeal.τ).loc Cert.GateRefIdeal.main_v0_3) = v3 c
          ∧ r.2.mem ((c.tc : Thread Cert.GateRefIdeal.nD Cert.GateRefIdeal.τ).loc Cert.GateRefIdeal.main_v0_4) = v4 c
          ∧ r.2.mem ((c.tc : Thread Cert.GateRefIdeal.nD Cert.GateRefIdeal.τ).loc Cert.GateRefIdeal.main_v0_5) = v5 c
          ∧ r.2.mem ((c.tc : Thread Cert.GateRefIdeal.nD Cert.GateRefIdeal.τ).loc Cert.GateRefIdeal.main_v0_6) = v6 c
          ∧ r.2.mem ((c.tc : Thread Cert.GateRefIdeal.nD Cert.GateRefIdeal.τ).loc Cert.GateRefIdeal.main_v0_7) = v7 c
          ∧ r.2.mem ((c.tc : Thread Cert.GateRefIdeal.nD Cert.GateRefIdeal.τ).loc Cert.GateRefIdeal.main_v0_8) = v8 c
          ∧ r.2.mem ((c.tc : Thread Cert.GateRefIdeal.nD Cert.GateRefIdeal.τ).loc Cert.GateRefIdeal.main_v0_9) = v9 c
          ∧ r.2.mem ((c.tc : Thread Cert.GateRefIdeal.nD Cert.GateRefIdeal.τ).loc Cert.GateRefIdeal.main_v0_10) = v10 c
          ∧ r.2.mem ((c.tc : Thread Cert.GateRefIdeal.nD Cert.GateRefIdeal.τ).loc Cert.GateRefIdeal.main_v0_11) = v11 c
          ∧ r.2.mem ((c.tc : Thread Cert.GateRefIdeal.nD Cert.GateRefIdeal.τ).loc Cert.GateRefIdeal.main_v0_12) = v12 c
          ∧ r.2.mem ((c.tc : Thread Cert.GateRefIdeal.nD Cert.GateRefIdeal.τ).loc Cert.GateRefIdeal.main_v0_13) = v13 c
          ∧ r.2.mem ((c.tc : Thread Cert.GateRefIdeal.nD Cert.GateRefIdeal.τ).loc Cert.GateRefIdeal.main_v0_14) = v14 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7))

def preserves_Token_TokenIdeal : Prop :=
  True

def algebraic_TokenIdeal_TokenRefIdeal [hTokenIdeal : Cert.TokenIdeal.Facts] [hTokenRefIdeal : Cert.TokenRefIdeal.Facts] : Prop :=
  ∀ (m : (ℓ : Loc Cert.TokenIdeal.nD Cert.TokenIdeal.τ Cert.TokenIdeal.sig) → Buf (Elt Ideal) ℓ) (g : Dev Cert.TokenIdeal.nD → PrngReg)
    (m' : (ℓ : Loc Cert.TokenRefIdeal.nD Cert.TokenRefIdeal.τ Cert.TokenRefIdeal.sig) → Buf (Elt Ideal) ℓ) (g' : Dev Cert.TokenRefIdeal.nD → PrngReg), Pre_TokenIdeal m →
    (∀ c : Dev Cert.TokenIdeal.nD,
      m' ((c.tc : Thread Cert.TokenRefIdeal.nD Cert.TokenRefIdeal.τ).loc Cert.TokenRefIdeal.main_arg0) = m ((c.tc : Thread Cert.TokenIdeal.nD Cert.TokenIdeal.τ).loc Cert.TokenIdeal.main_arg0)
      ∧ m' ((c.tc : Thread Cert.TokenRefIdeal.nD Cert.TokenRefIdeal.τ).loc Cert.TokenRefIdeal.main_arg1) = m ((c.tc : Thread Cert.TokenIdeal.nD Cert.TokenIdeal.τ).loc Cert.TokenIdeal.main_arg1)
      ∧ m' ((c.tc : Thread Cert.TokenRefIdeal.nD Cert.TokenRefIdeal.τ).loc Cert.TokenRefIdeal.main_arg2) = m ((c.tc : Thread Cert.TokenIdeal.nD Cert.TokenIdeal.τ).loc Cert.TokenIdeal.main_arg2)
      ∧ m' ((c.tc : Thread Cert.TokenRefIdeal.nD Cert.TokenRefIdeal.τ).loc Cert.TokenRefIdeal.main_arg3) = m ((c.tc : Thread Cert.TokenIdeal.nD Cert.TokenIdeal.τ).loc Cert.TokenIdeal.main_arg3)
      ∧ m' ((c.tc : Thread Cert.TokenRefIdeal.nD Cert.TokenRefIdeal.τ).loc Cert.TokenRefIdeal.main_arg4) = m ((c.tc : Thread Cert.TokenIdeal.nD Cert.TokenIdeal.τ).loc Cert.TokenIdeal.main_arg4)
      ∧ m' ((c.tc : Thread Cert.TokenRefIdeal.nD Cert.TokenRefIdeal.τ).loc Cert.TokenRefIdeal.main_arg5) = m ((c.tc : Thread Cert.TokenIdeal.nD Cert.TokenIdeal.τ).loc Cert.TokenIdeal.main_arg5)
      ∧ m' ((c.tc : Thread Cert.TokenRefIdeal.nD Cert.TokenRefIdeal.τ).loc Cert.TokenRefIdeal.main_arg6) = m ((c.tc : Thread Cert.TokenIdeal.nD Cert.TokenIdeal.τ).loc Cert.TokenIdeal.main_arg6)
      ∧ m' ((c.tc : Thread Cert.TokenRefIdeal.nD Cert.TokenRefIdeal.τ).loc Cert.TokenRefIdeal.main_arg7) = m ((c.tc : Thread Cert.TokenIdeal.nD Cert.TokenIdeal.τ).loc Cert.TokenIdeal.main_arg7)
      ∧ m' ((c.tc : Thread Cert.TokenRefIdeal.nD Cert.TokenRefIdeal.τ).loc Cert.TokenRefIdeal.main_arg8) = m ((c.tc : Thread Cert.TokenIdeal.nD Cert.TokenIdeal.τ).loc Cert.TokenIdeal.main_arg8)) →
    ∃ (v0 : (c : Dev Cert.TokenIdeal.nD) → Buf (Elt Ideal) ((c.tc : Thread Cert.TokenIdeal.nD Cert.TokenIdeal.τ).loc Cert.TokenIdeal.main_v0_0)) (v1 : (c : Dev Cert.TokenIdeal.nD) → Buf (Elt Ideal) ((c.tc : Thread Cert.TokenIdeal.nD Cert.TokenIdeal.τ).loc Cert.TokenIdeal.main_v0_1)),
      θ_run (Cert.TokenIdeal.defs (F := Ideal)) (onTc (τ := Cert.TokenIdeal.τ) (Cert.TokenIdeal.main (F := Ideal))) ⟨m, fun _ => 0, g⟩ (fun r => ∀ c : Dev Cert.TokenIdeal.nD,
          r.2.mem ((c.tc : Thread Cert.TokenIdeal.nD Cert.TokenIdeal.τ).loc Cert.TokenIdeal.main_v0_0) = v0 c
          ∧ r.2.mem ((c.tc : Thread Cert.TokenIdeal.nD Cert.TokenIdeal.τ).loc Cert.TokenIdeal.main_v0_1) = v1 c
          ∧ r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
          ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
          ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
          ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
          ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
          ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5)
          ∧ r.2.mem ((c.tc : Thread Cert.TokenIdeal.nD Cert.TokenIdeal.τ).loc Cert.TokenIdeal.main_arg6) = m ((c.tc : Thread Cert.TokenIdeal.nD Cert.TokenIdeal.τ).loc Cert.TokenIdeal.main_arg6)
          ∧ r.2.mem ((c.tc : Thread Cert.TokenIdeal.nD Cert.TokenIdeal.τ).loc Cert.TokenIdeal.main_arg7) = m ((c.tc : Thread Cert.TokenIdeal.nD Cert.TokenIdeal.τ).loc Cert.TokenIdeal.main_arg7)
          ∧ r.2.mem ((c.tc : Thread Cert.TokenIdeal.nD Cert.TokenIdeal.τ).loc Cert.TokenIdeal.main_arg8) = m ((c.tc : Thread Cert.TokenIdeal.nD Cert.TokenIdeal.τ).loc Cert.TokenIdeal.main_arg8))
      ∧ θ_run (Cert.TokenRefIdeal.defs (F := Ideal)) (onTc (τ := Cert.TokenRefIdeal.τ) (Cert.TokenRefIdeal.main (F := Ideal))) ⟨m', fun _ => 0, g'⟩ (fun r => ∀ c : Dev Cert.TokenRefIdeal.nD,
          r.2.mem ((c.tc : Thread Cert.TokenRefIdeal.nD Cert.TokenRefIdeal.τ).loc Cert.TokenRefIdeal.main_v0_0) = v0 c
          ∧ r.2.mem ((c.tc : Thread Cert.TokenRefIdeal.nD Cert.TokenRefIdeal.τ).loc Cert.TokenRefIdeal.main_v0_1) = v1 c
          ∧ r.2.mem ((c.tc : Thread Cert.TokenRefIdeal.nD Cert.TokenRefIdeal.τ).loc Cert.TokenRefIdeal.main_arg0) = m' ((c.tc : Thread Cert.TokenRefIdeal.nD Cert.TokenRefIdeal.τ).loc Cert.TokenRefIdeal.main_arg0)
          ∧ r.2.mem ((c.tc : Thread Cert.TokenRefIdeal.nD Cert.TokenRefIdeal.τ).loc Cert.TokenRefIdeal.main_arg1) = m' ((c.tc : Thread Cert.TokenRefIdeal.nD Cert.TokenRefIdeal.τ).loc Cert.TokenRefIdeal.main_arg1)
          ∧ r.2.mem ((c.tc : Thread Cert.TokenRefIdeal.nD Cert.TokenRefIdeal.τ).loc Cert.TokenRefIdeal.main_arg2) = m' ((c.tc : Thread Cert.TokenRefIdeal.nD Cert.TokenRefIdeal.τ).loc Cert.TokenRefIdeal.main_arg2)
          ∧ r.2.mem ((c.tc : Thread Cert.TokenRefIdeal.nD Cert.TokenRefIdeal.τ).loc Cert.TokenRefIdeal.main_arg3) = m' ((c.tc : Thread Cert.TokenRefIdeal.nD Cert.TokenRefIdeal.τ).loc Cert.TokenRefIdeal.main_arg3)
          ∧ r.2.mem ((c.tc : Thread Cert.TokenRefIdeal.nD Cert.TokenRefIdeal.τ).loc Cert.TokenRefIdeal.main_arg4) = m' ((c.tc : Thread Cert.TokenRefIdeal.nD Cert.TokenRefIdeal.τ).loc Cert.TokenRefIdeal.main_arg4)
          ∧ r.2.mem ((c.tc : Thread Cert.TokenRefIdeal.nD Cert.TokenRefIdeal.τ).loc Cert.TokenRefIdeal.main_arg5) = m' ((c.tc : Thread Cert.TokenRefIdeal.nD Cert.TokenRefIdeal.τ).loc Cert.TokenRefIdeal.main_arg5)
          ∧ r.2.mem ((c.tc : Thread Cert.TokenRefIdeal.nD Cert.TokenRefIdeal.τ).loc Cert.TokenRefIdeal.main_arg6) = m' ((c.tc : Thread Cert.TokenRefIdeal.nD Cert.TokenRefIdeal.τ).loc Cert.TokenRefIdeal.main_arg6)
          ∧ r.2.mem ((c.tc : Thread Cert.TokenRefIdeal.nD Cert.TokenRefIdeal.τ).loc Cert.TokenRefIdeal.main_arg7) = m' ((c.tc : Thread Cert.TokenRefIdeal.nD Cert.TokenRefIdeal.τ).loc Cert.TokenRefIdeal.main_arg7)
          ∧ r.2.mem ((c.tc : Thread Cert.TokenRefIdeal.nD Cert.TokenRefIdeal.τ).loc Cert.TokenRefIdeal.main_arg8) = m' ((c.tc : Thread Cert.TokenRefIdeal.nD Cert.TokenRefIdeal.τ).loc Cert.TokenRefIdeal.main_arg8))

def preserves_Weight_WeightIdeal : Prop :=
  True

def algebraic_WeightIdeal_WeightRefIdeal [hWeightIdeal : Cert.WeightIdeal.Facts] [hWeightRefIdeal : Cert.WeightRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightIdeal m →
    (∀ c : Dev Cert.WeightIdeal.nD,
      m' ((c.tc : Thread Cert.WeightRefIdeal.nD Cert.WeightRefIdeal.τ).loc Cert.WeightRefIdeal.main_arg0) = m ((c.tc : Thread Cert.WeightIdeal.nD Cert.WeightIdeal.τ).loc Cert.WeightIdeal.main_arg0)
      ∧ m' ((c.tc : Thread Cert.WeightRefIdeal.nD Cert.WeightRefIdeal.τ).loc Cert.WeightRefIdeal.main_arg1) = m ((c.tc : Thread Cert.WeightIdeal.nD Cert.WeightIdeal.τ).loc Cert.WeightIdeal.main_arg1)
      ∧ m' ((c.tc : Thread Cert.WeightRefIdeal.nD Cert.WeightRefIdeal.τ).loc Cert.WeightRefIdeal.main_arg2) = m ((c.tc : Thread Cert.WeightIdeal.nD Cert.WeightIdeal.τ).loc Cert.WeightIdeal.main_arg2)
      ∧ m' ((c.tc : Thread Cert.WeightRefIdeal.nD Cert.WeightRefIdeal.τ).loc Cert.WeightRefIdeal.main_arg3) = m ((c.tc : Thread Cert.WeightIdeal.nD Cert.WeightIdeal.τ).loc Cert.WeightIdeal.main_arg3)
      ∧ m' ((c.tc : Thread Cert.WeightRefIdeal.nD Cert.WeightRefIdeal.τ).loc Cert.WeightRefIdeal.main_arg4) = m ((c.tc : Thread Cert.WeightIdeal.nD Cert.WeightIdeal.τ).loc Cert.WeightIdeal.main_arg4)
      ∧ m' ((c.tc : Thread Cert.WeightRefIdeal.nD Cert.WeightRefIdeal.τ).loc Cert.WeightRefIdeal.main_arg5) = m ((c.tc : Thread Cert.WeightIdeal.nD Cert.WeightIdeal.τ).loc Cert.WeightIdeal.main_arg5)
      ∧ m' ((c.tc : Thread Cert.WeightRefIdeal.nD Cert.WeightRefIdeal.τ).loc Cert.WeightRefIdeal.main_arg6) = m ((c.tc : Thread Cert.WeightIdeal.nD Cert.WeightIdeal.τ).loc Cert.WeightIdeal.main_arg6)
      ∧ m' ((c.tc : Thread Cert.WeightRefIdeal.nD Cert.WeightRefIdeal.τ).loc Cert.WeightRefIdeal.main_arg7) = m ((c.tc : Thread Cert.WeightIdeal.nD Cert.WeightIdeal.τ).loc Cert.WeightIdeal.main_arg7)) →
    ∃ (v0 : (c : Dev Cert.WeightIdeal.nD) → Buf (Elt Ideal) ((c.tc : Thread Cert.WeightIdeal.nD Cert.WeightIdeal.τ).loc Cert.WeightIdeal.main_v0_0)) (v1 : (c : Dev Cert.WeightIdeal.nD) → Buf (Elt Ideal) ((c.tc : Thread Cert.WeightIdeal.nD Cert.WeightIdeal.τ).loc Cert.WeightIdeal.main_v0_1)) (v2 : (c : Dev Cert.WeightIdeal.nD) → Buf (Elt Ideal) ((c.tc : Thread Cert.WeightIdeal.nD Cert.WeightIdeal.τ).loc Cert.WeightIdeal.main_v0_2)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0_0) = v0 c
          ∧ r.2.mem ((c.tc : Thread Cert.WeightIdeal.nD Cert.WeightIdeal.τ).loc Cert.WeightIdeal.main_v0_1) = v1 c
          ∧ r.2.mem ((c.tc : Thread Cert.WeightIdeal.nD Cert.WeightIdeal.τ).loc Cert.WeightIdeal.main_v0_2) = v2 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
          ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2)
          ∧ r.2.mem ((c.tc : Thread Cert.WeightIdeal.nD Cert.WeightIdeal.τ).loc Cert.WeightIdeal.main_arg3) = m ((c.tc : Thread Cert.WeightIdeal.nD Cert.WeightIdeal.τ).loc Cert.WeightIdeal.main_arg3)
          ∧ r.2.mem ((c.tc : Thread Cert.WeightIdeal.nD Cert.WeightIdeal.τ).loc Cert.WeightIdeal.main_arg4) = m ((c.tc : Thread Cert.WeightIdeal.nD Cert.WeightIdeal.τ).loc Cert.WeightIdeal.main_arg4)
          ∧ r.2.mem ((c.tc : Thread Cert.WeightIdeal.nD Cert.WeightIdeal.τ).loc Cert.WeightIdeal.main_arg5) = m ((c.tc : Thread Cert.WeightIdeal.nD Cert.WeightIdeal.τ).loc Cert.WeightIdeal.main_arg5)
          ∧ r.2.mem ((c.tc : Thread Cert.WeightIdeal.nD Cert.WeightIdeal.τ).loc Cert.WeightIdeal.main_arg6) = m ((c.tc : Thread Cert.WeightIdeal.nD Cert.WeightIdeal.τ).loc Cert.WeightIdeal.main_arg6)
          ∧ r.2.mem ((c.tc : Thread Cert.WeightIdeal.nD Cert.WeightIdeal.τ).loc Cert.WeightIdeal.main_arg7) = m ((c.tc : Thread Cert.WeightIdeal.nD Cert.WeightIdeal.τ).loc Cert.WeightIdeal.main_arg7))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v0_0) = v0 c
          ∧ r.2.mem ((c.tc : Thread Cert.WeightRefIdeal.nD Cert.WeightRefIdeal.τ).loc Cert.WeightRefIdeal.main_v0_1) = v1 c
          ∧ r.2.mem ((c.tc : Thread Cert.WeightRefIdeal.nD Cert.WeightRefIdeal.τ).loc Cert.WeightRefIdeal.main_v0_2) = v2 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0)
          ∧ r.2.mem ((c.tc : Thread Cert.WeightRefIdeal.nD Cert.WeightRefIdeal.τ).loc Cert.WeightRefIdeal.main_arg1) = m' ((c.tc : Thread Cert.WeightRefIdeal.nD Cert.WeightRefIdeal.τ).loc Cert.WeightRefIdeal.main_arg1)
          ∧ r.2.mem ((c.tc : Thread Cert.WeightRefIdeal.nD Cert.WeightRefIdeal.τ).loc Cert.WeightRefIdeal.main_arg2) = m' ((c.tc : Thread Cert.WeightRefIdeal.nD Cert.WeightRefIdeal.τ).loc Cert.WeightRefIdeal.main_arg2)
          ∧ r.2.mem ((c.tc : Thread Cert.WeightRefIdeal.nD Cert.WeightRefIdeal.τ).loc Cert.WeightRefIdeal.main_arg3) = m' ((c.tc : Thread Cert.WeightRefIdeal.nD Cert.WeightRefIdeal.τ).loc Cert.WeightRefIdeal.main_arg3)
          ∧ r.2.mem ((c.tc : Thread Cert.WeightRefIdeal.nD Cert.WeightRefIdeal.τ).loc Cert.WeightRefIdeal.main_arg4) = m' ((c.tc : Thread Cert.WeightRefIdeal.nD Cert.WeightRefIdeal.τ).loc Cert.WeightRefIdeal.main_arg4)
          ∧ r.2.mem ((c.tc : Thread Cert.WeightRefIdeal.nD Cert.WeightRefIdeal.τ).loc Cert.WeightRefIdeal.main_arg5) = m' ((c.tc : Thread Cert.WeightRefIdeal.nD Cert.WeightRefIdeal.τ).loc Cert.WeightRefIdeal.main_arg5)
          ∧ r.2.mem ((c.tc : Thread Cert.WeightRefIdeal.nD Cert.WeightRefIdeal.τ).loc Cert.WeightRefIdeal.main_arg6) = m' ((c.tc : Thread Cert.WeightRefIdeal.nD Cert.WeightRefIdeal.τ).loc Cert.WeightRefIdeal.main_arg6)
          ∧ r.2.mem ((c.tc : Thread Cert.WeightRefIdeal.nD Cert.WeightRefIdeal.τ).loc Cert.WeightRefIdeal.main_arg7) = m' ((c.tc : Thread Cert.WeightRefIdeal.nD Cert.WeightRefIdeal.τ).loc Cert.WeightRefIdeal.main_arg7))

def Claim : Prop :=
  ∃ (hGate : Cert.Gate.Facts) (hGateIdeal : Cert.GateIdeal.Facts) (hGateRefIdeal : Cert.GateRefIdeal.Facts) (hToken : Cert.Token.Facts) (hTokenIdeal : Cert.TokenIdeal.Facts) (hTokenRefIdeal : Cert.TokenRefIdeal.Facts) (hWeight : Cert.Weight.Facts) (hWeightIdeal : Cert.WeightIdeal.Facts) (hWeightRefIdeal : Cert.WeightRefIdeal.Facts),
    quiescent_Gate (hGate := hGate)
    ∧ quiescent_GateIdeal (hGateIdeal := hGateIdeal)
    ∧ quiescent_GateRefIdeal (hGateRefIdeal := hGateRefIdeal)
    ∧ quiescent_Token (hToken := hToken)
    ∧ quiescent_TokenIdeal (hTokenIdeal := hTokenIdeal)
    ∧ quiescent_TokenRefIdeal (hTokenRefIdeal := hTokenRefIdeal)
    ∧ quiescent_Weight (hWeight := hWeight)
    ∧ quiescent_WeightIdeal (hWeightIdeal := hWeightIdeal)
    ∧ quiescent_WeightRefIdeal (hWeightRefIdeal := hWeightRefIdeal)
    ∧ preserves_Gate_GateIdeal
    ∧ algebraic_GateIdeal_GateRefIdeal (hGateIdeal := hGateIdeal) (hGateRefIdeal := hGateRefIdeal)
    ∧ preserves_Token_TokenIdeal
    ∧ algebraic_TokenIdeal_TokenRefIdeal (hTokenIdeal := hTokenIdeal) (hTokenRefIdeal := hTokenRefIdeal)
    ∧ preserves_Weight_WeightIdeal
    ∧ algebraic_WeightIdeal_WeightRefIdeal (hWeightIdeal := hWeightIdeal) (hWeightRefIdeal := hWeightRefIdeal)
-- ==== Gate.lean ====
abbrev S28x76 : Shape := ⟨2, ![28, 76]⟩
abbrev S76x28 : Shape := ⟨2, ![76, 28]⟩
abbrev S1536x3584 : Shape := ⟨2, ![1536, 3584]⟩
abbrev S3584x9728 : Shape := ⟨2, ![3584, 9728]⟩
abbrev S9728x3584 : Shape := ⟨2, ![9728, 3584]⟩
abbrev S12x128x9728 : Shape := ⟨3, ![12, 128, 9728]⟩
abbrev S12x128x76 : Shape := ⟨3, ![12, 128, 76]⟩
abbrev S12x1x9728 : Shape := ⟨3, ![12, 1, 9728]⟩
abbrev S1536x9728 : Shape := ⟨2, ![1536, 9728]⟩
abbrev S3584x256 : Shape := ⟨2, ![3584, 256]⟩
abbrev S256x3584 : Shape := ⟨2, ![256, 3584]⟩
abbrev S12x128x256 : Shape := ⟨3, ![12, 128, 256]⟩
abbrev S12x1x256 : Shape := ⟨3, ![12, 1, 256]⟩
abbrev S1536x256 : Shape := ⟨2, ![1536, 256]⟩
abbrev S384x256 : Shape := ⟨2, ![384, 256]⟩
abbrev S1x1 : Shape := ⟨2, ![1, 1]⟩
abbrev S128x128 : Shape := ⟨2, ![128, 128]⟩
abbrev S384x3584 : Shape := ⟨2, ![384, 3584]⟩
abbrev S128 : Shape := ⟨1, ![128]⟩
abbrev S128x1 : Shape := ⟨2, ![128, 1]⟩
abbrev S1x128x128 : Shape := ⟨3, ![1, 128, 128]⟩
abbrev S1x128 : Shape := ⟨2, ![1, 128]⟩
abbrev S1x1x128 : Shape := ⟨3, ![1, 1, 128]⟩
abbrev S128x76 : Shape := ⟨2, ![128, 76]⟩
abbrev S1x128x76 : Shape := ⟨3, ![1, 128, 76]⟩

abbrev nBuf : Space → Nat
  | .hbm => 23
  | .vmem => 41
  | .smem => 3
  | _ => 0

abbrev bufTy : (tb : Table) → Fin (tcTables nBuf tb) → BufTy
  | .hbm, ⟨0, _⟩ => ⟨S28x76, .f32⟩
  | .hbm, ⟨1, _⟩ => ⟨S28x76, .f32⟩
  | .hbm, ⟨2, _⟩ => ⟨S76x28, .f32⟩
  | .hbm, ⟨3, _⟩ => ⟨S1536x3584, .bf16⟩
  | .hbm, ⟨4, _⟩ => ⟨S1536x3584, .bf16⟩
  | .hbm, ⟨5, _⟩ => ⟨S3584x9728, .fp8e4m3⟩
  | .hbm, ⟨6, _⟩ => ⟨S3584x9728, .fp8e4m3⟩
  | .hbm, ⟨7, _⟩ => ⟨S9728x3584, .fp8e4m3⟩
  | .hbm, ⟨8, _⟩ => ⟨S12x128x9728, .fp8e4m3⟩
  | .hbm, ⟨9, _⟩ => ⟨S12x128x76, .f32⟩
  | .hbm, ⟨10, _⟩ => ⟨S12x128x9728, .fp8e4m3⟩
  | .hbm, ⟨11, _⟩ => ⟨S12x1x9728, .f32⟩
  | .hbm, ⟨12, _⟩ => ⟨S12x128x9728, .fp8e4m3⟩
  | .hbm, ⟨13, _⟩ => ⟨S12x128x76, .f32⟩
  | .hbm, ⟨14, _⟩ => ⟨S12x128x9728, .fp8e4m3⟩
  | .hbm, ⟨15, _⟩ => ⟨S12x128x76, .f32⟩
  | .hbm, ⟨16, _⟩ => ⟨S12x128x9728, .fp8e4m3⟩
  | .hbm, ⟨17, _⟩ => ⟨S12x1x9728, .f32⟩
  | .hbm, ⟨18, _⟩ => ⟨S12x128x9728, .fp8e4m3⟩
  | .hbm, ⟨19, _⟩ => ⟨S12x1x9728, .f32⟩
  | .hbm, ⟨20, _⟩ => ⟨S1536x9728, .bf16⟩
  | .hbm, ⟨21, _⟩ => ⟨S1536x9728, .bf16⟩
  | .hbm, ⟨22, _⟩ => ⟨S1536x9728, .bf16⟩
  | .local _ .vmem, ⟨0, _⟩ => ⟨S1536x3584, .bf16⟩
  | .local _ .vmem, ⟨1, _⟩ => ⟨S1536x3584, .bf16⟩
  | .local _ .vmem, ⟨2, _⟩ => ⟨S3584x256, .fp8e4m3⟩
  | .local _ .vmem, ⟨3, _⟩ => ⟨S3584x256, .fp8e4m3⟩
  | .local _ .vmem, ⟨4, _⟩ => ⟨S3584x256, .fp8e4m3⟩
  | .local _ .vmem, ⟨5, _⟩ => ⟨S3584x256, .fp8e4m3⟩
  | .local _ .vmem, ⟨6, _⟩ => ⟨S256x3584, .fp8e4m3⟩
  | .local _ .vmem, ⟨7, _⟩ => ⟨S256x3584, .fp8e4m3⟩
  | .local _ .vmem, ⟨8, _⟩ => ⟨S12x128x256, .fp8e4m3⟩
  | .local _ .vmem, ⟨9, _⟩ => ⟨S12x128x256, .fp8e4m3⟩
  | .local _ .vmem, ⟨10, _⟩ => ⟨S12x128x76, .f32⟩
  | .local _ .vmem, ⟨11, _⟩ => ⟨S12x128x256, .fp8e4m3⟩
  | .local _ .vmem, ⟨12, _⟩ => ⟨S12x128x256, .fp8e4m3⟩
  | .local _ .vmem, ⟨13, _⟩ => ⟨S12x1x256, .f32⟩
  | .local _ .vmem, ⟨14, _⟩ => ⟨S12x1x256, .f32⟩
  | .local _ .vmem, ⟨15, _⟩ => ⟨S12x128x256, .fp8e4m3⟩
  | .local _ .vmem, ⟨16, _⟩ => ⟨S12x128x256, .fp8e4m3⟩
  | .local _ .vmem, ⟨17, _⟩ => ⟨S12x128x76, .f32⟩
  | .local _ .vmem, ⟨18, _⟩ => ⟨S12x128x256, .fp8e4m3⟩
  | .local _ .vmem, ⟨19, _⟩ => ⟨S12x128x256, .fp8e4m3⟩
  | .local _ .vmem, ⟨20, _⟩ => ⟨S12x128x76, .f32⟩
  | .local _ .vmem, ⟨21, _⟩ => ⟨S12x128x256, .fp8e4m3⟩
  | .local _ .vmem, ⟨22, _⟩ => ⟨S12x128x256, .fp8e4m3⟩
  | .local _ .vmem, ⟨23, _⟩ => ⟨S12x1x256, .f32⟩
  | .local _ .vmem, ⟨24, _⟩ => ⟨S12x1x256, .f32⟩
  | .local _ .vmem, ⟨25, _⟩ => ⟨S12x128x256, .fp8e4m3⟩
  | .local _ .vmem, ⟨26, _⟩ => ⟨S12x128x256, .fp8e4m3⟩
  | .local _ .vmem, ⟨27, _⟩ => ⟨S12x1x256, .f32⟩
  | .local _ .vmem, ⟨28, _⟩ => ⟨S12x1x256, .f32⟩
  | .local _ .vmem, ⟨29, _⟩ => ⟨S1536x256, .bf16⟩
  | .local _ .vmem, ⟨30, _⟩ => ⟨S1536x256, .bf16⟩
  | .local _ .vmem, ⟨31, _⟩ => ⟨S1536x256, .bf16⟩
  | .local _ .vmem, ⟨32, _⟩ => ⟨S1536x256, .bf16⟩
  | .local _ .vmem, ⟨33, _⟩ => ⟨S1536x256, .bf16⟩
  | .local _ .vmem, ⟨34, _⟩ => ⟨S1536x256, .bf16⟩
  | .local _ .vmem, ⟨35, _⟩ => ⟨S3584x256, .bf16⟩
  | .local _ .vmem, ⟨36, _⟩ => ⟨S3584x256, .bf16⟩
  | .local _ .vmem, ⟨37, _⟩ => ⟨S256x3584, .bf16⟩
  | .local _ .vmem, ⟨38, _⟩ => ⟨S384x256, .f32⟩
  | .local _ .vmem, ⟨39, _⟩ => ⟨S384x256, .f32⟩
  | .local _ .vmem, ⟨40, _⟩ => ⟨S384x256, .f32⟩
  | .local _ .smem, ⟨0, _⟩ => ⟨S28x76, .f32⟩
  | .local _ .smem, ⟨1, _⟩ => ⟨S28x76, .f32⟩
  | .local _ .smem, ⟨2, _⟩ => ⟨S76x28, .f32⟩
  | _, _ => ⟨S28x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev main_v0_9 : Ref sig .tc := ⟨.hbm, 17, rfl⟩
abbrev main_v0_10 : Ref sig .tc := ⟨.hbm, 18, rfl⟩
abbrev main_v0_11 : Ref sig .tc := ⟨.hbm, 19, rfl⟩
abbrev main_v0_12 : Ref sig .tc := ⟨.hbm, 20, rfl⟩
abbrev main_v0_13 : Ref sig .tc := ⟨.hbm, 21, rfl⟩
abbrev main_v0_14 : Ref sig .tc := ⟨.hbm, 22, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_scratch4 : Ref sig .tc := ⟨.vmem, 39, rfl⟩
abbrev cc0_scratch5 : Ref sig .tc := ⟨.vmem, 40, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37

abbrev nD : Nat := 1
abbrev τ : Topo := Topo.v7x

variable {F : FTy → Type} [FloatOps F]

abbrev grid0 : Pipeline.Grid := ⟨1, ![38], ![false]⟩

def k0_off1 (i : grid0.Coords) (c0_i32 : BitVec 32) : Fin 2 → Nat :=
  let c0 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let arg0 : BitVec 32 := BitVec.ofNat 32 (i 0).val
  let c2_i32 : BitVec 32 := 2#32
  let v0 : BitVec 32 := Scalar.muli arg0 c2_i32
  let v23 : BitVec 32 := Scalar.addi v0 c0_i32_8
  let v24 : Index := Scalar.indexCast v23
  ![1, v24.toNat]
def k0_off3 (i : grid0.Coords) (c0_i32_19 : BitVec 32) : Fin 2 → Nat :=
  let c2 : Index := 2#32
  let arg0 : BitVec 32 := BitVec.ofNat 32 (i 0).val
  let c2_i32 : BitVec 32 := 2#32
  let v0 : BitVec 32 := Scalar.muli arg0 c2_i32
  let v45 : BitVec 32 := Scalar.addi v0 c0_i32_19
  let v46 : Index := Scalar.indexCast v45
  ![2, v46.toNat]
def k0_off4 (i : grid0.Coords) (c0_i32_29 : BitVec 32) : Fin 2 → Nat :=
  let c3 : Index := 3#32
  let arg0 : BitVec 32 := BitVec.ofNat 32 (i 0).val
  let c2_i32 : BitVec 32 := 2#32
  let v0 : BitVec 32 := Scalar.muli arg0 c2_i32
  let v67 : BitVec 32 := Scalar.addi v0 c0_i32_29
  let v68 : Index := Scalar.indexCast v67
  ![3, v68.toNat]
def k0_off5 (i : grid0.Coords) (c0_i32_39 : BitVec 32) : Fin 2 → Nat :=
  let c4 : Index := 4#32
  let arg0 : BitVec 32 := BitVec.ofNat 32 (i 0).val
  let c2_i32 : BitVec 32 := 2#32
  let v0 : BitVec 32 := Scalar.muli arg0 c2_i32
  let v89 : BitVec 32 := Scalar.addi v0 c0_i32_39
  let v90 : Index := Scalar.indexCast v89
  ![4, v90.toNat]
def k0_off6 (i : grid0.Coords) (c0_i32_49 : BitVec 32) : Fin 2 → Nat :=
  let c5 : Index := 5#32
  let arg0 : BitVec 32 := BitVec.ofNat 32 (i 0).val
  let c2_i32 : BitVec 32 := 2#32
  let v0 : BitVec 32 := Scalar.muli arg0 c2_i32
  let v111 : BitVec 32 := Scalar.addi v0 c0_i32_49
  let v112 : Index := Scalar.indexCast v111
  ![5, v112.toNat]
def k0_off7 (i : grid0.Coords) (c0_i32_59 : BitVec 32) : Fin 2 → Nat :=
  let c6 : Index := 6#32
  let arg0 : BitVec 32 := BitVec.ofNat 32 (i 0).val
  let c2_i32 : BitVec 32 := 2#32
  let v0 : BitVec 32 := Scalar.muli arg0 c2_i32
  let v133 : BitVec 32 := Scalar.addi v0 c0_i32_59
  let v134 : Index := Scalar.indexCast v133
  ![6, v134.toNat]
def k0_off8 (i : grid0.Coords) (c0_i32_69 : BitVec 32) : Fin 2 → Nat :=
  let c7 : Index := 7#32
  let arg0 : BitVec 32 := BitVec.ofNat 32 (i 0).val
  let c2_i32 : BitVec 32 := 2#32
  let v0 : BitVec 32 := Scalar.muli arg0 c2_i32
  let v155 : BitVec 32 := Scalar.addi v0 c0_i32_69
  let v156 : Index := Scalar.indexCast v155
  ![7, v156.toNat]
def k0_off9 (i : grid0.Coords) (c0_i32_79 : BitVec 32) : Fin 2 → Nat :=
  let c8 : Index := 8#32
  let arg0 : BitVec 32 := BitVec.ofNat 32 (i 0).val
  let c2_i32 : BitVec 32 := 2#32
  let v0 : BitVec 32 := Scalar.muli arg0 c2_i32
  let v177 : BitVec 32 := Scalar.addi v0 c0_i32_79
  let v178 : Index := Scalar.indexCast v177
  ![8, v178.toNat]
def k0_off10 (i : grid0.Coords) (c0_i32_89 : BitVec 32) : Fin 2 → Nat :=
  let c9 : Index := 9#32
  let arg0 : BitVec 32 := BitVec.ofNat 32 (i 0).val
  let c2_i32 : BitVec 32 := 2#32
  let v0 : BitVec 32 := Scalar.muli arg0 c2_i32
  let v199 : BitVec 32 := Scalar.addi v0 c0_i32_89
  let v200 : Index := Scalar.indexCast v199
  ![9, v200.toNat]
def k0_off11 (i : grid0.Coords) (c0_i32_99 : BitVec 32) : Fin 2 → Nat :=
  let c10 : Index := 10#32
  let arg0 : BitVec 32 := BitVec.ofNat 32 (i 0).val
  let c2_i32 : BitVec 32 := 2#32
  let v0 : BitVec 32 := Scalar.muli arg0 c2_i32
  let v221 : BitVec 32 := Scalar.addi v0 c0_i32_99
  let v222 : Index := Scalar.indexCast v221
  ![10, v222.toNat]
def k0_off12 (i : grid0.Coords) (c0_i32_109 : BitVec 32) : Fin 2 → Nat :=
  let c11 : Index := 11#32
  let arg0 : BitVec 32 := BitVec.ofNat 32 (i 0).val
  let c2_i32 : BitVec 32 := 2#32
  let v0 : BitVec 32 := Scalar.muli arg0 c2_i32
  let v243 : BitVec 32 := Scalar.addi v0 c0_i32_109
  let v244 : Index := Scalar.indexCast v243
  ![11, v244.toNat]
def k0_off13 (i : grid0.Coords) (c0_i32_119 : BitVec 32) : Fin 2 → Nat :=
  let c12 : Index := 12#32
  let arg0 : BitVec 32 := BitVec.ofNat 32 (i 0).val
  let c2_i32 : BitVec 32 := 2#32
  let v0 : BitVec 32 := Scalar.muli arg0 c2_i32
  let v265 : BitVec 32 := Scalar.addi v0 c0_i32_119
  let v266 : Index := Scalar.indexCast v265
  ![12, v266.toNat]
def k0_off14 (i : grid0.Coords) (c0_i32_129 : BitVec 32) : Fin 2 → Nat :=
  let c13 : Index := 13#32
  let arg0 : BitVec 32 := BitVec.ofNat 32 (i 0).val
  let c2_i32 : BitVec 32 := 2#32
  let v0 : BitVec 32 := Scalar.muli arg0 c2_i32
  let v287 : BitVec 32 := Scalar.addi v0 c0_i32_129
  let v288 : Index := Scalar.indexCast v287
  ![13, v288.toNat]
def k0_off15 (i : grid0.Coords) (c0_i32_139 : BitVec 32) : Fin 2 → Nat :=
  let c14 : Index := 14#32
  let arg0 : BitVec 32 := BitVec.ofNat 32 (i 0).val
  let c2_i32 : BitVec 32 := 2#32
  let v0 : BitVec 32 := Scalar.muli arg0 c2_i32
  let v309 : BitVec 32 := Scalar.addi v0 c0_i32_139
  let v310 : Index := Scalar.indexCast v309
  ![14, v310.toNat]
def k0_off16 (i : grid0.Coords) (c0_i32_149 : BitVec 32) : Fin 2 → Nat :=
  let c15 : Index := 15#32
  let arg0 : BitVec 32 := BitVec.ofNat 32 (i 0).val
  let c2_i32 : BitVec 32 := 2#32
  let v0 : BitVec 32 := Scalar.muli arg0 c2_i32
  let v331 : BitVec 32 := Scalar.addi v0 c0_i32_149
  let v332 : Index := Scalar.indexCast v331
  ![15, v332.toNat]
def k0_off17 (i : grid0.Coords) (c0_i32_159 : BitVec 32) : Fin 2 → Nat :=
  let c16 : Index := 16#32
  let arg0 : BitVec 32 := BitVec.ofNat 32 (i 0).val
  let c2_i32 : BitVec 32 := 2#32
  let v0 : BitVec 32 := Scalar.muli arg0 c2_i32
  let v353 : BitVec 32 := Scalar.addi v0 c0_i32_159
  let v354 : Index := Scalar.indexCast v353
  ![16, v354.toNat]
def k0_off18 (i : grid0.Coords) (c0_i32_169 : BitVec 32) : Fin 2 → Nat :=
  let c17 : Index := 17#32
  let arg0 : BitVec 32 := BitVec.ofNat 32 (i 0).val
  let c2_i32 : BitVec 32 := 2#32
  let v0 : BitVec 32 := Scalar.muli arg0 c2_i32
  let v375 : BitVec 32 := Scalar.addi v0 c0_i32_169
  let v376 : Index := Scalar.indexCast v375
  ![17, v376.toNat]
def k0_off19 (i : grid0.Coords) (c0_i32_179 : BitVec 32) : Fin 2 → Nat :=
  let c18 : Index := 18#32
  let arg0 : BitVec 32 := BitVec.ofNat 32 (i 0).val
  let c2_i32 : BitVec 32 := 2#32
  let v0 : BitVec 32 := Scalar.muli arg0 c2_i32
  let v397 : BitVec 32 := Scalar.addi v0 c0_i32_179
  let v398 : Index := Scalar.indexCast v397
  ![18, v398.toNat]
def k0_off20 (i : grid0.Coords) (c0_i32_189 : BitVec 32) : Fin 2 → Nat :=
  let c19 : Index := 19#32
  let arg0 : BitVec 32 := BitVec.ofNat 32 (i 0).val
  let c2_i32 : BitVec 32 := 2#32
  let v0 : BitVec 32 := Scalar.muli arg0 c2_i32
  let v419 : BitVec 32 := Scalar.addi v0 c0_i32_189
  let v420 : Index := Scalar.indexCast v419
  ![19, v420.toNat]
def k0_off21 (i : grid0.Coords) (c0_i32_199 : BitVec 32) : Fin 2 → Nat :=
  let c20 : Index := 20#32
  let arg0 : BitVec 32 := BitVec.ofNat 32 (i 0).val
  let c2_i32 : BitVec 32 := 2#32
  let v0 : BitVec 32 := Scalar.muli arg0 c2_i32
  let v441 : BitVec 32 := Scalar.addi v0 c0_i32_199
  let v442 : Index := Scalar.indexCast v441
  ![20, v442.toNat]
def k0_off22 (i : grid0.Coords) (c0_i32_209 : BitVec 32) : Fin 2 → Nat :=
  let c21 : Index := 21#32
  let arg0 : BitVec 32 := BitVec.ofNat 32 (i 0).val
  let c2_i32 : BitVec 32 := 2#32
  let v0 : BitVec 32 := Scalar.muli arg0 c2_i32
  let v463 : BitVec 32 := Scalar.addi v0 c0_i32_209
  let v464 : Index := Scalar.indexCast v463
  ![21, v464.toNat]
def k0_off23 (i : grid0.Coords) (c0_i32_219 : BitVec 32) : Fin 2 → Nat :=
  let c22 : Index := 22#32
  let arg0 : BitVec 32 := BitVec.ofNat 32 (i 0).val
  let c2_i32 : BitVec 32 := 2#32
  let v0 : BitVec 32 := Scalar.muli arg0 c2_i32
  let v485 : BitVec 32 := Scalar.addi v0 c0_i32_219
  let v486 : Index := Scalar.indexCast v485
  ![22, v486.toNat]
def k0_off24 (i : grid0.Coords) (c0_i32_229 : BitVec 32) : Fin 2 → Nat :=
  let c23 : Index := 23#32
  let arg0 : BitVec 32 := BitVec.ofNat 32 (i 0).val
  let c2_i32 : BitVec 32 := 2#32
  let v0 : BitVec 32 := Scalar.muli arg0 c2_i32
  let v507 : BitVec 32 := Scalar.addi v0 c0_i32_229
  let v508 : Index := Scalar.indexCast v507
  ![23, v508.toNat]
def k0_off25 (i : grid0.Coords) (c0_i32_239 : BitVec 32) : Fin 2 → Nat :=
  let c24 : Index := 24#32
  let arg0 : BitVec 32 := BitVec.ofNat 32 (i 0).val
  let c2_i32 : BitVec 32 := 2#32
  let v0 : BitVec 32 := Scalar.muli arg0 c2_i32
  let v529 : BitVec 32 := Scalar.addi v0 c0_i32_239
  let v530 : Index := Scalar.indexCast v529
  ![24, v530.toNat]
def k0_off26 (i : grid0.Coords) (c0_i32_249 : BitVec 32) : Fin 2 → Nat :=
  let c25 : Index := 25#32
  let arg0 : BitVec 32 := BitVec.ofNat 32 (i 0).val
  let c2_i32 : BitVec 32 := 2#32
  let v0 : BitVec 32 := Scalar.muli arg0 c2_i32
  let v551 : BitVec 32 := Scalar.addi v0 c0_i32_249
  let v552 : Index := Scalar.indexCast v551
  ![25, v552.toNat]
def k0_off27 (i : grid0.Coords) (c0_i32_259 : BitVec 32) : Fin 2 → Nat :=
  let c26 : Index := 26#32
  let arg0 : BitVec 32 := BitVec.ofNat 32 (i 0).val
  let c2_i32 : BitVec 32 := 2#32
  let v0 : BitVec 32 := Scalar.muli arg0 c2_i32
  let v573 : BitVec 32 := Scalar.addi v0 c0_i32_259
  let v574 : Index := Scalar.indexCast v573
  ![26, v574.toNat]
def k0_off28 (i : grid0.Coords) (c0_i32_269 : BitVec 32) : Fin 2 → Nat :=
  let c27 : Index := 27#32
  let arg0 : BitVec 32 := BitVec.ofNat 32 (i 0).val
  let c2_i32 : BitVec 32 := 2#32
  let v0 : BitVec 32 := Scalar.muli arg0 c2_i32
  let v595 : BitVec 32 := Scalar.addi v0 c0_i32_269
  let v596 : Index := Scalar.indexCast v595
  ![27, v596.toNat]
def k0_off29 (i : grid0.Coords) (c0_i32_615 : BitVec 32) : Fin 2 → Nat :=
  let arg0 : BitVec 32 := BitVec.ofNat 32 (i 0).val
  let c2_i32 : BitVec 32 := 2#32
  let v0 : BitVec 32 := Scalar.muli arg0 c2_i32
  let v1233 : BitVec 32 := Scalar.addi v0 c0_i32_615
  let v1234 : Index := Scalar.indexCast v1233
  let c0_616 : Index := 0#32
  ![v1234.toNat, 0]
def k0_off30 (i : grid0.Coords) (c0_i32_621 : BitVec 32) : Fin 2 → Nat :=
  let arg0 : BitVec 32 := BitVec.ofNat 32 (i 0).val
  let c2_i32 : BitVec 32 := 2#32
  let v0 : BitVec 32 := Scalar.muli arg0 c2_i32
  let v1244 : BitVec 32 := Scalar.addi v0 c0_i32_621
  let v1245 : Index := Scalar.indexCast v1244
  let c1_622 : Index := 1#32
  ![v1245.toNat, 1]
def k0_off31 (i : grid0.Coords) (c0_i32_627 : BitVec 32) : Fin 2 → Nat :=
  let arg0 : BitVec 32 := BitVec.ofNat 32 (i 0).val
  let c2_i32 : BitVec 32 := 2#32
  let v0 : BitVec 32 := Scalar.muli arg0 c2_i32
  let v1255 : BitVec 32 := Scalar.addi v0 c0_i32_627
  let v1256 : Index := Scalar.indexCast v1255
  let c2_628 : Index := 2#32
  ![v1256.toNat, 2]
def k0_off32 (i : grid0.Coords) (c0_i32_633 : BitVec 32) : Fin 2 → Nat :=
  let arg0 : BitVec 32 := BitVec.ofNat 32 (i 0).val
  let c2_i32 : BitVec 32 := 2#32
  let v0 : BitVec 32 := Scalar.muli arg0 c2_i32
  let v1266 : BitVec 32 := Scalar.addi v0 c0_i32_633
  let v1267 : Index := Scalar.indexCast v1266
  let c3_634 : Index := 3#32
  ![v1267.toNat, 3]
def k0_off33 (i : grid0.Coords) (c0_i32_639 : BitVec 32) : Fin 2 → Nat :=
  let arg0 : BitVec 32 := BitVec.ofNat 32 (i 0).val
  let c2_i32 : BitVec 32 := 2#32
  let v0 : BitVec 32 := Scalar.muli arg0 c2_i32
  let v1277 : BitVec 32 := Scalar.addi v0 c0_i32_639
  let v1278 : Index := Scalar.indexCast v1277
  let c4_640 : Index := 4#32
  ![v1278.toNat, 4]
def k0_off34 (i : grid0.Coords) (c0_i32_645 : BitVec 32) : Fin 2 → Nat :=
  let arg0 : BitVec 32 := BitVec.ofNat 32 (i 0).val
  let c2_i32 : BitVec 32 := 2#32
  let v0 : BitVec 32 := Scalar.muli arg0 c2_i32
  let v1288 : BitVec 32 := Scalar.addi v0 c0_i32_645
  let v1289 : Index := Scalar.indexCast v1288
  let c5_646 : Index := 5#32
  ![v1289.toNat, 5]
def k0_off35 (i : grid0.Coords) (c0_i32_651 : BitVec 32) : Fin 2 → Nat :=
  let arg0 : BitVec 32 := BitVec.ofNat 32 (i 0).val
  let c2_i32 : BitVec 32 := 2#32
  let v0 : BitVec 32 := Scalar.muli arg0 c2_i32
  let v1299 : BitVec 32 := Scalar.addi v0 c0_i32_651
  let v1300 : Index := Scalar.indexCast v1299
  let c6_652 : Index := 6#32
  ![v1300.toNat, 6]
def k0_off36 (i : grid0.Coords) (c0_i32_657 : BitVec 32) : Fin 2 → Nat :=
  let arg0 : BitVec 32 := BitVec.ofNat 32 (i 0).val
  let c2_i32 : BitVec 32 := 2#32
  let v0 : BitVec 32 := Scalar.muli arg0 c2_i32
  let v1310 : BitVec 32 := Scalar.addi v0 c0_i32_657
  let v1311 : Index := Scalar.indexCast v1310
  let c7_658 : Index := 7#32
  ![v1311.toNat, 7]
def k0_off37 (i : grid0.Coords) (c0_i32_663 : BitVec 32) : Fin 2 → Nat :=
  let arg0 : BitVec 32 := BitVec.ofNat 32 (i 0).val
  let c2_i32 : BitVec 32 := 2#32
  let v0 : BitVec 32 := Scalar.muli arg0 c2_i32
  let v1321 : BitVec 32 := Scalar.addi v0 c0_i32_663
  let v1322 : Index := Scalar.indexCast v1321
  let c8_664 : Index := 8#32
  ![v1322.toNat, 8]
def k0_off38 (i : grid0.Coords) (c0_i32_669 : BitVec 32) : Fin 2 → Nat :=
  let arg0 : BitVec 32 := BitVec.ofNat 32 (i 0).val
  let c2_i32 : BitVec 32 := 2#32
  let v0 : BitVec 32 := Scalar.muli arg0 c2_i32
  let v1332 : BitVec 32 := Scalar.addi v0 c0_i32_669
  let v1333 : Index := Scalar.indexCast v1332
  let c9_670 : Index := 9#32
  ![v1333.toNat, 9]
def k0_off39 (i : grid0.Coords) (c0_i32_675 : BitVec 32) : Fin 2 → Nat :=
  let arg0 : BitVec 32 := BitVec.ofNat 32 (i 0).val
  let c2_i32 : BitVec 32 := 2#32
  let v0 : BitVec 32 := Scalar.muli arg0 c2_i32
  let v1343 : BitVec 32 := Scalar.addi v0 c0_i32_675
  let v1344 : Index := Scalar.indexCast v1343
  let c10_676 : Index := 10#32
  ![v1344.toNat, 10]
def k0_off40 (i : grid0.Coords) (c0_i32_681 : BitVec 32) : Fin 2 → Nat :=
  let arg0 : BitVec 32 := BitVec.ofNat 32 (i 0).val
  let c2_i32 : BitVec 32 := 2#32
  let v0 : BitVec 32 := Scalar.muli arg0 c2_i32
  let v1354 : BitVec 32 := Scalar.addi v0 c0_i32_681
  let v1355 : Index := Scalar.indexCast v1354
  let c11_682 : Index := 11#32
  ![v1355.toNat, 11]
def k0_off41 (i : grid0.Coords) (c0_i32_687 : BitVec 32) : Fin 2 → Nat :=
  let arg0 : BitVec 32 := BitVec.ofNat 32 (i 0).val
  let c2_i32 : BitVec 32 := 2#32
  let v0 : BitVec 32 := Scalar.muli arg0 c2_i32
  let v1365 : BitVec 32 := Scalar.addi v0 c0_i32_687
  let v1366 : Index := Scalar.indexCast v1365
  let c12_688 : Index := 12#32
  ![v1366.toNat, 12]
def k0_off42 (i : grid0.Coords) (c0_i32_693 : BitVec 32) : Fin 2 → Nat :=
  let arg0 : BitVec 32 := BitVec.ofNat 32 (i 0).val
  let c2_i32 : BitVec 32 := 2#32
  let v0 : BitVec 32 := Scalar.muli arg0 c2_i32
  let v1376 : BitVec 32 := Scalar.addi v0 c0_i32_693
  let v1377 : Index := Scalar.indexCast v1376
  let c13_694 : Index := 13#32
  ![v1377.toNat, 13]
def k0_off43 (i : grid0.Coords) (c0_i32_699 : BitVec 32) : Fin 2 → Nat :=
  let arg0 : BitVec 32 := BitVec.ofNat 32 (i 0).val
  let c2_i32 : BitVec 32 := 2#32
  let v0 : BitVec 32 := Scalar.muli arg0 c2_i32
  let v1387 : BitVec 32 := Scalar.addi v0 c0_i32_699
  let v1388 : Index := Scalar.indexCast v1387
  let c14_700 : Index := 14#32
  ![v1388.toNat, 14]
def k0_off44 (i : grid0.Coords) (c0_i32_705 : BitVec 32) : Fin 2 → Nat :=
  let arg0 : BitVec 32 := BitVec.ofNat 32 (i 0).val
  let c2_i32 : BitVec 32 := 2#32
  let v0 : BitVec 32 := Scalar.muli arg0 c2_i32
  let v1398 : BitVec 32 := Scalar.addi v0 c0_i32_705
  let v1399 : Index := Scalar.indexCast v1398
  let c15_706 : Index := 15#32
  ![v1399.toNat, 15]
def k0_off45 (i : grid0.Coords) (c0_i32_711 : BitVec 32) : Fin 2 → Nat :=
  let arg0 : BitVec 32 := BitVec.ofNat 32 (i 0).val
  let c2_i32 : BitVec 32 := 2#32
  let v0 : BitVec 32 := Scalar.muli arg0 c2_i32
  let v1409 : BitVec 32 := Scalar.addi v0 c0_i32_711
  let v1410 : Index := Scalar.indexCast v1409
  let c16_712 : Index := 16#32
  ![v1410.toNat, 16]
def k0_off46 (i : grid0.Coords) (c0_i32_717 : BitVec 32) : Fin 2 → Nat :=
  let arg0 : BitVec 32 := BitVec.ofNat 32 (i 0).val
  let c2_i32 : BitVec 32 := 2#32
  let v0 : BitVec 32 := Scalar.muli arg0 c2_i32
  let v1420 : BitVec 32 := Scalar.addi v0 c0_i32_717
  let v1421 : Index := Scalar.indexCast v1420
  let c17_718 : Index := 17#32
  ![v1421.toNat, 17]
def k0_off47 (i : grid0.Coords) (c0_i32_723 : BitVec 32) : Fin 2 → Nat :=
  let arg0 : BitVec 32 := BitVec.ofNat 32 (i 0).val
  let c2_i32 : BitVec 32 := 2#32
  let v0 : BitVec 32 := Scalar.muli arg0 c2_i32
  let v1431 : BitVec 32 := Scalar.addi v0 c0_i32_723
  let v1432 : Index := Scalar.indexCast v1431
  let c18_724 : Index := 18#32
  ![v1432.toNat, 18]
def k0_off48 (i : grid0.Coords) (c0_i32_729 : BitVec 32) : Fin 2 → Nat :=
  let arg0 : BitVec 32 := BitVec.ofNat 32 (i 0).val
  let c2_i32 : BitVec 32 := 2#32
  let v0 : BitVec 32 := Scalar.muli arg0 c2_i32
  let v1442 : BitVec 32 := Scalar.addi v0 c0_i32_729
  let v1443 : Index := Scalar.indexCast v1442
  let c19_730 : Index := 19#32
  ![v1443.toNat, 19]
def k0_off49 (i : grid0.Coords) (c0_i32_735 : BitVec 32) : Fin 2 → Nat :=
  let arg0 : BitVec 32 := BitVec.ofNat 32 (i 0).val
  let c2_i32 : BitVec 32 := 2#32
  let v0 : BitVec 32 := Scalar.muli arg0 c2_i32
  let v1453 : BitVec 32 := Scalar.addi v0 c0_i32_735
  let v1454 : Index := Scalar.indexCast v1453
  let c20_736 : Index := 20#32
  ![v1454.toNat, 20]
def k0_off50 (i : grid0.Coords) (c0_i32_741 : BitVec 32) : Fin 2 → Nat :=
  let arg0 : BitVec 32 := BitVec.ofNat 32 (i 0).val
  let c2_i32 : BitVec 32 := 2#32
  let v0 : BitVec 32 := Scalar.muli arg0 c2_i32
  let v1464 : BitVec 32 := Scalar.addi v0 c0_i32_741
  let v1465 : Index := Scalar.indexCast v1464
  let c21_742 : Index := 21#32
  ![v1465.toNat, 21]
def k0_off51 (i : grid0.Coords) (c0_i32_747 : BitVec 32) : Fin 2 → Nat :=
  let arg0 : BitVec 32 := BitVec.ofNat 32 (i 0).val
  let c2_i32 : BitVec 32 := 2#32
  let v0 : BitVec 32 := Scalar.muli arg0 c2_i32
  let v1475 : BitVec 32 := Scalar.addi v0 c0_i32_747
  let v1476 : Index := Scalar.indexCast v1475
  let c22_748 : Index := 22#32
  ![v1476.toNat, 22]
def k0_off52 (i : grid0.Coords) (c0_i32_753 : BitVec 32) : Fin 2 → Nat :=
  let arg0 : BitVec 32 := BitVec.ofNat 32 (i 0).val
  let c2_i32 : BitVec 32 := 2#32
  let v0 : BitVec 32 := Scalar.muli arg0 c2_i32
  let v1486 : BitVec 32 := Scalar.addi v0 c0_i32_753
  let v1487 : Index := Scalar.indexCast v1486
  let c23_754 : Index := 23#32
  ![v1487.toNat, 23]
def k0_off53 (i : grid0.Coords) (c0_i32_759 : BitVec 32) : Fin 2 → Nat :=
  let arg0 : BitVec 32 := BitVec.ofNat 32 (i 0).val
  let c2_i32 : BitVec 32 := 2#32
  let v0 : BitVec 32 := Scalar.muli arg0 c2_i32
  let v1497 : BitVec 32 := Scalar.addi v0 c0_i32_759
  let v1498 : Index := Scalar.indexCast v1497
  let c24_760 : Index := 24#32
  ![v1498.toNat, 24]
def k0_off54 (i : grid0.Coords) (c0_i32_765 : BitVec 32) : Fin 2 → Nat :=
  let arg0 : BitVec 32 := BitVec.ofNat 32 (i 0).val
  let c2_i32 : BitVec 32 := 2#32
  let v0 : BitVec 32 := Scalar.muli arg0 c2_i32
  let v1508 : BitVec 32 := Scalar.addi v0 c0_i32_765
  let v1509 : Index := Scalar.indexCast v1508
  let c25_766 : Index := 25#32
  ![v1509.toNat, 25]
def k0_off55 (i : grid0.Coords) (c0_i32_771 : BitVec 32) : Fin 2 → Nat :=
  let arg0 : BitVec 32 := BitVec.ofNat 32 (i 0).val
  let c2_i32 : BitVec 32 := 2#32
  let v0 : BitVec 32 := Scalar.muli arg0 c2_i32
  let v1519 : BitVec 32 := Scalar.addi v0 c0_i32_771
  let v1520 : Index := Scalar.indexCast v1519
  let c26_772 : Index := 26#32
  ![v1520.toNat, 26]
def k0_off56 (i : grid0.Coords) (c0_i32_777 : BitVec 32) : Fin 2 → Nat :=
  let arg0 : BitVec 32 := BitVec.ofNat 32 (i 0).val
  let c2_i32 : BitVec 32 := 2#32
  let v0 : BitVec 32 := Scalar.muli arg0 c2_i32
  let v1530 : BitVec 32 := Scalar.addi v0 c0_i32_777
  let v1531 : Index := Scalar.indexCast v1530
  let c27_778 : Index := 27#32
  ![v1531.toNat, 27]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S28x76 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S28x76 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S76x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3584x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3584x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S12x128x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S12x128x76 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S12x128x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S12x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S12x128x256 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S12x128x76 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S12x128x256 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S12x128x76 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S12x128x256 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S12x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S12x128x256 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S12x1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1536x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1536x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1536x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== GateRefIdeal.lean ====
abbrev S28x76 : Shape := ⟨2, ![28, 76]⟩
abbrev S76x28 : Shape := ⟨2, ![76, 28]⟩
abbrev S1536x3584 : Shape := ⟨2, ![1536, 3584]⟩
abbrev S3584x9728 : Shape := ⟨2, ![3584, 9728]⟩
abbrev S9728x3584 : Shape := ⟨2, ![9728, 3584]⟩
abbrev S12x128x9728 : Shape := ⟨3, ![12, 128, 9728]⟩
abbrev S12x128x76 : Shape := ⟨3, ![12, 128, 76]⟩
abbrev S12x1x9728 : Shape := ⟨3, ![12, 1, 9728]⟩
abbrev S1536x9728 : Shape := ⟨2, ![1536, 9728]⟩
abbrev S28x128x76x128 : Shape := ⟨4, ![28, 128, 76, 128]⟩
abbrev S28x1x76x1 : Shape := ⟨4, ![28, 1, 76, 1]⟩
abbrev S76x128x28x128 : Shape := ⟨4, ![76, 128, 28, 128]⟩
abbrev S76x1x28x1 : Shape := ⟨4, ![76, 1, 28, 1]⟩
abbrev S12x128x76x128 : Shape := ⟨4, ![12, 128, 76, 128]⟩
abbrev S12x128x76x1 : Shape := ⟨4, ![12, 128, 76, 1]⟩
abbrev S12x1x128x9728 : Shape := ⟨4, ![12, 1, 128, 9728]⟩
abbrev S12x1x1x9728 : Shape := ⟨4, ![12, 1, 1, 9728]⟩

abbrev nBuf : Space → Nat
  | .hbm => 23
  | .vmem => 23
  | .smem => 0
  | _ => 0

abbrev bufTy : (tb : Table) → Fin (tcTables nBuf tb) → BufTy
  | .hbm, ⟨0, _⟩ => ⟨S28x76, .f32⟩
  | .hbm, ⟨1, _⟩ => ⟨S28x76, .f32⟩
  | .hbm, ⟨2, _⟩ => ⟨S76x28, .f32⟩
  | .hbm, ⟨3, _⟩ => ⟨S1536x3584, .bf16⟩
  | .hbm, ⟨4, _⟩ => ⟨S1536x3584, .bf16⟩
  | .hbm, ⟨5, _⟩ => ⟨S3584x9728, .fp8e4m3⟩
  | .hbm, ⟨6, _⟩ => ⟨S3584x9728, .fp8e4m3⟩
  | .hbm, ⟨7, _⟩ => ⟨S9728x3584, .fp8e4m3⟩
  | .hbm, ⟨8, _⟩ => ⟨S12x128x9728, .fp8e4m3⟩
  | .hbm, ⟨9, _⟩ => ⟨S12x128x76, .f32⟩
  | .hbm, ⟨10, _⟩ => ⟨S12x128x9728, .fp8e4m3⟩
  | .hbm, ⟨11, _⟩ => ⟨S12x1x9728, .f32⟩
  | .hbm, ⟨12, _⟩ => ⟨S12x128x9728, .fp8e4m3⟩
  | .hbm, ⟨13, _⟩ => ⟨S12x128x76, .f32⟩
  | .hbm, ⟨14, _⟩ => ⟨S12x128x9728, .fp8e4m3⟩
  | .hbm, ⟨15, _⟩ => ⟨S12x128x76, .f32⟩
  | .hbm, ⟨16, _⟩ => ⟨S12x128x9728, .fp8e4m3⟩
  | .hbm, ⟨17, _⟩ => ⟨S12x1x9728, .f32⟩
  | .hbm, ⟨18, _⟩ => ⟨S12x128x9728, .fp8e4m3⟩
  | .hbm, ⟨19, _⟩ => ⟨S12x1x9728, .f32⟩
  | .hbm, ⟨20, _⟩ => ⟨S1536x9728, .bf16⟩
  | .hbm, ⟨21, _⟩ => ⟨S1536x9728, .bf16⟩
  | .hbm, ⟨22, _⟩ => ⟨S1536x9728, .bf16⟩
  | .local _ .vmem, ⟨0, _⟩ => ⟨S28x76, .f32⟩
  | .local _ .vmem, ⟨1, _⟩ => ⟨S28x76, .f32⟩
  | .local _ .vmem, ⟨2, _⟩ => ⟨S76x28, .f32⟩
  | .local _ .vmem, ⟨3, _⟩ => ⟨S1536x3584, .bf16⟩
  | .local _ .vmem, ⟨4, _⟩ => ⟨S1536x3584, .bf16⟩
  | .local _ .vmem, ⟨5, _⟩ => ⟨S3584x9728, .fp8e4m3⟩
  | .local _ .vmem, ⟨6, _⟩ => ⟨S3584x9728, .fp8e4m3⟩
  | .local _ .vmem, ⟨7, _⟩ => ⟨S9728x3584, .fp8e4m3⟩
  | .local _ .vmem, ⟨8, _⟩ => ⟨S12x128x9728, .fp8e4m3⟩
  | .local _ .vmem, ⟨9, _⟩ => ⟨S12x128x76, .f32⟩
  | .local _ .vmem, ⟨10, _⟩ => ⟨S12x128x9728, .fp8e4m3⟩
  | .local _ .vmem, ⟨11, _⟩ => ⟨S12x1x9728, .f32⟩
  | .local _ .vmem, ⟨12, _⟩ => ⟨S12x128x9728, .fp8e4m3⟩
  | .local _ .vmem, ⟨13, _⟩ => ⟨S12x128x76, .f32⟩
  | .local _ .vmem, ⟨14, _⟩ => ⟨S12x128x9728, .fp8e4m3⟩
  | .local _ .vmem, ⟨15, _⟩ => ⟨S12x128x76, .f32⟩
  | .local _ .vmem, ⟨16, _⟩ => ⟨S12x128x9728, .fp8e4m3⟩
  | .local _ .vmem, ⟨17, _⟩ => ⟨S12x1x9728, .f32⟩
  | .local _ .vmem, ⟨18, _⟩ => ⟨S12x128x9728, .fp8e4m3⟩
  | .local _ .vmem, ⟨19, _⟩ => ⟨S12x1x9728, .f32⟩
  | .local _ .vmem, ⟨20, _⟩ => ⟨S1536x9728, .bf16⟩
  | .local _ .vmem, ⟨21, _⟩ => ⟨S1536x9728, .bf16⟩
  | .local _ .vmem, ⟨22, _⟩ => ⟨S1536x9728, .bf16⟩
  | _, _ => ⟨S28x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev main_v0_9 : Ref sig .tc := ⟨.hbm, 17, rfl⟩
abbrev main_v0_10 : Ref sig .tc := ⟨.hbm, 18, rfl⟩
abbrev main_v0_11 : Ref sig .tc := ⟨.hbm, 19, rfl⟩
abbrev main_v0_12 : Ref sig .tc := ⟨.hbm, 20, rfl⟩
abbrev main_v0_13 : Ref sig .tc := ⟨.hbm, 21, rfl⟩
abbrev main_v0_14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := .none

abbrev stage0_0 : Fin 1 → Memref sig .tc .vmem S28x76 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x76 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S76x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x9728 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x9728 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9728x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x128x9728 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x128x76 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x128x9728 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x1x9728 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x128x9728 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12x128x76 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S12x128x9728 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S12x128x76 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S12x128x9728 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S12x1x9728 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S12x128x9728 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S12x1x9728 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1536x9728 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1536x9728 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1536x9728 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== Token.lean ====
abbrev S28x76 : Shape := ⟨2, ![28, 76]⟩
abbrev S76x28 : Shape := ⟨2, ![76, 28]⟩
abbrev S1536x9728 : Shape := ⟨2, ![1536, 9728]⟩
abbrev S3584x9728 : Shape := ⟨2, ![3584, 9728]⟩
abbrev S9728x3584 : Shape := ⟨2, ![9728, 3584]⟩
abbrev S1536x3584 : Shape := ⟨2, ![1536, 3584]⟩
abbrev S1536x512 : Shape := ⟨2, ![1536, 512]⟩
abbrev S512x512 : Shape := ⟨2, ![512, 512]⟩
abbrev S1x1 : Shape := ⟨2, ![1, 1]⟩
abbrev S128x128 : Shape := ⟨2, ![128, 128]⟩

abbrev nBuf : Space → Nat
  | .hbm => 11
  | .vmem => 21
  | .smem => 3
  | _ => 0

abbrev bufTy : (tb : Table) → Fin (tcTables nBuf tb) → BufTy
  | .hbm, ⟨0, _⟩ => ⟨S28x76, .f32⟩
  | .hbm, ⟨1, _⟩ => ⟨S28x76, .f32⟩
  | .hbm, ⟨2, _⟩ => ⟨S76x28, .f32⟩
  | .hbm, ⟨3, _⟩ => ⟨S1536x9728, .bf16⟩
  | .hbm, ⟨4, _⟩ => ⟨S1536x9728, .bf16⟩
  | .hbm, ⟨5, _⟩ => ⟨S1536x9728, .bf16⟩
  | .hbm, ⟨6, _⟩ => ⟨S3584x9728, .fp8e4m3⟩
  | .hbm, ⟨7, _⟩ => ⟨S3584x9728, .fp8e4m3⟩
  | .hbm, ⟨8, _⟩ => ⟨S9728x3584, .fp8e4m3⟩
  | .hbm, ⟨9, _⟩ => ⟨S1536x3584, .bf16⟩
  | .hbm, ⟨10, _⟩ => ⟨S1536x3584, .bf16⟩
  | .local _ .vmem, ⟨0, _⟩ => ⟨S1536x512, .bf16⟩
  | .local _ .vmem, ⟨1, _⟩ => ⟨S1536x512, .bf16⟩
  | .local _ .vmem, ⟨2, _⟩ => ⟨S1536x512, .bf16⟩
  | .local _ .vmem, ⟨3, _⟩ => ⟨S1536x512, .bf16⟩
  | .local _ .vmem, ⟨4, _⟩ => ⟨S1536x512, .bf16⟩
  | .local _ .vmem, ⟨5, _⟩ => ⟨S1536x512, .bf16⟩
  | .local _ .vmem, ⟨6, _⟩ => ⟨S512x512, .fp8e4m3⟩
  | .local _ .vmem, ⟨7, _⟩ => ⟨S512x512, .fp8e4m3⟩
  | .local _ .vmem, ⟨8, _⟩ => ⟨S512x512, .fp8e4m3⟩
  | .local _ .vmem, ⟨9, _⟩ => ⟨S512x512, .fp8e4m3⟩
  | .local _ .vmem, ⟨10, _⟩ => ⟨S512x512, .fp8e4m3⟩
  | .local _ .vmem, ⟨11, _⟩ => ⟨S512x512, .fp8e4m3⟩
  | .local _ .vmem, ⟨12, _⟩ => ⟨S1536x512, .bf16⟩
  | .local _ .vmem, ⟨13, _⟩ => ⟨S1536x512, .bf16⟩
  | .local _ .vmem, ⟨14, _⟩ => ⟨S1536x512, .bf16⟩
  | .local _ .vmem, ⟨15, _⟩ => ⟨S1536x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S1536x512, .f32⟩
  | .local _ .vmem, ⟨20, _⟩ => ⟨S1536x512, .f32⟩
  | .local _ .smem, ⟨0, _⟩ => ⟨S28x76, .f32⟩
  | .local _ .smem, ⟨1, _⟩ => ⟨S28x76, .f32⟩
  | .local _ .smem, ⟨2, _⟩ => ⟨S76x28, .f32⟩
  | _, _ => ⟨S28x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![7, 19], ![false, false]⟩

def k0_off1 (i : grid0.Coords) (c0_i32_2 : BitVec 32) (c0_i32_3 : BitVec 32) : Fin 2 → Nat :=
  let arg1 : BitVec 32 := BitVec.ofNat 32 (i 1).val
  let c4_i32_1 : BitVec 32 := 4#32
  let v4 : BitVec 32 := Scalar.muli arg1 c4_i32_1
  let v5 : BitVec 32 := Scalar.addi v4 c0_i32_2
  let v7 : Index := Scalar.indexCast v5
  let arg0 : BitVec 32 := BitVec.ofNat 32 (i 0).val
  let c4_i32 : BitVec 32 := 4#32
  let v3 : BitVec 32 := Scalar.muli arg0 c4_i32
  let v6 : BitVec 32 := Scalar.addi v3 c0_i32_3
  let v8 : Index := Scalar.indexCast v6
  ![v7.toNat, v8.toNat]
def k0_off2 (i : grid0.Coords) (c0_i32_91 : BitVec 32) (c0_i32_92 : BitVec 32) : Fin 2 → Nat :=
  let arg0 : BitVec 32 := BitVec.ofNat 32 (i 0).val
  let c4_i32 : BitVec 32 := 4#32
  let v3 : BitVec 32 := Scalar.muli arg0 c4_i32
  let v213 : BitVec 32 := Scalar.addi v3 c0_i32_91
  let v215 : Index := Scalar.indexCast v213
  let arg1 : BitVec 32 := BitVec.ofNat 32 (i 1).val
  let c4_i32_1 : BitVec 32 := 4#32
  let v4 : BitVec 32 := Scalar.muli arg1 c4_i32_1
  let v214 : BitVec 32 := Scalar.addi v4 c0_i32_92
  let v216 : Index := Scalar.indexCast v214
  ![v215.toNat, v216.toNat]
def k0_cond2 (i : grid0.Coords) : BitVec 1 :=
  let arg1 : BitVec 32 := BitVec.ofNat 32 (i 1).val
  let c18_i32 : BitVec 32 := 18#32
  let v653 : BitVec 1 := Scalar.cmpi .eq arg1 c18_i32
  let v654 : BitVec 32 := Scalar.extui v653
  let c0_i32_309 : BitVec 32 := 0#32
  let v655 : BitVec 1 := Scalar.cmpi .ne v654 c0_i32_309
  v655

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S28x76 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S28x76 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S76x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1536x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1536x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== TokenRefIdeal.lean ====
abbrev S28x76 : Shape := ⟨2, ![28, 76]⟩
abbrev S76x28 : Shape := ⟨2, ![76, 28]⟩
abbrev S1536x9728 : Shape := ⟨2, ![1536, 9728]⟩
abbrev S3584x9728 : Shape := ⟨2, ![3584, 9728]⟩
abbrev S9728x3584 : Shape := ⟨2, ![9728, 3584]⟩
abbrev S1536x3584 : Shape := ⟨2, ![1536, 3584]⟩
abbrev S28x128x76x128 : Shape := ⟨4, ![28, 128, 76, 128]⟩
abbrev S28x1x76x1 : Shape := ⟨4, ![28, 1, 76, 1]⟩
abbrev S76x128x28x128 : Shape := ⟨4, ![76, 128, 28, 128]⟩
abbrev S76x1x28x1 : Shape := ⟨4, ![76, 1, 28, 1]⟩

abbrev nBuf : Space → Nat
  | .hbm => 11
  | .vmem => 11
  | .smem => 0
  | _ => 0

abbrev bufTy : (tb : Table) → Fin (tcTables nBuf tb) → BufTy
  | .hbm, ⟨0, _⟩ => ⟨S28x76, .f32⟩
  | .hbm, ⟨1, _⟩ => ⟨S28x76, .f32⟩
  | .hbm, ⟨2, _⟩ => ⟨S76x28, .f32⟩
  | .hbm, ⟨3, _⟩ => ⟨S1536x9728, .bf16⟩
  | .hbm, ⟨4, _⟩ => ⟨S1536x9728, .bf16⟩
  | .hbm, ⟨5, _⟩ => ⟨S1536x9728, .bf16⟩
  | .hbm, ⟨6, _⟩ => ⟨S3584x9728, .fp8e4m3⟩
  | .hbm, ⟨7, _⟩ => ⟨S3584x9728, .fp8e4m3⟩
  | .hbm, ⟨8, _⟩ => ⟨S9728x3584, .fp8e4m3⟩
  | .hbm, ⟨9, _⟩ => ⟨S1536x3584, .bf16⟩
  | .hbm, ⟨10, _⟩ => ⟨S1536x3584, .bf16⟩
  | .local _ .vmem, ⟨0, _⟩ => ⟨S28x76, .f32⟩
  | .local _ .vmem, ⟨1, _⟩ => ⟨S28x76, .f32⟩
  | .local _ .vmem, ⟨2, _⟩ => ⟨S76x28, .f32⟩
  | .local _ .vmem, ⟨3, _⟩ => ⟨S1536x9728, .bf16⟩
  | .local _ .vmem, ⟨4, _⟩ => ⟨S1536x9728, .bf16⟩
  | .local _ .vmem, ⟨5, _⟩ => ⟨S1536x9728, .bf16⟩
  | .local _ .vmem, ⟨6, _⟩ => ⟨S3584x9728, .fp8e4m3⟩
  | .local _ .vmem, ⟨7, _⟩ => ⟨S3584x9728, .fp8e4m3⟩
  | .local _ .vmem, ⟨8, _⟩ => ⟨S9728x3584, .fp8e4m3⟩
  | .local _ .vmem, ⟨9, _⟩ => ⟨S1536x3584, .bf16⟩
  | .local _ .vmem, ⟨10, _⟩ => ⟨S1536x3584, .bf16⟩
  | _, _ => ⟨S28x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S28x76 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x76 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S76x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x9728 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x9728 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x9728 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x9728 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3584x9728 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9728x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x3584 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x3584 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Weight.lean ====
abbrev S12x128x9728 : Shape := ⟨3, ![12, 128, 9728]⟩
abbrev S12x1x9728 : Shape := ⟨3, ![12, 1, 9728]⟩
abbrev S3584x1536 : Shape := ⟨2, ![3584, 1536]⟩
abbrev S1536x3584 : Shape := ⟨2, ![1536, 3584]⟩
abbrev S3584x9728 : Shape := ⟨2, ![3584, 9728]⟩
abbrev S9728x3584 : Shape := ⟨2, ![9728, 3584]⟩
abbrev S12x128x512 : Shape := ⟨3, ![12, 128, 512]⟩
abbrev S12x1x512 : Shape := ⟨3, ![12, 1, 512]⟩
abbrev S896x1536 : Shape := ⟨2, ![896, 1536]⟩
abbrev S1536x896 : Shape := ⟨2, ![1536, 896]⟩
abbrev S896x512 : Shape := ⟨2, ![896, 512]⟩
abbrev S512x896 : Shape := ⟨2, ![512, 896]⟩
abbrev S512x1536 : Shape := ⟨2, ![512, 1536]⟩
abbrev S1536x512 : Shape := ⟨2, ![1536, 512]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩
abbrev S512x128 : Shape := ⟨2, ![512, 128]⟩

abbrev nBuf : Space → Nat
  | .hbm => 11
  | .vmem => 25
  | .smem => 0
  | _ => 0

abbrev bufTy : (tb : Table) → Fin (tcTables nBuf tb) → BufTy
  | .hbm, ⟨0, _⟩ => ⟨S12x128x9728, .fp8e4m3⟩
  | .hbm, ⟨1, _⟩ => ⟨S12x1x9728, .f32⟩
  | .hbm, ⟨2, _⟩ => ⟨S12x128x9728, .fp8e4m3⟩
  | .hbm, ⟨3, _⟩ => ⟨S12x1x9728, .f32⟩
  | .hbm, ⟨4, _⟩ => ⟨S12x128x9728, .fp8e4m3⟩
  | .hbm, ⟨5, _⟩ => ⟨S12x1x9728, .f32⟩
  | .hbm, ⟨6, _⟩ => ⟨S3584x1536, .bf16⟩
  | .hbm, ⟨7, _⟩ => ⟨S1536x3584, .bf16⟩
  | .hbm, ⟨8, _⟩ => ⟨S3584x9728, .f32⟩
  | .hbm, ⟨9, _⟩ => ⟨S3584x9728, .f32⟩
  | .hbm, ⟨10, _⟩ => ⟨S9728x3584, .f32⟩
  | .local _ .vmem, ⟨0, _⟩ => ⟨S12x128x512, .fp8e4m3⟩
  | .local _ .vmem, ⟨1, _⟩ => ⟨S12x128x512, .fp8e4m3⟩
  | .local _ .vmem, ⟨2, _⟩ => ⟨S12x1x512, .f32⟩
  | .local _ .vmem, ⟨3, _⟩ => ⟨S12x1x512, .f32⟩
  | .local _ .vmem, ⟨4, _⟩ => ⟨S12x128x512, .fp8e4m3⟩
  | .local _ .vmem, ⟨5, _⟩ => ⟨S12x128x512, .fp8e4m3⟩
  | .local _ .vmem, ⟨6, _⟩ => ⟨S12x1x512, .f32⟩
  | .local _ .vmem, ⟨7, _⟩ => ⟨S12x1x512, .f32⟩
  | .local _ .vmem, ⟨8, _⟩ => ⟨S12x128x512, .fp8e4m3⟩
  | .local _ .vmem, ⟨9, _⟩ => ⟨S12x128x512, .fp8e4m3⟩
  | .local _ .vmem, ⟨10, _⟩ => ⟨S12x1x512, .f32⟩
  | .local _ .vmem, ⟨11, _⟩ => ⟨S12x1x512, .f32⟩
  | .local _ .vmem, ⟨12, _⟩ => ⟨S896x1536, .bf16⟩
  | .local _ .vmem, ⟨13, _⟩ => ⟨S896x1536, .bf16⟩
  | .local _ .vmem, ⟨14, _⟩ => ⟨S1536x896, .bf16⟩
  | .local _ .vmem, ⟨15, _⟩ => ⟨S1536x896, .bf16⟩
  | .local _ .vmem, ⟨16, _⟩ => ⟨S896x512, .f32⟩
  | .local _ .vmem, ⟨17, _⟩ => ⟨S896x512, .f32⟩
  | .local _ .vmem, ⟨18, _⟩ => ⟨S896x512, .f32⟩
  | .local _ .vmem, ⟨19, _⟩ => ⟨S896x512, .f32⟩
  | .local _ .vmem, ⟨20, _⟩ => ⟨S512x896, .f32⟩
  | .local _ .vmem, ⟨21, _⟩ => ⟨S512x896, .f32⟩
  | .local _ .vmem, ⟨22, _⟩ => ⟨S512x1536, .bf16⟩
  | .local _ .vmem, ⟨23, _⟩ => ⟨S1536x512, .bf16⟩
  | .local _ .vmem, ⟨24, _⟩ => ⟨S1536x512, .bf16⟩
  | _, _ => ⟨S12x128x9728, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![19, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S12x128x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S12x128x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S12x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S12x128x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S12x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S896x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1536x896 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S896x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S896x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== WeightRefIdeal.lean ====
abbrev S12x128x9728 : Shape := ⟨3, ![12, 128, 9728]⟩
abbrev S12x1x9728 : Shape := ⟨3, ![12, 1, 9728]⟩
abbrev S3584x1536 : Shape := ⟨2, ![3584, 1536]⟩
abbrev S1536x3584 : Shape := ⟨2, ![1536, 3584]⟩
abbrev S3584x9728 : Shape := ⟨2, ![3584, 9728]⟩
abbrev S9728x3584 : Shape := ⟨2, ![9728, 3584]⟩
abbrev S12x1x128x9728 : Shape := ⟨4, ![12, 1, 128, 9728]⟩
abbrev S12x1x1x9728 : Shape := ⟨4, ![12, 1, 1, 9728]⟩
abbrev S1536x9728 : Shape := ⟨2, ![1536, 9728]⟩

abbrev nBuf : Space → Nat
  | .hbm => 11
  | .vmem => 11
  | .smem => 0
  | _ => 0

abbrev bufTy : (tb : Table) → Fin (tcTables nBuf tb) → BufTy
  | .hbm, ⟨0, _⟩ => ⟨S12x128x9728, .fp8e4m3⟩
  | .hbm, ⟨1, _⟩ => ⟨S12x1x9728, .f32⟩
  | .hbm, ⟨2, _⟩ => ⟨S12x128x9728, .fp8e4m3⟩
  | .hbm, ⟨3, _⟩ => ⟨S12x1x9728, .f32⟩
  | .hbm, ⟨4, _⟩ => ⟨S12x128x9728, .fp8e4m3⟩
  | .hbm, ⟨5, _⟩ => ⟨S12x1x9728, .f32⟩
  | .hbm, ⟨6, _⟩ => ⟨S3584x1536, .bf16⟩
  | .hbm, ⟨7, _⟩ => ⟨S1536x3584, .bf16⟩
  | .hbm, ⟨8, _⟩ => ⟨S3584x9728, .f32⟩
  | .hbm, ⟨9, _⟩ => ⟨S3584x9728, .f32⟩
  | .hbm, ⟨10, _⟩ => ⟨S9728x3584, .f32⟩
  | .local _ .vmem, ⟨0, _⟩ => ⟨S12x128x9728, .fp8e4m3⟩
  | .local _ .vmem, ⟨1, _⟩ => ⟨S12x1x9728, .f32⟩
  | .local _ .vmem, ⟨2, _⟩ => ⟨S12x128x9728, .fp8e4m3⟩
  | .local _ .vmem, ⟨3, _⟩ => ⟨S12x1x9728, .f32⟩
  | .local _ .vmem, ⟨4, _⟩ => ⟨S12x128x9728, .fp8e4m3⟩
  | .local _ .vmem, ⟨5, _⟩ => ⟨S12x1x9728, .f32⟩
  | .local _ .vmem, ⟨6, _⟩ => ⟨S3584x1536, .bf16⟩
  | .local _ .vmem, ⟨7, _⟩ => ⟨S1536x3584, .bf16⟩
  | .local _ .vmem, ⟨8, _⟩ => ⟨S3584x9728, .f32⟩
  | .local _ .vmem, ⟨9, _⟩ => ⟨S3584x9728, .f32⟩
  | .local _ .vmem, ⟨10, _⟩ => ⟨S9728x3584, .f32⟩
  | _, _ => ⟨S12x128x9728, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S12x128x9728 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x1x9728 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x128x9728 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x1x9728 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x128x9728 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x1x9728 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3584x9728 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3584x9728 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S9728x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.GateRuns.lean ====
/- What the run of the gate call's body is stated over (program `Gate`): the arrays the region finds, the input blocks,
   the branch conditions, the scratch and staging buffers, and the frame from a run of the pipeline. -/
module

public import proofs.«01_k».proof.Proof.Gen.Gate.Launch
public import proofs.«01_k».proof.Proof.Gen.Gate.Skeleton
public import proofs.«01_k».proof.Proof.Gen.Gate.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Gate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Gate`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The kernel body on any staging memrefs: a subtype the run finds -/

/-- One staging buffer of output window 8, through which its contents are stated (`View.read_writes_of_cover`: the
    choice does not matter). -/
abbrev VO0_8 : View sig .tc .vmem S12x128x256 .fp8e4m3 := (Memref.whole cc0_stg8_0 : Memref sig .tc .vmem S12x128x256 .fp8e4m3).view
/-- One staging buffer of output window 10, through which its contents are stated (`View.read_writes_of_cover`: the
    choice does not matter). -/
abbrev VO0_10 : View sig .tc .vmem S12x128x256 .fp8e4m3 := (Memref.whole cc0_stg10_0 : Memref sig .tc .vmem S12x128x256 .fp8e4m3).view
/-- One staging buffer of output window 11, through which its contents are stated (`View.read_writes_of_cover`: the
    choice does not matter). -/
abbrev VO0_11 : View sig .tc .vmem S12x1x256 .f32 := (Memref.whole cc0_stg11_0 : Memref sig .tc .vmem S12x1x256 .f32).view
/-- One staging buffer of output window 12, through which its contents are stated (`View.read_writes_of_cover`: the
    choice does not matter). -/
abbrev VO0_12 : View sig .tc .vmem S12x128x256 .fp8e4m3 := (Memref.whole cc0_stg12_0 : Memref sig .tc .vmem S12x128x256 .fp8e4m3).view
/-- One staging buffer of output window 14, through which its contents are stated (`View.read_writes_of_cover`: the
    choice does not matter). -/
abbrev VO0_14 : View sig .tc .vmem S12x128x256 .fp8e4m3 := (Memref.whole cc0_stg14_0 : Memref sig .tc .vmem S12x128x256 .fp8e4m3).view
/-- One staging buffer of output window 16, through which its contents are stated (`View.read_writes_of_cover`: the
    choice does not matter). -/
abbrev VO0_16 : View sig .tc .vmem S12x128x256 .fp8e4m3 := (Memref.whole cc0_stg16_0 : Memref sig .tc .vmem S12x128x256 .fp8e4m3).view
/-- One staging buffer of output window 17, through which its contents are stated (`View.read_writes_of_cover`: the
    choice does not matter). -/
abbrev VO0_17 : View sig .tc .vmem S12x1x256 .f32 := (Memref.whole cc0_stg17_0 : Memref sig .tc .vmem S12x1x256 .f32).view
/-- One staging buffer of output window 18, through which its contents are stated (`View.read_writes_of_cover`: the
    choice does not matter). -/
abbrev VO0_18 : View sig .tc .vmem S12x128x256 .fp8e4m3 := (Memref.whole cc0_stg18_0 : Memref sig .tc .vmem S12x128x256 .fp8e4m3).view
/-- One staging buffer of output window 19, through which its contents are stated (`View.read_writes_of_cover`: the
    choice does not matter). -/
abbrev VO0_19 : View sig .tc .vmem S12x1x256 .f32 := (Memref.whole cc0_stg19_0 : Memref sig .tc .vmem S12x1x256 .f32).view
/-- One staging buffer of output window 20, through which its contents are stated (`View.read_writes_of_cover`: the
    choice does not matter). -/
abbrev VO0_20 : View sig .tc .vmem S1536x256 .bf16 := (Memref.whole cc0_stg20_0 : Memref sig .tc .vmem S1536x256 .bf16).view
/-- One staging buffer of output window 21, through which its contents are stated (`View.read_writes_of_cover`: the
    choice does not matter). -/
abbrev VO0_21 : View sig .tc .vmem S1536x256 .bf16 := (Memref.whole cc0_stg21_0 : Memref sig .tc .vmem S1536x256 .bf16).view
/-- One staging buffer of output window 22, through which its contents are stated (`View.read_writes_of_cover`: the
    choice does not matter). -/
abbrev VO0_22 : View sig .tc .vmem S1536x256 .bf16 := (Memref.whole cc0_stg22_0 : Memref sig .tc .vmem S1536x256 .bf16).view
/-- Each window's current staging memref at point `t`, spelled as the pipeline passes it (`bodyAt0`), and its wholeness. -/
abbrev ms0_0 (t : Fin cfg0.N) : Memref sig .tc .smem S28x76 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S28x76 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S76x28 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x3584 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x3584 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3584x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3584x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x3584 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12x128x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S12x128x76 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S12x128x256 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S12x1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S12x128x256 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S12x128x76 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S12x128x256 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S12x128x76 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S12x128x256 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S12x1x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S12x128x256 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S12x1x256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1536x256 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1536x256 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1536x256 .bf16 := win0_22.stage (cfg0.slots t 22)
abbrev hs0_22 (t : Fin cfg0.N) : (ms0_22 t).IsWhole := hstage0_22 ((cfg0.slots t 22).cast nbuf0_22)
/-- The scratch operands: whole scoped buffers of the kernel's own, passed beside the windows. -/
abbrev scM0_0 : Memref sig .tc .vmem S3584x256 .bf16 := Memref.whole cc0_scratch0
abbrev scM0_1 : Memref sig .tc .vmem S3584x256 .bf16 := Memref.whole cc0_scratch1
abbrev scM0_2 : Memref sig .tc .vmem S256x3584 .bf16 := Memref.whole cc0_scratch2
abbrev scM0_3 : Memref sig .tc .vmem S384x256 .f32 := Memref.whole cc0_scratch3
abbrev scM0_4 : Memref sig .tc .vmem S384x256 .f32 := Memref.whole cc0_scratch4
abbrev scM0_5 : Memref sig .tc .vmem S384x256 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Gate.Gen

end
-- ==== Proof.GateRun.lean ====
/- The run of the gate call's whole body (program `Gate`) at one grid point: the body's triple, found by executing it, with
   the pieces each buffer ends with as the witness. -/
module

public import proofs.«01_k».proof.Proof.GateRuns

@[expose] public section

-- membership in a rectangle of production extents (`View.cover_of_tiled`): the elaborator's structural look
-- recurses once per coordinate of the long axes
set_option maxRecDepth 16384

noncomputable section

namespace Cert.Gate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 11996000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). Here also the FORGOTTEN outputs' (9, 13, 15) at anything, handed back at some contents nothing names. -/
noncomputable def kernelRun0_A (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) :
    Σ' (L8 : List (View.Piece (Elt F) S12x128x256 .fp8e4m3)), Σ' (L10 : List (View.Piece (Elt F) S12x128x256 .fp8e4m3)), Σ' (L11 : List (View.Piece (Elt F) S12x1x256 .f32)), Σ' (L12 : List (View.Piece (Elt F) S12x128x256 .fp8e4m3)), Σ' (L14 : List (View.Piece (Elt F) S12x128x256 .fp8e4m3)), Σ' (L16 : List (View.Piece (Elt F) S12x128x256 .fp8e4m3)), Σ' (L17 : List (View.Piece (Elt F) S12x1x256 .f32)), Σ' (L18 : List (View.Piece (Elt F) S12x128x256 .fp8e4m3)), Σ' (L19 : List (View.Piece (Elt F) S12x1x256 .f32)), Σ' (L20 : List (View.Piece (Elt F) S1536x256 .bf16)), Σ' (L21 : List (View.Piece (Elt F) S1536x256 .bf16)), Σ' (L22 : List (View.Piece (Elt F) S1536x256 .bf16)), Σ' (LT0 : List (View.Piece (Elt F) S3584x256 .bf16)), Σ' (LT1 : List (View.Piece (Elt F) S3584x256 .bf16)), Σ' (LT2 : List (View.Piece (Elt F) S256x3584 .bf16)), Σ' (LT3 : List (View.Piece (Elt F) S384x256 .f32)), Σ' (LT4 : List (View.Piece (Elt F) S384x256 .f32)), { LT5 : List (View.Piece (Elt F) S384x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ d, owns (c : Thread nD τ) arg14 fullShare d) ∗ (∃ f, arg15.view.loc (c : Thread nD τ) ↦[arg15.view.set]{fullShare} arg15.view.writes (Elt F) f L14) ∗ (∃ d, owns (c : Thread nD τ) arg16 fullShare d) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LT0) ∗ (∃ f, arg25.view.loc (c : Thread nD τ) ↦[arg25.view.set]{fullShare} arg25.view.writes (Elt F) f LT1) ∗ (∃ f, arg26.view.loc (c : Thread nD τ) ↦[arg26.view.set]{fullShare} arg26.view.writes (Elt F) f LT2) ∗ (∃ f, arg27.view.loc (c : Thread nD τ) ↦[arg27.view.set]{fullShare} arg27.view.writes (Elt F) f LT3) ∗ (∃ f, arg28.view.loc (c : Thread nD τ) ↦[arg28.view.set]{fullShare} arg28.view.writes (Elt F) f LT4) ∗ (∃ f, arg29.view.loc (c : Thread nD τ) ↦[arg29.view.set]{fullShare} arg29.view.writes (Elt F) f LT5)) -∗ K ⟨⟩))
          ⊢ wp frame (wpE (defs₀ (F := F)) Variants.none c none) E (cc0_gate i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, ?_, ?_, ?_, ?_, ?_, fun E K => ?run⟩
  case run =>
    simp only [cc0_gate_eq_skeleton]; unfold cc0_gate_skel
    simp only [k0_part211_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part212_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part213_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part214_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _, _; isplitr; swap; · iexact H9
      ipureintro; rfl
    isplitl [H10]; · iexists _; iexact H10
    isplitl [H11]; · iexists _; iexact H11
    isplitl [H12]; · iexists _; iexact H12
    isplitl [H13]
    · iexists _, _; isplitr; swap; · iexact H13
      ipureintro; rfl
    isplitl [H14]; · iexists _; iexact H14
    isplitl [H15]
    · iexists _, _; isplitr; swap; · iexact H15
      ipureintro; rfl
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Gate.Gen

end
-- ==== Proof.GateFrame.lean ====
/- The frame of the gate call (program `Gate`). Of its fifteen outputs twelve are named: what they hold is the body's stores
   read back, point by point. Output windows 9, 13 and 15 (the row scales) are forgotten: the body reads each of them back
   before it stores it again; the frame needs nothing of what they hold. -/
module

public import proofs.«01_k».proof.Proof.GateRun
public import Idealize.ShloMosaic.Lib.Claim

@[expose] public section

-- membership in a rectangle of production extents (`View.cover_of_tiled`): the elaborator's structural look
-- recurses once per coordinate of the long axes
set_option maxRecDepth 16384

noncomputable section

namespace Cert.Gate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block (24 stores of `S1x128x128`, checked by the kernel's evaluation: Lib/Ring.lean `Piece.tiledL`, linear in the pieces, through a loop's `@[irreducible]` trip theorem too), so they cover it. -/
theorem cover0_A_8 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).1 S1x128x128.size (by sl_kernel_rfl) y

/-- What the run leaves in output 8's staging buffer: its pieces read back over junk. -/
def out0_A_8 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x128x256 .fp8e4m3 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).1)

/-- The run's pieces for output 10 tile its block (24 stores of `S1x128x128`, checked by the kernel's evaluation: Lib/Ring.lean `Piece.tiledL`, linear in the pieces, through a loop's `@[irreducible]` trip theorem too), so they cover it. -/
theorem cover0_A_10 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.1 S1x128x128.size (by sl_kernel_rfl) y

/-- What the run leaves in output 10's staging buffer: its pieces read back over junk. -/
def out0_A_10 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x128x256 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.1)

/-- The run's pieces for output 11 tile its block (24 stores of `S1x1x128`, checked by the kernel's evaluation: Lib/Ring.lean `Piece.tiledL`, linear in the pieces, through a loop's `@[irreducible]` trip theorem too), so they cover it. -/
theorem cover0_A_11 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.1 S1x1x128.size (by sl_kernel_rfl) y

/-- What the run leaves in output 11's staging buffer: its pieces read back over junk. -/
def out0_A_11 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x1x256 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.1)

/-- The run's pieces for output 12 tile its block (24 stores of `S1x128x128`, checked by the kernel's evaluation: Lib/Ring.lean `Piece.tiledL`, linear in the pieces, through a loop's `@[irreducible]` trip theorem too), so they cover it. -/
theorem cover0_A_12 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.1 S1x128x128.size (by sl_kernel_rfl) y

/-- What the run leaves in output 12's staging buffer: its pieces read back over junk. -/
def out0_A_12 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x128x256 .fp8e4m3 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.1)

/-- The run's pieces for output 14 tile its block (24 stores of `S1x128x128`, checked by the kernel's evaluation: Lib/Ring.lean `Piece.tiledL`, linear in the pieces, through a loop's `@[irreducible]` trip theorem too), so they cover it. -/
theorem cover0_A_14 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.1 S1x128x128.size (by sl_kernel_rfl) y

/-- What the run leaves in output 14's staging buffer: its pieces read back over junk. -/
def out0_A_14 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x128x256 .fp8e4m3 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.1)

/-- The run's pieces for output 16 tile its block (24 stores of `S1x128x128`, checked by the kernel's evaluation: Lib/Ring.lean `Piece.tiledL`, linear in the pieces, through a loop's `@[irreducible]` trip theorem too), so they cover it. -/
theorem cover0_A_16 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.1 S1x128x128.size (by sl_kernel_rfl) y

/-- What the run leaves in output 16's staging buffer: its pieces read back over junk. -/
def out0_A_16 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x128x256 .fp8e4m3 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.1)

/-- The run's pieces for output 17 tile its block (24 stores of `S1x1x128`, checked by the kernel's evaluation: Lib/Ring.lean `Piece.tiledL`, linear in the pieces, through a loop's `@[irreducible]` trip theorem too), so they cover it. -/
theorem cover0_A_17 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.1 S1x1x128.size (by sl_kernel_rfl) y

/-- What the run leaves in output 17's staging buffer: its pieces read back over junk. -/
def out0_A_17 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x1x256 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.1)

/-- The run's pieces for output 18 tile its block (24 stores of `S1x128x128`, checked by the kernel's evaluation: Lib/Ring.lean `Piece.tiledL`, linear in the pieces, through a loop's `@[irreducible]` trip theorem too), so they cover it. -/
theorem cover0_A_18 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.1 S1x128x128.size (by sl_kernel_rfl) y

/-- What the run leaves in output 18's staging buffer: its pieces read back over junk. -/
def out0_A_18 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x128x256 .fp8e4m3 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.1)

/-- The run's pieces for output 19 tile its block (24 stores of `S1x1x128`, checked by the kernel's evaluation: Lib/Ring.lean `Piece.tiledL`, linear in the pieces, through a loop's `@[irreducible]` trip theorem too), so they cover it. -/
theorem cover0_A_19 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.1 S1x1x128.size (by sl_kernel_rfl) y

/-- What the run leaves in output 19's staging buffer: its pieces read back over junk. -/
def out0_A_19 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x1x256 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.1)

/-- The run's pieces for output 20 tile its block (24 stores of `S128x128`, checked by the kernel's evaluation: Lib/Ring.lean `Piece.tiledL`, linear in the pieces, through a loop's `@[irreducible]` trip theorem too), so they cover it. -/
theorem cover0_A_20 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.1 S128x128.size (by sl_kernel_rfl) y

/-- What the run leaves in output 20's staging buffer: its pieces read back over junk. -/
def out0_A_20 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S1536x256 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.1)

/-- The run's pieces for output 21 tile its block (24 stores of `S128x128`, checked by the kernel's evaluation: Lib/Ring.lean `Piece.tiledL`, linear in the pieces, through a loop's `@[irreducible]` trip theorem too), so they cover it. -/
theorem cover0_A_21 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.2.1 S128x128.size (by sl_kernel_rfl) y

/-- What the run leaves in output 21's staging buffer: its pieces read back over junk. -/
def out0_A_21 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S1536x256 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.2.1)

/-- The run's pieces for output 22 tile its block (24 stores of `S128x128`, checked by the kernel's evaluation: Lib/Ring.lean `Piece.tiledL`, linear in the pieces, through a loop's `@[irreducible]` trip theorem too), so they cover it. -/
theorem cover0_A_22 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.2.2.1 S128x128.size (by sl_kernel_rfl) y

/-- What the run leaves in output 22's staging buffer: its pieces read back over junk. -/
def out0_A_22 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S1536x256 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S12x128x256 .fp8e4m3 × Vec F S12x128x256 .fp8e4m3 × Vec F S12x1x256 .f32 × Vec F S12x128x256 .fp8e4m3 × Vec F S12x128x256 .fp8e4m3 × Vec F S12x128x256 .fp8e4m3 × Vec F S12x1x256 .f32 × Vec F S12x128x256 .fp8e4m3 × Vec F S12x1x256 .f32 × Vec F S1536x256 .bf16 × Vec F S1536x256 .bf16 × Vec F S1536x256 .bf16 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t))

/-! ## The pipeline's proof data -/

/-- The output windows this certificate FORGETS (9, 13, 15): the frame needs nothing of what the kernel leaves in them, so nothing
    of it is named (Lib/Pipeline/Dat.lean `Dat.toRForget`). -/
def forgets0 : Fin 23 → Bool := fun w => w.val == 9 || w.val == 13 || w.val == 15
theorem forgets0_8 : forgets0 (8 : Fin 23) = false := by decide
theorem forgets0_10 : forgets0 (10 : Fin 23) = false := by decide
theorem forgets0_11 : forgets0 (11 : Fin 23) = false := by decide
theorem forgets0_12 : forgets0 (12 : Fin 23) = false := by decide
theorem forgets0_14 : forgets0 (14 : Fin 23) = false := by decide
theorem forgets0_16 : forgets0 (16 : Fin 23) = false := by decide
theorem forgets0_17 : forgets0 (17 : Fin 23) = false := by decide
theorem forgets0_18 : forgets0 (18 : Fin 23) = false := by decide
theorem forgets0_19 : forgets0 (19 : Fin 23) = false := by decide
theorem forgets0_20 : forgets0 (20 : Fin 23) = false := by decide
theorem forgets0_21 : forgets0 (21 : Fin 23) = false := by decide
theorem forgets0_22 : forgets0 (22 : Fin 23) = false := by decide

/-- The proof data of the one pipeline on core `c`: the arrays as the region finds them (`V`); after the body at
    point `t` each input's buffer at its block and the NAMED outputs' at `outsAt0` (the forgotten at `Dat.unnamed`); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t).1
    | ⟨9, h⟩ => Pipeline.Dat.unnamed (cfg := cfg0) ⟨9, h⟩ t
    | ⟨10, _⟩ => (outsAt0 m c t).2.1
    | ⟨11, _⟩ => (outsAt0 m c t).2.2.1
    | ⟨12, _⟩ => (outsAt0 m c t).2.2.2.1
    | ⟨13, h⟩ => Pipeline.Dat.unnamed (cfg := cfg0) ⟨13, h⟩ t
    | ⟨14, _⟩ => (outsAt0 m c t).2.2.2.2.1
    | ⟨15, h⟩ => Pipeline.Dat.unnamed (cfg := cfg0) ⟨15, h⟩ t
    | ⟨16, _⟩ => (outsAt0 m c t).2.2.2.2.2.1
    | ⟨17, _⟩ => (outsAt0 m c t).2.2.2.2.2.2.1
    | ⟨18, _⟩ => (outsAt0 m c t).2.2.2.2.2.2.2.1
    | ⟨19, _⟩ => (outsAt0 m c t).2.2.2.2.2.2.2.2.1
    | ⟨20, _⟩ => (outsAt0 m c t).2.2.2.2.2.2.2.2.2.1
    | ⟨21, _⟩ => (outsAt0 m c t).2.2.2.2.2.2.2.2.2.2.1
    | ⟨22, _⟩ => (outsAt0 m c t).2.2.2.2.2.2.2.2.2.2.2
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t).1 := by dsimp only [dats]
theorem after0_10 (c : Dev nD) (t : Fin cfg0.N) : (dats m 0 c).after 10 t = (outsAt0 m c t).2.1 := by dsimp only [dats]
theorem after0_11 (c : Dev nD) (t : Fin cfg0.N) : (dats m 0 c).after 11 t = (outsAt0 m c t).2.2.1 := by dsimp only [dats]
theorem after0_12 (c : Dev nD) (t : Fin cfg0.N) : (dats m 0 c).after 12 t = (outsAt0 m c t).2.2.2.1 := by dsimp only [dats]
theorem after0_14 (c : Dev nD) (t : Fin cfg0.N) : (dats m 0 c).after 14 t = (outsAt0 m c t).2.2.2.2.1 := by dsimp only [dats]
theorem after0_16 (c : Dev nD) (t : Fin cfg0.N) : (dats m 0 c).after 16 t = (outsAt0 m c t).2.2.2.2.2.1 := by dsimp only [dats]
theorem after0_17 (c : Dev nD) (t : Fin cfg0.N) : (dats m 0 c).after 17 t = (outsAt0 m c t).2.2.2.2.2.2.1 := by dsimp only [dats]
theorem after0_18 (c : Dev nD) (t : Fin cfg0.N) : (dats m 0 c).after 18 t = (outsAt0 m c t).2.2.2.2.2.2.2.1 := by dsimp only [dats]
theorem after0_19 (c : Dev nD) (t : Fin cfg0.N) : (dats m 0 c).after 19 t = (outsAt0 m c t).2.2.2.2.2.2.2.2.1 := by dsimp only [dats]
theorem after0_20 (c : Dev nD) (t : Fin cfg0.N) : (dats m 0 c).after 20 t = (outsAt0 m c t).2.2.2.2.2.2.2.2.2.1 := by dsimp only [dats]
theorem after0_21 (c : Dev nD) (t : Fin cfg0.N) : (dats m 0 c).after 21 t = (outsAt0 m c t).2.2.2.2.2.2.2.2.2.2.1 := by dsimp only [dats]
theorem after0_22 (c : Dev nD) (t : Fin cfg0.N) : (dats m 0 c).after 22 t = (outsAt0 m c t).2.2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ owns (c : Thread nD τ) (ms0_14 t) fullShare ((dats m 0 c).after 14 t)
    ∗ (∃ d, owns (c : Thread nD τ) (ms0_15 t) fullShare d)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_10, after0_11, after0_12, after0_14, after0_16, after0_17, after0_18, after0_19, after0_20, after0_21, after0_22]
  rw [show (dats m 0 c).Φ t.castSucc = Pipeline.ΦA spec0 c from rfl, PhiA0_eq]
  unfold outsAt0
  unfold out0_A_8 out0_A_10 out0_A_11 out0_A_12 out0_A_14 out0_A_16 out0_A_17 out0_A_18 out0_A_19 out0_A_20 out0_A_21 out0_A_22; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%e8, H8⟩, H9, ⟨%e10, H10⟩, ⟨%e11, H11⟩, ⟨%e12, H12⟩, H13, ⟨%e14, H14⟩, H15, ⟨%e16, H16⟩, ⟨%e17, H17⟩, ⟨%e18, H18⟩, ⟨%e19, H19⟩, ⟨%e20, H20⟩, ⟨%e21, H21⟩, ⟨%e22, H22⟩, ⟨%fT0, HS0⟩, ⟨%fT1, HS1⟩, ⟨%fT2, HS2⟩, ⟨%fT3, HS3⟩, ⟨%fT4, HS4⟩, ⟨%fT5, HS5⟩⟩
  isplitl [HS0 HS1 HS2 HS3 HS4 HS5 Hg]
  · isplitl [HS0 HS1 HS2 HS3 HS4 HS5]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H9]; · iexact H9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]; · iexact H15
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 13, 15) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Gate`'s statement (Defs.lean) at any `F` — Proof.lean cites it at `Bits`:
    `theorem Cert.Proof.claim : Cert.Claim := ⟨Cert.Gate.Gen.facts, fun m ρ _ => Cert.Gate.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Gate.Gen

end
-- ==== Proof.GateIdealRuns.lean ====
/- What the run of the gate call's body is stated over (program `GateIdeal`): the arrays the region finds, the input blocks,
   the branch conditions, the scratch and staging buffers, and the frame from a run of the pipeline. -/
module

public import proofs.«01_k».proof.Proof.Gen.GateIdeal.Launch
public import proofs.«01_k».proof.Proof.Gen.GateIdeal.Skeleton
public import proofs.«01_k».proof.Proof.Gen.GateIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.GateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_GateIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The kernel body on any staging memrefs: a subtype the run finds -/

/-- One staging buffer of output window 8, through which its contents are stated (`View.read_writes_of_cover`: the
    choice does not matter). -/
abbrev VO0_8 : View sig .tc .vmem S12x128x256 .fp8e4m3 := (Memref.whole cc0_stg8_0 : Memref sig .tc .vmem S12x128x256 .fp8e4m3).view
/-- One staging buffer of output window 10, through which its contents are stated (`View.read_writes_of_cover`: the
    choice does not matter). -/
abbrev VO0_10 : View sig .tc .vmem S12x128x256 .fp8e4m3 := (Memref.whole cc0_stg10_0 : Memref sig .tc .vmem S12x128x256 .fp8e4m3).view
/-- One staging buffer of output window 11, through which its contents are stated (`View.read_writes_of_cover`: the
    choice does not matter). -/
abbrev VO0_11 : View sig .tc .vmem S12x1x256 .f32 := (Memref.whole cc0_stg11_0 : Memref sig .tc .vmem S12x1x256 .f32).view
/-- One staging buffer of output window 12, through which its contents are stated (`View.read_writes_of_cover`: the
    choice does not matter). -/
abbrev VO0_12 : View sig .tc .vmem S12x128x256 .fp8e4m3 := (Memref.whole cc0_stg12_0 : Memref sig .tc .vmem S12x128x256 .fp8e4m3).view
/-- One staging buffer of output window 14, through which its contents are stated (`View.read_writes_of_cover`: the
    choice does not matter). -/
abbrev VO0_14 : View sig .tc .vmem S12x128x256 .fp8e4m3 := (Memref.whole cc0_stg14_0 : Memref sig .tc .vmem S12x128x256 .fp8e4m3).view
/-- One staging buffer of output window 16, through which its contents are stated (`View.read_writes_of_cover`: the
    choice does not matter). -/
abbrev VO0_16 : View sig .tc .vmem S12x128x256 .fp8e4m3 := (Memref.whole cc0_stg16_0 : Memref sig .tc .vmem S12x128x256 .fp8e4m3).view
/-- One staging buffer of output window 17, through which its contents are stated (`View.read_writes_of_cover`: the
    choice does not matter). -/
abbrev VO0_17 : View sig .tc .vmem S12x1x256 .f32 := (Memref.whole cc0_stg17_0 : Memref sig .tc .vmem S12x1x256 .f32).view
/-- One staging buffer of output window 18, through which its contents are stated (`View.read_writes_of_cover`: the
    choice does not matter). -/
abbrev VO0_18 : View sig .tc .vmem S12x128x256 .fp8e4m3 := (Memref.whole cc0_stg18_0 : Memref sig .tc .vmem S12x128x256 .fp8e4m3).view
/-- One staging buffer of output window 19, through which its contents are stated (`View.read_writes_of_cover`: the
    choice does not matter). -/
abbrev VO0_19 : View sig .tc .vmem S12x1x256 .f32 := (Memref.whole cc0_stg19_0 : Memref sig .tc .vmem S12x1x256 .f32).view
/-- One staging buffer of output window 20, through which its contents are stated (`View.read_writes_of_cover`: the
    choice does not matter). -/
abbrev VO0_20 : View sig .tc .vmem S1536x256 .bf16 := (Memref.whole cc0_stg20_0 : Memref sig .tc .vmem S1536x256 .bf16).view
/-- One staging buffer of output window 21, through which its contents are stated (`View.read_writes_of_cover`: the
    choice does not matter). -/
abbrev VO0_21 : View sig .tc .vmem S1536x256 .bf16 := (Memref.whole cc0_stg21_0 : Memref sig .tc .vmem S1536x256 .bf16).view
/-- One staging buffer of output window 22, through which its contents are stated (`View.read_writes_of_cover`: the
    choice does not matter). -/
abbrev VO0_22 : View sig .tc .vmem S1536x256 .bf16 := (Memref.whole cc0_stg22_0 : Memref sig .tc .vmem S1536x256 .bf16).view
/-- Each window's current staging memref at point `t`, spelled as the pipeline passes it (`bodyAt0`), and its wholeness. -/
abbrev ms0_0 (t : Fin cfg0.N) : Memref sig .tc .smem S28x76 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S28x76 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S76x28 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x3584 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x3584 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3584x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3584x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x3584 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12x128x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S12x128x76 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S12x128x256 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S12x1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S12x128x256 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S12x128x76 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S12x128x256 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S12x128x76 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S12x128x256 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S12x1x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S12x128x256 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S12x1x256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1536x256 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1536x256 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1536x256 .bf16 := win0_22.stage (cfg0.slots t 22)
abbrev hs0_22 (t : Fin cfg0.N) : (ms0_22 t).IsWhole := hstage0_22 ((cfg0.slots t 22).cast nbuf0_22)
/-- The scratch operands: whole scoped buffers of the kernel's own, passed beside the windows. -/
abbrev scM0_0 : Memref sig .tc .vmem S3584x256 .bf16 := Memref.whole cc0_scratch0
abbrev scM0_1 : Memref sig .tc .vmem S3584x256 .bf16 := Memref.whole cc0_scratch1
abbrev scM0_2 : Memref sig .tc .vmem S256x3584 .bf16 := Memref.whole cc0_scratch2
abbrev scM0_3 : Memref sig .tc .vmem S384x256 .f32 := Memref.whole cc0_scratch3
abbrev scM0_4 : Memref sig .tc .vmem S384x256 .f32 := Memref.whole cc0_scratch4
abbrev scM0_5 : Memref sig .tc .vmem S384x256 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.GateIdeal.Gen

end
-- ==== Proof.GateIdealRun.lean ====
/- The run of the gate call's whole body (program `GateIdeal`) at one grid point: the body's triple, found by executing it, with
   the pieces each buffer ends with as the witness. -/
module

public import proofs.«01_k».proof.Proof.GateIdealRuns

@[expose] public section

-- membership in a rectangle of production extents (`View.cover_of_tiled`): the elaborator's structural look
-- recurses once per coordinate of the long axes
set_option maxRecDepth 16384

noncomputable section

namespace Cert.GateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 11996000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). Here also the FORGOTTEN outputs' (9, 13, 15) at anything, handed back at some contents nothing names. -/
noncomputable def kernelRun0_A (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) :
    Σ' (L8 : List (View.Piece (Elt F) S12x128x256 .fp8e4m3)), Σ' (L10 : List (View.Piece (Elt F) S12x128x256 .fp8e4m3)), Σ' (L11 : List (View.Piece (Elt F) S12x1x256 .f32)), Σ' (L12 : List (View.Piece (Elt F) S12x128x256 .fp8e4m3)), Σ' (L14 : List (View.Piece (Elt F) S12x128x256 .fp8e4m3)), Σ' (L16 : List (View.Piece (Elt F) S12x128x256 .fp8e4m3)), Σ' (L17 : List (View.Piece (Elt F) S12x1x256 .f32)), Σ' (L18 : List (View.Piece (Elt F) S12x128x256 .fp8e4m3)), Σ' (L19 : List (View.Piece (Elt F) S12x1x256 .f32)), Σ' (L20 : List (View.Piece (Elt F) S1536x256 .bf16)), Σ' (L21 : List (View.Piece (Elt F) S1536x256 .bf16)), Σ' (L22 : List (View.Piece (Elt F) S1536x256 .bf16)), Σ' (LT0 : List (View.Piece (Elt F) S3584x256 .bf16)), Σ' (LT1 : List (View.Piece (Elt F) S3584x256 .bf16)), Σ' (LT2 : List (View.Piece (Elt F) S256x3584 .bf16)), Σ' (LT3 : List (View.Piece (Elt F) S384x256 .f32)), Σ' (LT4 : List (View.Piece (Elt F) S384x256 .f32)), { LT5 : List (View.Piece (Elt F) S384x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ d, owns (c : Thread nD τ) arg14 fullShare d) ∗ (∃ f, arg15.view.loc (c : Thread nD τ) ↦[arg15.view.set]{fullShare} arg15.view.writes (Elt F) f L14) ∗ (∃ d, owns (c : Thread nD τ) arg16 fullShare d) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LT0) ∗ (∃ f, arg25.view.loc (c : Thread nD τ) ↦[arg25.view.set]{fullShare} arg25.view.writes (Elt F) f LT1) ∗ (∃ f, arg26.view.loc (c : Thread nD τ) ↦[arg26.view.set]{fullShare} arg26.view.writes (Elt F) f LT2) ∗ (∃ f, arg27.view.loc (c : Thread nD τ) ↦[arg27.view.set]{fullShare} arg27.view.writes (Elt F) f LT3) ∗ (∃ f, arg28.view.loc (c : Thread nD τ) ↦[arg28.view.set]{fullShare} arg28.view.writes (Elt F) f LT4) ∗ (∃ f, arg29.view.loc (c : Thread nD τ) ↦[arg29.view.set]{fullShare} arg29.view.writes (Elt F) f LT5)) -∗ K ⟨⟩))
          ⊢ wp frame (wpE (defs₀ (F := F)) Variants.none c none) E (cc0_gate i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, ?_, ?_, ?_, ?_, ?_, fun E K => ?run⟩
  case run =>
    simp only [cc0_gate_eq_skeleton]; unfold cc0_gate_skel
    simp only [k0_part211_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part212_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part213_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part214_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _, _; isplitr; swap; · iexact H9
      ipureintro; rfl
    isplitl [H10]; · iexists _; iexact H10
    isplitl [H11]; · iexists _; iexact H11
    isplitl [H12]; · iexists _; iexact H12
    isplitl [H13]
    · iexists _, _; isplitr; swap; · iexact H13
      ipureintro; rfl
    isplitl [H14]; · iexists _; iexact H14
    isplitl [H15]
    · iexists _, _; isplitr; swap; · iexact H15
      ipureintro; rfl
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.GateIdeal.Gen

end
-- ==== Proof.GateIdealFrame.lean ====
/- The frame of the gate call (program `GateIdeal`). Of its fifteen outputs twelve are named: what they hold is the body's stores
   read back, point by point. Output windows 9, 13 and 15 (the row scales) are forgotten: the body reads each of them back
   before it stores it again; what they hold is followed in Proof/GateRowFrame.lean. -/
module

public import proofs.«01_k».proof.Proof.GateIdealRun
public import Idealize.ShloMosaic.Lib.Claim

@[expose] public section

-- membership in a rectangle of production extents (`View.cover_of_tiled`): the elaborator's structural look
-- recurses once per coordinate of the long axes
set_option maxRecDepth 16384

noncomputable section

namespace Cert.GateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block (24 stores of `S1x128x128`, checked by the kernel's evaluation: Lib/Ring.lean `Piece.tiledL`, linear in the pieces, through a loop's `@[irreducible]` trip theorem too), so they cover it. -/
theorem cover0_A_8 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).1 S1x128x128.size (by sl_kernel_rfl) y

/-- What the run leaves in output 8's staging buffer: its pieces read back over junk. -/
def out0_A_8 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x128x256 .fp8e4m3 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).1)

/-- The run's pieces for output 10 tile its block (24 stores of `S1x128x128`, checked by the kernel's evaluation: Lib/Ring.lean `Piece.tiledL`, linear in the pieces, through a loop's `@[irreducible]` trip theorem too), so they cover it. -/
theorem cover0_A_10 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.1 S1x128x128.size (by sl_kernel_rfl) y

/-- What the run leaves in output 10's staging buffer: its pieces read back over junk. -/
def out0_A_10 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x128x256 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.1)

/-- The run's pieces for output 11 tile its block (24 stores of `S1x1x128`, checked by the kernel's evaluation: Lib/Ring.lean `Piece.tiledL`, linear in the pieces, through a loop's `@[irreducible]` trip theorem too), so they cover it. -/
theorem cover0_A_11 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.1 S1x1x128.size (by sl_kernel_rfl) y

/-- What the run leaves in output 11's staging buffer: its pieces read back over junk. -/
def out0_A_11 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x1x256 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.1)

/-- The run's pieces for output 12 tile its block (24 stores of `S1x128x128`, checked by the kernel's evaluation: Lib/Ring.lean `Piece.tiledL`, linear in the pieces, through a loop's `@[irreducible]` trip theorem too), so they cover it. -/
theorem cover0_A_12 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.1 S1x128x128.size (by sl_kernel_rfl) y

/-- What the run leaves in output 12's staging buffer: its pieces read back over junk. -/
def out0_A_12 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x128x256 .fp8e4m3 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.1)

/-- The run's pieces for output 14 tile its block (24 stores of `S1x128x128`, checked by the kernel's evaluation: Lib/Ring.lean `Piece.tiledL`, linear in the pieces, through a loop's `@[irreducible]` trip theorem too), so they cover it. -/
theorem cover0_A_14 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.1 S1x128x128.size (by sl_kernel_rfl) y

/-- What the run leaves in output 14's staging buffer: its pieces read back over junk. -/
def out0_A_14 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x128x256 .fp8e4m3 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.1)

/-- The run's pieces for output 16 tile its block (24 stores of `S1x128x128`, checked by the kernel's evaluation: Lib/Ring.lean `Piece.tiledL`, linear in the pieces, through a loop's `@[irreducible]` trip theorem too), so they cover it. -/
theorem cover0_A_16 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.1 S1x128x128.size (by sl_kernel_rfl) y

/-- What the run leaves in output 16's staging buffer: its pieces read back over junk. -/
def out0_A_16 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x128x256 .fp8e4m3 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.1)

/-- The run's pieces for output 17 tile its block (24 stores of `S1x1x128`, checked by the kernel's evaluation: Lib/Ring.lean `Piece.tiledL`, linear in the pieces, through a loop's `@[irreducible]` trip theorem too), so they cover it. -/
theorem cover0_A_17 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.1 S1x1x128.size (by sl_kernel_rfl) y

/-- What the run leaves in output 17's staging buffer: its pieces read back over junk. -/
def out0_A_17 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x1x256 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.1)

/-- The run's pieces for output 18 tile its block (24 stores of `S1x128x128`, checked by the kernel's evaluation: Lib/Ring.lean `Piece.tiledL`, linear in the pieces, through a loop's `@[irreducible]` trip theorem too), so they cover it. -/
theorem cover0_A_18 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.1 S1x128x128.size (by sl_kernel_rfl) y

/-- What the run leaves in output 18's staging buffer: its pieces read back over junk. -/
def out0_A_18 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x128x256 .fp8e4m3 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.1)

/-- The run's pieces for output 19 tile its block (24 stores of `S1x1x128`, checked by the kernel's evaluation: Lib/Ring.lean `Piece.tiledL`, linear in the pieces, through a loop's `@[irreducible]` trip theorem too), so they cover it. -/
theorem cover0_A_19 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S12x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.1 S1x1x128.size (by sl_kernel_rfl) y

/-- What the run leaves in output 19's staging buffer: its pieces read back over junk. -/
def out0_A_19 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S12x1x256 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.1)

/-- The run's pieces for output 20 tile its block (24 stores of `S128x128`, checked by the kernel's evaluation: Lib/Ring.lean `Piece.tiledL`, linear in the pieces, through a loop's `@[irreducible]` trip theorem too), so they cover it. -/
theorem cover0_A_20 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.1 S128x128.size (by sl_kernel_rfl) y

/-- What the run leaves in output 20's staging buffer: its pieces read back over junk. -/
def out0_A_20 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S1536x256 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.1)

/-- The run's pieces for output 21 tile its block (24 stores of `S128x128`, checked by the kernel's evaluation: Lib/Ring.lean `Piece.tiledL`, linear in the pieces, through a loop's `@[irreducible]` trip theorem too), so they cover it. -/
theorem cover0_A_21 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.2.1 S128x128.size (by sl_kernel_rfl) y

/-- What the run leaves in output 21's staging buffer: its pieces read back over junk. -/
def out0_A_21 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S1536x256 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.2.1)

/-- The run's pieces for output 22 tile its block (24 stores of `S128x128`, checked by the kernel's evaluation: Lib/Ring.lean `Piece.tiledL`, linear in the pieces, through a loop's `@[irreducible]` trip theorem too), so they cover it. -/
theorem cover0_A_22 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.2.2.1 S128x128.size (by sl_kernel_rfl) y

/-- What the run leaves in output 22's staging buffer: its pieces read back over junk. -/
def out0_A_22 (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3) : Vec F S1536x256 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7).2.2.2.2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S12x128x256 .fp8e4m3 × Vec F S12x128x256 .fp8e4m3 × Vec F S12x1x256 .f32 × Vec F S12x128x256 .fp8e4m3 × Vec F S12x128x256 .fp8e4m3 × Vec F S12x128x256 .fp8e4m3 × Vec F S12x1x256 .f32 × Vec F S12x128x256 .fp8e4m3 × Vec F S12x1x256 .f32 × Vec F S1536x256 .bf16 × Vec F S1536x256 .bf16 × Vec F S1536x256 .bf16 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t))

/-! ## The pipeline's proof data -/

/-- The output windows this certificate FORGETS (9, 13, 15): the frame needs nothing of what the kernel leaves in them, so nothing
    of it is named (Lib/Pipeline/Dat.lean `Dat.toRForget`). -/
def forgets0 : Fin 23 → Bool := fun w => w.val == 9 || w.val == 13 || w.val == 15
theorem forgets0_8 : forgets0 (8 : Fin 23) = false := by decide
theorem forgets0_10 : forgets0 (10 : Fin 23) = false := by decide
theorem forgets0_11 : forgets0 (11 : Fin 23) = false := by decide
theorem forgets0_12 : forgets0 (12 : Fin 23) = false := by decide
theorem forgets0_14 : forgets0 (14 : Fin 23) = false := by decide
theorem forgets0_16 : forgets0 (16 : Fin 23) = false := by decide
theorem forgets0_17 : forgets0 (17 : Fin 23) = false := by decide
theorem forgets0_18 : forgets0 (18 : Fin 23) = false := by decide
theorem forgets0_19 : forgets0 (19 : Fin 23) = false := by decide
theorem forgets0_20 : forgets0 (20 : Fin 23) = false := by decide
theorem forgets0_21 : forgets0 (21 : Fin 23) = false := by decide
theorem forgets0_22 : forgets0 (22 : Fin 23) = false := by decide

/-- The proof data of the one pipeline on core `c`: the arrays as the region finds them (`V`); after the body at
    point `t` each input's buffer at its block and the NAMED outputs' at `outsAt0` (the forgotten at `Dat.unnamed`); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t).1
    | ⟨9, h⟩ => Pipeline.Dat.unnamed (cfg := cfg0) ⟨9, h⟩ t
    | ⟨10, _⟩ => (outsAt0 m c t).2.1
    | ⟨11, _⟩ => (outsAt0 m c t).2.2.1
    | ⟨12, _⟩ => (outsAt0 m c t).2.2.2.1
    | ⟨13, h⟩ => Pipeline.Dat.unnamed (cfg := cfg0) ⟨13, h⟩ t
    | ⟨14, _⟩ => (outsAt0 m c t).2.2.2.2.1
    | ⟨15, h⟩ => Pipeline.Dat.unnamed (cfg := cfg0) ⟨15, h⟩ t
    | ⟨16, _⟩ => (outsAt0 m c t).2.2.2.2.2.1
    | ⟨17, _⟩ => (outsAt0 m c t).2.2.2.2.2.2.1
    | ⟨18, _⟩ => (outsAt0 m c t).2.2.2.2.2.2.2.1
    | ⟨19, _⟩ => (outsAt0 m c t).2.2.2.2.2.2.2.2.1
    | ⟨20, _⟩ => (outsAt0 m c t).2.2.2.2.2.2.2.2.2.1
    | ⟨21, _⟩ => (outsAt0 m c t).2.2.2.2.2.2.2.2.2.2.1
    | ⟨22, _⟩ => (outsAt0 m c t).2.2.2.2.2.2.2.2.2.2.2
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t).1 := by dsimp only [dats]
theorem after0_10 (c : Dev nD) (t : Fin cfg0.N) : (dats m 0 c).after 10 t = (outsAt0 m c t).2.1 := by dsimp only [dats]
theorem after0_11 (c : Dev nD) (t : Fin cfg0.N) : (dats m 0 c).after 11 t = (outsAt0 m c t).2.2.1 := by dsimp only [dats]
theorem after0_12 (c : Dev nD) (t : Fin cfg0.N) : (dats m 0 c).after 12 t = (outsAt0 m c t).2.2.2.1 := by dsimp only [dats]
theorem after0_14 (c : Dev nD) (t : Fin cfg0.N) : (dats m 0 c).after 14 t = (outsAt0 m c t).2.2.2.2.1 := by dsimp only [dats]
theorem after0_16 (c : Dev nD) (t : Fin cfg0.N) : (dats m 0 c).after 16 t = (outsAt0 m c t).2.2.2.2.2.1 := by dsimp only [dats]
theorem after0_17 (c : Dev nD) (t : Fin cfg0.N) : (dats m 0 c).after 17 t = (outsAt0 m c t).2.2.2.2.2.2.1 := by dsimp only [dats]
theorem after0_18 (c : Dev nD) (t : Fin cfg0.N) : (dats m 0 c).after 18 t = (outsAt0 m c t).2.2.2.2.2.2.2.1 := by dsimp only [dats]
theorem after0_19 (c : Dev nD) (t : Fin cfg0.N) : (dats m 0 c).after 19 t = (outsAt0 m c t).2.2.2.2.2.2.2.2.1 := by dsimp only [dats]
theorem after0_20 (c : Dev nD) (t : Fin cfg0.N) : (dats m 0 c).after 20 t = (outsAt0 m c t).2.2.2.2.2.2.2.2.2.1 := by dsimp only [dats]
theorem after0_21 (c : Dev nD) (t : Fin cfg0.N) : (dats m 0 c).after 21 t = (outsAt0 m c t).2.2.2.2.2.2.2.2.2.2.1 := by dsimp only [dats]
theorem after0_22 (c : Dev nD) (t : Fin cfg0.N) : (dats m 0 c).after 22 t = (outsAt0 m c t).2.2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ owns (c : Thread nD τ) (ms0_14 t) fullShare ((dats m 0 c).after 14 t)
    ∗ (∃ d, owns (c : Thread nD τ) (ms0_15 t) fullShare d)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_10, after0_11, after0_12, after0_14, after0_16, after0_17, after0_18, after0_19, after0_20, after0_21, after0_22]
  rw [show (dats m 0 c).Φ t.castSucc = Pipeline.ΦA spec0 c from rfl, PhiA0_eq]
  unfold outsAt0
  unfold out0_A_8 out0_A_10 out0_A_11 out0_A_12 out0_A_14 out0_A_16 out0_A_17 out0_A_18 out0_A_19 out0_A_20 out0_A_21 out0_A_22; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%e8, H8⟩, H9, ⟨%e10, H10⟩, ⟨%e11, H11⟩, ⟨%e12, H12⟩, H13, ⟨%e14, H14⟩, H15, ⟨%e16, H16⟩, ⟨%e17, H17⟩, ⟨%e18, H18⟩, ⟨%e19, H19⟩, ⟨%e20, H20⟩, ⟨%e21, H21⟩, ⟨%e22, H22⟩, ⟨%fT0, HS0⟩, ⟨%fT1, HS1⟩, ⟨%fT2, HS2⟩, ⟨%fT3, HS3⟩, ⟨%fT4, HS4⟩, ⟨%fT5, HS5⟩⟩
  isplitl [HS0 HS1 HS2 HS3 HS4 HS5 Hg]
  · isplitl [HS0 HS1 HS2 HS3 HS4 HS5]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H9]; · iexact H9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]; · iexact H15
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 13, 15) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_GateIdeal`'s statement (Defs.lean) at any `F` — Proof.lean cites it at `Bits`:
    `theorem Cert.Proof.claim : Cert.Claim := ⟨Cert.GateIdeal.Gen.facts, fun m ρ _ => Cert.GateIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.GateIdeal.Gen

end
-- ==== Proof.GateIdealValue.lean ====
/- What twelve of the results of the gate call hold (program `GateIdeal`): block `t` of a result is what grid point `t` leaves
   in its window, and the run ends with the arguments unchanged. -/
module

public import proofs.«01_k».proof.Proof.GateIdealFrame
public import Idealize.ShloMosaic.Lib.Pipeline.Value

@[expose] public section

noncomputable section

namespace Cert.GateIdeal.Value

open Cert.GateIdeal Cert.GateIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — the kernel's one case, `Gen.outsAt0` by definition. -/
theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)) := by
  simp only [flushed8, outsAt0]

/-- The index map sends distinct grid points to distinct block indices (decided over the 38 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S12x128x9728.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 10's array: the run's contents for that window after the body (`Gen.outsAt0`: its component 1), read through the window's block. -/
theorem flushed10 (c : Dev nD) (t : Fin cfg0.N) :
    (dats m 0 c).flushed 10 t = (cfg0.win 10).cut (grid0.coords t) ((outsAt0 m c t).2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — the kernel's one case, `Gen.outsAt0` by definition. -/
theorem flushed10_A (c : Dev nD) (t : Fin cfg0.N) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)) := by
  simp only [flushed10, outsAt0]

/-- The index map sends distinct grid points to distinct block indices (decided over the 38 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S12x128x9728.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 2), read through the window's block. -/
theorem flushed11 (c : Dev nD) (t : Fin cfg0.N) :
    (dats m 0 c).flushed 11 t = (cfg0.win 11).cut (grid0.coords t) ((outsAt0 m c t).2.2.1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — the kernel's one case, `Gen.outsAt0` by definition. -/
theorem flushed11_A (c : Dev nD) (t : Fin cfg0.N) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)) := by
  simp only [flushed11, outsAt0]

/-- The index map sends distinct grid points to distinct block indices (decided over the 38 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S12x1x9728.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the run's contents for that window after the body (`Gen.outsAt0`: its component 3), read through the window's block. -/
theorem flushed12 (c : Dev nD) (t : Fin cfg0.N) :
    (dats m 0 c).flushed 12 t = (cfg0.win 12).cut (grid0.coords t) ((outsAt0 m c t).2.2.2.1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — the kernel's one case, `Gen.outsAt0` by definition. -/
theorem flushed12_A (c : Dev nD) (t : Fin cfg0.N) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)) := by
  simp only [flushed12, outsAt0]

/-- The index map sends distinct grid points to distinct block indices (decided over the 38 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S12x128x9728.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 14's array: the run's contents for that window after the body (`Gen.outsAt0`: its component 4), read through the window's block. -/
theorem flushed14 (c : Dev nD) (t : Fin cfg0.N) :
    (dats m 0 c).flushed 14 t = (cfg0.win 14).cut (grid0.coords t) ((outsAt0 m c t).2.2.2.2.1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — the kernel's one case, `Gen.outsAt0` by definition. -/
theorem flushed14_A (c : Dev nD) (t : Fin cfg0.N) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)) := by
  simp only [flushed14, outsAt0]

/-- The index map sends distinct grid points to distinct block indices (decided over the 38 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S12x128x9728.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 16's array: the run's contents for that window after the body (`Gen.outsAt0`: its component 5), read through the window's block. -/
theorem flushed16 (c : Dev nD) (t : Fin cfg0.N) :
    (dats m 0 c).flushed 16 t = (cfg0.win 16).cut (grid0.coords t) ((outsAt0 m c t).2.2.2.2.2.1) := by
  show (cfg0.win 16).cut (grid0.coords t) ((dats m 0 c).after 16 t) = _
  rw [after0_16]

/-- … so at a point where case A runs, what its write-back would write is that case's NAMED TERM for the window (`Gen.out0_A_16`: the pieces
    its run found, read back) at the point's memrefs and input blocks, and for an output the case reads back what the point before left (`Gen.outsAt0` at `t - 1`) — the kernel's one case, `Gen.outsAt0` by definition. -/
theorem flushed16_A (c : Dev nD) (t : Fin cfg0.N) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)) := by
  simp only [flushed16, outsAt0]

/-- The index map sends distinct grid points to distinct block indices (decided over the 38 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S12x128x9728.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the run's contents for that window after the body (`Gen.outsAt0`: its component 6), read through the window's block. -/
theorem flushed17 (c : Dev nD) (t : Fin cfg0.N) :
    (dats m 0 c).flushed 17 t = (cfg0.win 17).cut (grid0.coords t) ((outsAt0 m c t).2.2.2.2.2.2.1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — the kernel's one case, `Gen.outsAt0` by definition. -/
theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)) := by
  simp only [flushed17, outsAt0]

/-- The index map sends distinct grid points to distinct block indices (decided over the 38 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S12x1x9728.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 7), read through the window's block. -/
theorem flushed18 (c : Dev nD) (t : Fin cfg0.N) :
    (dats m 0 c).flushed 18 t = (cfg0.win 18).cut (grid0.coords t) ((outsAt0 m c t).2.2.2.2.2.2.2.1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)) := by
  simp only [flushed18, outsAt0]

/-- The index map sends distinct grid points to distinct block indices (decided over the 38 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S12x128x9728.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 8), read through the window's block. -/
theorem flushed19 (c : Dev nD) (t : Fin cfg0.N) :
    (dats m 0 c).flushed 19 t = (cfg0.win 19).cut (grid0.coords t) ((outsAt0 m c t).2.2.2.2.2.2.2.2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)) := by
  simp only [flushed19, outsAt0]

/-- The index map sends distinct grid points to distinct block indices (decided over the 38 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S12x1x9728.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 9), read through the window's block. -/
theorem flushed20 (c : Dev nD) (t : Fin cfg0.N) :
    (dats m 0 c).flushed 20 t = (cfg0.win 20).cut (grid0.coords t) ((outsAt0 m c t).2.2.2.2.2.2.2.2.2.1) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)) := by
  simp only [flushed20, outsAt0]

/-- The index map sends distinct grid points to distinct block indices (decided over the 38 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S1536x9728.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the run's contents for that window after the body (`Gen.outsAt0`: its component 10), read through the window's block. -/
theorem flushed21 (c : Dev nD) (t : Fin cfg0.N) :
    (dats m 0 c).flushed 21 t = (cfg0.win 21).cut (grid0.coords t) ((outsAt0 m c t).2.2.2.2.2.2.2.2.2.2.1) := by
  show (cfg0.win 21).cut (grid0.coords t) ((dats m 0 c).after 21 t) = _
  rw [after0_21]

/-- … so at a point where case A runs, what its write-back would write is that case's NAMED TERM for the window (`Gen.out0_A_21`: the pieces
    its run found, read back) at the point's memrefs and input blocks, and for an output the case reads back what the point before left (`Gen.outsAt0` at `t - 1`) — the kernel's one case, `Gen.outsAt0` by definition. -/
theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)) := by
  simp only [flushed21, outsAt0]

/-- The index map sends distinct grid points to distinct block indices (decided over the 38 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S1536x9728.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the run's contents for that window after the body (`Gen.outsAt0`: its component 11), read through the window's block. -/
theorem flushed22 (c : Dev nD) (t : Fin cfg0.N) :
    (dats m 0 c).flushed 22 t = (cfg0.win 22).cut (grid0.coords t) ((outsAt0 m c t).2.2.2.2.2.2.2.2.2.2.2) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — the kernel's one case, `Gen.outsAt0` by definition. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)) := by
  simp only [flushed22, outsAt0]

/-- The index map sends distinct grid points to distinct block indices (decided over the 38 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S1536x9728.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 23) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 8's array is `(dats m 0 c).arrAt 8 N`. -/
theorem post8 (r : PUnit × MemSt nD τ sig (Elt F)) (h : Pipeline.RDat.FramePost (cfgs 0) (fun c => (dats m 0 c).toRForget forgets0) (V m) r) (c : Dev nD) :
    r.2.mem ((c : Thread nD τ).loc main_v0_0) = (dats m 0 c).arrAt 8 cfg0.N :=
  finalR_out0 m r h c 8 forgets0_8

/-- After the frame run, output window 10's array is `(dats m 0 c).arrAt 10 N`. -/
theorem post10 (r : PUnit × MemSt nD τ sig (Elt F)) (h : Pipeline.RDat.FramePost (cfgs 0) (fun c => (dats m 0 c).toRForget forgets0) (V m) r) (c : Dev nD) :
    r.2.mem ((c : Thread nD τ).loc main_v0_2) = (dats m 0 c).arrAt 10 cfg0.N :=
  finalR_out0 m r h c 10 forgets0_10

/-- After the frame run, output window 11's array is `(dats m 0 c).arrAt 11 N`. -/
theorem post11 (r : PUnit × MemSt nD τ sig (Elt F)) (h : Pipeline.RDat.FramePost (cfgs 0) (fun c => (dats m 0 c).toRForget forgets0) (V m) r) (c : Dev nD) :
    r.2.mem ((c : Thread nD τ).loc main_v0_3) = (dats m 0 c).arrAt 11 cfg0.N :=
  finalR_out0 m r h c 11 forgets0_11

/-- After the frame run, output window 12's array is `(dats m 0 c).arrAt 12 N`. -/
theorem post12 (r : PUnit × MemSt nD τ sig (Elt F)) (h : Pipeline.RDat.FramePost (cfgs 0) (fun c => (dats m 0 c).toRForget forgets0) (V m) r) (c : Dev nD) :
    r.2.mem ((c : Thread nD τ).loc main_v0_4) = (dats m 0 c).arrAt 12 cfg0.N :=
  finalR_out0 m r h c 12 forgets0_12

/-- After the frame run, output window 14's array is `(dats m 0 c).arrAt 14 N`. -/
theorem post14 (r : PUnit × MemSt nD τ sig (Elt F)) (h : Pipeline.RDat.FramePost (cfgs 0) (fun c => (dats m 0 c).toRForget forgets0) (V m) r) (c : Dev nD) :
    r.2.mem ((c : Thread nD τ).loc main_v0_6) = (dats m 0 c).arrAt 14 cfg0.N :=
  finalR_out0 m r h c 14 forgets0_14

/-- After the frame run, output window 16's array is `(dats m 0 c).arrAt 16 N`. -/
theorem post16 (r : PUnit × MemSt nD τ sig (Elt F)) (h : Pipeline.RDat.FramePost (cfgs 0) (fun c => (dats m 0 c).toRForget forgets0) (V m) r) (c : Dev nD) :
    r.2.mem ((c : Thread nD τ).loc main_v0_8) = (dats m 0 c).arrAt 16 cfg0.N :=
  finalR_out0 m r h c 16 forgets0_16

/-- After the frame run, output window 17's array is `(dats m 0 c).arrAt 17 N`. -/
theorem post17 (r : PUnit × MemSt nD τ sig (Elt F)) (h : Pipeline.RDat.FramePost (cfgs 0) (fun c => (dats m 0 c).toRForget forgets0) (V m) r) (c : Dev nD) :
    r.2.mem ((c : Thread nD τ).loc main_v0_9) = (dats m 0 c).arrAt 17 cfg0.N :=
  finalR_out0 m r h c 17 forgets0_17

/-- After the frame run, output window 18's array is `(dats m 0 c).arrAt 18 N`. -/
theorem post18 (r : PUnit × MemSt nD τ sig (Elt F)) (h : Pipeline.RDat.FramePost (cfgs 0) (fun c => (dats m 0 c).toRForget forgets0) (V m) r) (c : Dev nD) :
    r.2.mem ((c : Thread nD τ).loc main_v0_10) = (dats m 0 c).arrAt 18 cfg0.N :=
  finalR_out0 m r h c 18 forgets0_18

/-- After the frame run, output window 19's array is `(dats m 0 c).arrAt 19 N`. -/
theorem post19 (r : PUnit × MemSt nD τ sig (Elt F)) (h : Pipeline.RDat.FramePost (cfgs 0) (fun c => (dats m 0 c).toRForget forgets0) (V m) r) (c : Dev nD) :
    r.2.mem ((c : Thread nD τ).loc main_v0_11) = (dats m 0 c).arrAt 19 cfg0.N :=
  finalR_out0 m r h c 19 forgets0_19

/-- After the frame run, output window 20's array is `(dats m 0 c).arrAt 20 N`. -/
theorem post20 (r : PUnit × MemSt nD τ sig (Elt F)) (h : Pipeline.RDat.FramePost (cfgs 0) (fun c => (dats m 0 c).toRForget forgets0) (V m) r) (c : Dev nD) :
    r.2.mem ((c : Thread nD τ).loc main_v0_12) = (dats m 0 c).arrAt 20 cfg0.N :=
  finalR_out0 m r h c 20 forgets0_20

/-- After the frame run, output window 21's array is `(dats m 0 c).arrAt 21 N`. -/
theorem post21 (r : PUnit × MemSt nD τ sig (Elt F)) (h : Pipeline.RDat.FramePost (cfgs 0) (fun c => (dats m 0 c).toRForget forgets0) (V m) r) (c : Dev nD) :
    r.2.mem ((c : Thread nD τ).loc main_v0_13) = (dats m 0 c).arrAt 21 cfg0.N :=
  finalR_out0 m r h c 21 forgets0_21

/-- After the frame run, output window 22's array is `(dats m 0 c).arrAt 22 N`. -/
theorem post22 (r : PUnit × MemSt nD τ sig (Elt F)) (h : Pipeline.RDat.FramePost (cfgs 0) (fun c => (dats m 0 c).toRForget forgets0) (V m) r) (c : Dev nD) :
    r.2.mem ((c : Thread nD τ).loc main_v0_14) = (dats m 0 c).arrAt 22 cfg0.N :=
  finalR_out0 m r h c 22 forgets0_22

/-- After the frame run, argument `main_arg0` is as launched: input window 0 stages it and never writes it back. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- After the frame run, argument `main_arg1` is as launched: input window 1 stages it and never writes it back. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

/-- After the frame run, argument `main_arg2` is as launched: input window 2 stages it and never writes it back. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 2 rfl).trans ((A_eq m c 2).trans (V_main_arg2 m c))

/-- After the frame run, argument `main_arg3` is as launched: input window 3 stages it and never writes it back. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  (Pipeline.RDat.FramePost.arr_in h c 3 rfl).trans ((A_eq m c 3).trans (V_main_arg3 m c))

/-- After the frame run, argument `main_arg4` is as launched: input window 4 stages it and never writes it back. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  (Pipeline.RDat.FramePost.arr_in h c 4 rfl).trans ((A_eq m c 4).trans (V_main_arg4 m c))

/-- After the frame run, argument `main_arg5` is as launched: input window 5 stages it and never writes it back. -/
theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  (Pipeline.RDat.FramePost.arr_in h c 5 rfl).trans ((A_eq m c 5).trans (V_main_arg5 m c))

/-- After the frame run, argument `main_arg6` is as launched: input window 6 stages it and never writes it back. -/
theorem kept_main_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  (Pipeline.RDat.FramePost.arr_in h c 6 rfl).trans ((A_eq m c 6).trans (V_main_arg6 m c))

/-- After the frame run, argument `main_arg7` is as launched: input window 7 stages it and never writes it back. -/
theorem kept_main_arg7 (r : PUnit × MemSt nD τ sig (Elt F)) (h : Pipeline.RDat.FramePost (cfgs 0) (fun c => (dats m 0 c).toRForget forgets0) (V m) r) (c : Dev nD) :
    r.2.mem ((c : Thread nD τ).loc main_arg7) = m ((c : Thread nD τ).loc main_arg7) :=
  (Pipeline.RDat.FramePost.arr_in h c 7 rfl).trans ((A_eq m c 7).trans (V_main_arg7 m c))

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 8 cfg0.N
      ∧ r.2.mem ((c : Thread nD τ).loc main_v0_2) = (dats m 0 c).arrAt 10 cfg0.N
      ∧ r.2.mem ((c : Thread nD τ).loc main_v0_3) = (dats m 0 c).arrAt 11 cfg0.N
      ∧ r.2.mem ((c : Thread nD τ).loc main_v0_4) = (dats m 0 c).arrAt 12 cfg0.N
      ∧ r.2.mem ((c : Thread nD τ).loc main_v0_6) = (dats m 0 c).arrAt 14 cfg0.N
      ∧ r.2.mem ((c : Thread nD τ).loc main_v0_8) = (dats m 0 c).arrAt 16 cfg0.N
      ∧ r.2.mem ((c : Thread nD τ).loc main_v0_9) = (dats m 0 c).arrAt 17 cfg0.N
      ∧ r.2.mem ((c : Thread nD τ).loc main_v0_10) = (dats m 0 c).arrAt 18 cfg0.N
      ∧ r.2.mem ((c : Thread nD τ).loc main_v0_11) = (dats m 0 c).arrAt 19 cfg0.N
      ∧ r.2.mem ((c : Thread nD τ).loc main_v0_12) = (dats m 0 c).arrAt 20 cfg0.N
      ∧ r.2.mem ((c : Thread nD τ).loc main_v0_13) = (dats m 0 c).arrAt 21 cfg0.N
      ∧ r.2.mem ((c : Thread nD τ).loc main_v0_14) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post10 m r h c,
      post11 m r h c,
      post12 m r h c,
      post14 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.GateIdeal.Value

end
-- ==== Proof.GateScratch.lean ====
module

public import proofs.«01_k».proof.Proof.GateIdealRun
public import Idealize.ShloMosaic.Lib.Pipeline.ValueKit
public import Idealize.ShloMosaic.Lib.Pipeline.ReadBack
public import Idealize.ShloMosaic.Lib.Pointwise
public import Idealize.ShloMosaic.Lib.WholeRead

@[expose] public section

set_option maxRecDepth 16384

noncomputable section

/-! What the three scratch buffers of widened weights hold once a grid point has filled them. -/

namespace Cert.GateProof

open Cert.GateIdeal Cert.GateIdeal.Gen Idealize.ShloMosaic Idealize.ShloMosaic.TcCoe Idealize.SL.Sem

local notation "𝕀" => Idealize.ShloMosaic.Ideal

/-- A load of a whole buffer gives back what the stores into it left. -/
theorem readCov_whole {S : Shape} {e : EltTy} {sig : RefSig} {κ : Kind} {sp : Space} (v : View sig κ sp S e)
    (L : List (View.Piece (Elt 𝕀) S e)) {off : Fin S.rank → Nat} (inb : ∀ a, off a + S.size a ≤ S.size a) (h : ∀ a, off a = 0) :
    v.readCov L (Rect.unit off S.size inb).toLoadRect = View.canon L := by
  rw [View.readCov_eq_canon']
  exact View.ld_unit_lit inb (View.canon L) h

theorem coord_lt (i : grid0.Coords) : (i 0).val < 38 := (i 0).isLt

/-- The block column of a scale the body reads: twice the grid point, and the tile's number within the block. -/
theorem off' : ∀ (a : Fin 38) (u : Fin 2),
    (Scalar.indexCast (Scalar.addi (Scalar.muli (BitVec.ofNat 32 a.val) 2#32) (BitVec.ofNat 32 u.val)) : Index).toNat = 2 * a.val + u.val := by
  decide +kernel

theorem off (i : grid0.Coords) (u : BitVec 32) (hu : u.toNat < 2) :
    (Scalar.indexCast (Scalar.addi (Scalar.muli (BitVec.ofNat 32 (i 0).val) 2#32) u) : Index).toNat = 2 * (i 0).val + u.toNat := by
  have h := off' ⟨(i 0).val, coord_lt i⟩ ⟨u.toNat, hu⟩
  simpa only [BitVec.ofNat_toNat, BitVec.setWidth_eq] using h

theorem s0 (y : S3584x256.Idx) : (y 0).val < 3584 := (y 0).isLt
theorem s1 (y : S3584x256.Idx) : (y 1).val < 256 := (y 1).isLt
theorem r0 (y : S256x3584.Idx) : (y 0).val < 256 := (y 0).isLt
theorem r1 (y : S256x3584.Idx) : (y 1).val < 3584 := (y 1).isLt

/-- A block of 256 columns of codes, each code times the scale of its 128 x 128 block. -/
def colsB (i : grid0.Coords) (s : FVec 𝕀 S28x76 .f32) (x : Vec 𝕀 S3584x256 .fp8e4m3) : FVec 𝕀 S3584x256 .bf16 := fun y =>
  (x y : EReal) * (s (ix2 (⟨(y 0).val / 128, by have := s0 y; omega⟩ : Fin 28)
    (⟨2 * (i 0).val + (y 1).val / 128, by have := s1 y; have := coord_lt i; omega⟩ : Fin 76)) : EReal)

/-- A block of 256 rows of codes, each code times the scale of its 128 x 128 block. -/
def rowsB (i : grid0.Coords) (s : FVec 𝕀 S76x28 .f32) (x : Vec 𝕀 S256x3584 .fp8e4m3) : FVec 𝕀 S256x3584 .bf16 := fun y =>
  (x y : EReal) * (s (ix2 (⟨2 * (i 0).val + (y 0).val / 128, by have := r0 y; have := coord_lt i; omega⟩ : Fin 76)
    (⟨(y 1).val / 128, by have := r1 y; omega⟩ : Fin 28)) : EReal)

/-- One stored tile of the columns. -/
theorem tileC (i : grid0.Coords) (x : Vec 𝕀 S3584x256 .fp8e4m3) (s : FVec 𝕀 S28x76 .f32) (y : S3584x256.Idx) (z : S3584x256.Idx)
    (w : S28x76.Idx) (h0 : (z 0).val = (y 0).val) (h1 : (z 1).val = (y 1).val)
    (hw0 : (w 0).val = (y 0).val / 128) (hw1 : (w 1).val = 2 * (i 0).val + (y 1).val / 128) :
    (x z : EReal) * (s w : EReal) = colsB i s x y := by
  have ez : z = y := (eq_ix2 z).trans ((congrArg₂ ix2 (Fin.ext h0) (Fin.ext h1)).trans (eq_ix2 y).symm)
  have ew : w = ix2 (⟨(y 0).val / 128, by have := s0 y; omega⟩ : Fin 28)
    (⟨2 * (i 0).val + (y 1).val / 128, by have := s1 y; have := coord_lt i; omega⟩ : Fin 76) :=
    (eq_ix2 w).trans (congrArg₂ ix2 (Fin.ext hw0) (Fin.ext hw1))
  rw [ez, ew]
  rfl

/-- One stored tile of the rows. -/
theorem tileR (i : grid0.Coords) (x : Vec 𝕀 S256x3584 .fp8e4m3) (s : FVec 𝕀 S76x28 .f32) (y : S256x3584.Idx) (z : S256x3584.Idx)
    (w : S76x28.Idx) (h0 : (z 0).val = (y 0).val) (h1 : (z 1).val = (y 1).val)
    (hw0 : (w 0).val = 2 * (i 0).val + (y 0).val / 128) (hw1 : (w 1).val = (y 1).val / 128) :
    (x z : EReal) * (s w : EReal) = rowsB i s x y := by
  have ez : z = y := (eq_ix2 z).trans ((congrArg₂ ix2 (Fin.ext h0) (Fin.ext h1)).trans (eq_ix2 y).symm)
  have ew : w = ix2 (⟨2 * (i 0).val + (y 0).val / 128, by have := r0 y; have := coord_lt i; omega⟩ : Fin 76)
    (⟨(y 1).val / 128, by have := r1 y; omega⟩ : Fin 28) :=
    (eq_ix2 w).trans (congrArg₂ ix2 (Fin.ext hw0) (Fin.ext hw1))
  rw [ez, ew]
  rfl

/-- A stored tile of the columns, by where its two loads are taken. -/
theorem pieceC (i : grid0.Coords) (arg1 : Memref sig .tc .smem S28x76 .f32) (harg1 : arg1.IsWhole)
    (arg6 : Memref sig .tc .vmem S3584x256 .fp8e4m3) (harg6 : arg6.IsWhole) (x0 : Vec 𝕀 S28x76 .f32) (x5 : Vec 𝕀 S3584x256 .fp8e4m3)
    (y : S3584x256.Idx) (p q : ℕ) (inb1 : ∀ a, ![p, q] a + S1x1.size a ≤ S28x76.size a)
    (u v : ℕ) (inb6 : ∀ a, ![u, v] a + S128x128.size a ≤ S3584x256.size a) (x : S128x128.Idx) (j : 0 < S1x1.numel)
    (h0 : u + (x 0).val = (y 0).val) (h1 : v + (x 1).val = (y 1).val)
    (hw0 : p = (y 0).val / 128) (hw1 : q = 2 * (i 0).val + (y 1).val / 128) :
    k0_pay12 (View.readAt (Elt 𝕀) arg1.view (Rect.unit (s := S28x76) ![p, q] S1x1.size inb1).toLoadRect (harg1.unread x0) (Shape.Idx.first j))
      (View.readAt (Elt 𝕀) arg6.view (Rect.unit (s := S3584x256) ![u, v] S128x128.size inb6).toLoadRect (harg6.unread x5)) x = colsB i x0 x5 y := by
  unfold k0_pay12
  pointwise
  refine (congrArg₂ (fun a b : EReal => a * b) (harg6.readAt_unread x5 _ _) (harg1.readAt_unread x0 _ _)).trans ?_
  refine tileC i x5 x0 y _ _ ?_ ?_ ?_ ?_
  · exact (by simpa using h0)
  · exact (by simpa using h1)
  · exact (by simpa using hw0)
  · exact (by simpa using hw1)

/-- A stored tile of the rows, by where its two loads are taken. -/
theorem pieceR (i : grid0.Coords) (arg3 : Memref sig .tc .smem S76x28 .f32) (harg3 : arg3.IsWhole)
    (arg8 : Memref sig .tc .vmem S256x3584 .fp8e4m3) (harg8 : arg8.IsWhole) (x2 : Vec 𝕀 S76x28 .f32) (x7 : Vec 𝕀 S256x3584 .fp8e4m3)
    (y : S256x3584.Idx) (p q : ℕ) (inb1 : ∀ a, ![p, q] a + S1x1.size a ≤ S76x28.size a)
    (u v : ℕ) (inb6 : ∀ a, ![u, v] a + S128x128.size a ≤ S256x3584.size a) (x : S128x128.Idx) (j : 0 < S1x1.numel)
    (h0 : u + (x 0).val = (y 0).val) (h1 : v + (x 1).val = (y 1).val)
    (hw0 : p = 2 * (i 0).val + (y 0).val / 128) (hw1 : q = (y 1).val / 128) :
    k0_pay12 (View.readAt (Elt 𝕀) arg3.view (Rect.unit (s := S76x28) ![p, q] S1x1.size inb1).toLoadRect (harg3.unread x2) (Shape.Idx.first j))
      (View.readAt (Elt 𝕀) arg8.view (Rect.unit (s := S256x3584) ![u, v] S128x128.size inb6).toLoadRect (harg8.unread x7)) x = rowsB i x2 x7 y := by
  unfold k0_pay12
  pointwise
  refine (congrArg₂ (fun a b : EReal => a * b) (harg8.readAt_unread x7 _ _) (harg3.readAt_unread x2 _ _)).trans ?_
  refine tileR i x7 x2 y _ _ ?_ ?_ ?_ ?_
  · exact (by simpa using h0)
  · exact (by simpa using h1)
  · exact (by simpa using hw0)
  · exact (by simpa using hw1)

/-- The first weight's block, widened. -/
theorem w1_read (c : Dev nD) (i : grid0.Coords) (arg1) (harg1) (arg6) (harg6) (arg24) (x0) (x5) :
    kernelRun0_A.sl.v1851 (F := 𝕀) c i arg1 harg1 arg6 harg6 arg24 x0 x5 = colsB i x0 x5 := by
  unfold kernelRun0_A.sl.v1851
  rw [readCov_whole _ _ _ (by decide)]
  unfold kernelRun0_A.sl.HS0_56
  funext y
  canon_tiles x hx
  all_goals
    refine pieceC i arg1 harg1 arg6 harg6 x0 x5 y _ _ _ _ _ _ x _ ?_ ?_ ?_ ?_
    · omega
    · omega
    · omega
    · refine (off i _ (by decide)).trans ?_
      simp only [BitVec.toNat_ofNat]; omega

/-- The second weight's block, widened. -/
theorem w3_read (c : Dev nD) (i : grid0.Coords) (arg2) (harg2) (arg7) (harg7) (arg25) (x1) (x6) :
    kernelRun0_A.sl.v1857 (F := 𝕀) c i arg2 harg2 arg7 harg7 arg25 x1 x6 = colsB i x1 x6 := by
  unfold kernelRun0_A.sl.v1857
  rw [readCov_whole _ _ _ (by decide)]
  unfold kernelRun0_A.sl.HS1_56
  funext y
  canon_tiles x hx
  all_goals
    refine pieceC i arg2 harg2 arg7 harg7 x1 x6 y _ _ _ _ _ _ x _ ?_ ?_ ?_ ?_
    · omega
    · omega
    · omega
    · refine (off i _ (by decide)).trans ?_
      simp only [BitVec.toNat_ofNat]; omega

/-- The third weight's block, widened. -/
theorem w2_read (c : Dev nD) (i : grid0.Coords) (arg3) (harg3) (arg8) (harg8) (arg26) (x2) (x7) :
    kernelRun0_A.sl.v1863 (F := 𝕀) c i arg3 harg3 arg8 harg8 arg26 x2 x7 = rowsB i x2 x7 := by
  unfold kernelRun0_A.sl.v1863
  rw [readCov_whole _ _ _ (by decide)]
  unfold kernelRun0_A.sl.HS2_56
  funext y
  canon_tiles x hx
  all_goals
    refine pieceR i arg3 harg3 arg8 harg8 x2 x7 y _ _ _ _ _ _ x _ ?_ ?_ ?_ ?_
    · omega
    · omega
    · refine (off i _ (by decide)).trans ?_
      simp only [BitVec.toNat_ofNat]; omega
    · omega

end Cert.GateProof
-- ==== Proof.GateSpec.lean ====
module

public import Idealize.ShloMosaic.Lib.Pointwise

@[expose] public section

set_option maxRecDepth 16384

noncomputable section

/-! What the gate call computes, over the extended reals: three products of the widened arguments, the activation and its
    two gradients entry by entry, and each of these quantised by rows (one scale for 128 columns) and by columns (one scale
    for the 128 tokens of a sequence). -/

namespace Cert.GateProof

open Idealize.ShloMosaic

local notation "𝕀" => Idealize.ShloMosaic.Ideal

/-- An array over the sequences, their tokens and the hidden columns. -/
abbrev Hidden := Fin 12 → Fin 128 → Fin 9728 → EReal

/-- The product of the tokens with a dequantised weight of [3584, 9728] codes. -/
def prodN (x : (⟨2, ![1536, 3584]⟩ : Shape).Idx → EReal) (w : (⟨2, ![3584, 9728]⟩ : Shape).Idx → EReal)
    (s : (⟨2, ![28, 76]⟩ : Shape).Idx → EReal) : Hidden := fun b q f =>
  ∑ k : Fin 3584, x (ix2 (⟨b.val * 128 + q.val, by omega⟩ : Fin 1536) k)
    * (w (ix2 k f) * s (ix2 (⟨k.val / 128, by omega⟩ : Fin 28) (⟨f.val / 128, by omega⟩ : Fin 76)))

/-- The product of the tokens with the transpose of a dequantised weight of [9728, 3584] codes. -/
def prodT (x : (⟨2, ![1536, 3584]⟩ : Shape).Idx → EReal) (w : (⟨2, ![9728, 3584]⟩ : Shape).Idx → EReal)
    (s : (⟨2, ![76, 28]⟩ : Shape).Idx → EReal) : Hidden := fun b q f =>
  ∑ k : Fin 3584, x (ix2 (⟨b.val * 128 + q.val, by omega⟩ : Fin 1536) k)
    * (w (ix2 f k) * s (ix2 (⟨f.val / 128, by omega⟩ : Fin 76) (⟨k.val / 128, by omega⟩ : Fin 28)))

/-- The activation of one entry. -/
def act (a b : EReal) : EReal := a * Ideal.logistic a * b

/-- The gradient with respect to the first product. -/
def gradA (a b d : EReal) : EReal := d * b * Ideal.logistic a * (1 + a * (1 - Ideal.logistic a))

/-- The gradient with respect to the second product. -/
def gradB (a d : EReal) : EReal := d * a * Ideal.logistic a

/-- The greatest absolute value of a line of 128 entries. -/
def top (v : Fin 128 → EReal) : EReal :=
  Finset.univ.fold max (Ideal.ofBits .f32 0xFF800000#32) (fun k => (FloatOps.absf (F := 𝕀) (φ := .f32) (v k) : EReal))

/-- The exponent above a line's greatest absolute value times 1/448. -/
def up (M : EReal) : EReal :=
  Ideal.liftRound Int.floor (Ideal.div (Ideal.log (M * Ideal.ofBits .f32 0x3B124925#32))
    (Scalar.log (F := 𝕀) (φ := .f32) (Ideal.ofBits .f32 0x40000000#32))) + 1

/-- The exponent of a line's scale: that exponent, and 0 for a line of zeros. -/
def ex (M : EReal) : EReal := if M = 0 then 0 else up M

/-- The scale of a line whose greatest absolute value is `M`. -/
def scl (M : EReal) : EReal := FloatOps.exp2 (F := 𝕀) (φ := .f32) (ex M)

/-- The code of an entry of such a line. -/
def code (v M : EReal) : EReal :=
  min (Ideal.ofBits .f32 0x43E00000#32) (max (Ideal.ofBits .f32 0xC3E00000#32) (v * FloatOps.exp2 (F := 𝕀) (φ := .f32) (0 - ex M)))

/-- The greatest absolute value of 128 columns of a token. -/
def rowTop (V : Hidden) (b : Fin 12) (q : Fin 128) (g : Fin 76) : EReal := top fun k => V b q ⟨g.val * 128 + k.val, by omega⟩

/-- The greatest absolute value of the 128 tokens of a sequence in a column. -/
def colTop (V : Hidden) (b : Fin 12) (f : Fin 9728) : EReal := top fun k => V b k f

/-- The codes by rows. -/
def rowCode (V : Hidden) : Hidden := fun b q f => code (V b q f) (rowTop V b q ⟨f.val / 128, by omega⟩)

/-- The codes by rows, dequantised. -/
def rowWide (V : Hidden) : Hidden := fun b q f => rowCode V b q f * scl (rowTop V b q ⟨f.val / 128, by omega⟩)

/-- The codes by columns. -/
def colCode (V : Hidden) : Hidden := fun b q f => code (V b q f) (colTop V b f)

/-- An array over sequences, tokens and columns, as a [12, 128, 9728] array. -/
def at3 (V : Hidden) : (⟨3, ![12, 128, 9728]⟩ : Shape).Idx → EReal := fun i => V (i 0) (i 1) (i 2)

/-- The same as a [tokens, columns] array. -/
def at2 (V : Hidden) : (⟨2, ![1536, 9728]⟩ : Shape).Idx → EReal := fun i =>
  V ⟨(i 0).val / 128, by have := (i 0).isLt; change (i 0).val < 1536 at this; omega⟩ ⟨(i 0).val % 128, Nat.mod_lt _ (by decide)⟩ (i 1)

/-- The scales by rows, as a [12, 128, 76] array. -/
def rowScale (V : Hidden) : (⟨3, ![12, 128, 76]⟩ : Shape).Idx → EReal := fun i => scl (rowTop V (i 0) (i 1) (i 2))

/-- The scales by columns, as a [12, 1, 9728] array. -/
def colScale (V : Hidden) : (⟨3, ![12, 1, 9728]⟩ : Shape).Idx → EReal := fun i => scl (colTop V (i 0) (i 2))

/-- The activations, from the widened tokens, the two weights' codes and their scales. -/
def specH (s1 s3 : (⟨2, ![28, 76]⟩ : Shape).Idx → EReal) (x : (⟨2, ![1536, 3584]⟩ : Shape).Idx → EReal)
    (w1 w3 : (⟨2, ![3584, 9728]⟩ : Shape).Idx → EReal) : Hidden := fun b q f =>
  act (prodN x w1 s1 b q f) (prodN x w3 s3 b q f)

/-- The gradients with respect to the first product. -/
def specDA (s1 s3 : (⟨2, ![28, 76]⟩ : Shape).Idx → EReal) (s2 : (⟨2, ![76, 28]⟩ : Shape).Idx → EReal)
    (x dy : (⟨2, ![1536, 3584]⟩ : Shape).Idx → EReal) (w1 w3 : (⟨2, ![3584, 9728]⟩ : Shape).Idx → EReal)
    (w2 : (⟨2, ![9728, 3584]⟩ : Shape).Idx → EReal) : Hidden := fun b q f =>
  gradA (prodN x w1 s1 b q f) (prodN x w3 s3 b q f) (prodT dy w2 s2 b q f)

/-- The gradients with respect to the second product. -/
def specDB (s1 : (⟨2, ![28, 76]⟩ : Shape).Idx → EReal) (s2 : (⟨2, ![76, 28]⟩ : Shape).Idx → EReal)
    (x dy : (⟨2, ![1536, 3584]⟩ : Shape).Idx → EReal) (w1 : (⟨2, ![3584, 9728]⟩ : Shape).Idx → EReal)
    (w2 : (⟨2, ![9728, 3584]⟩ : Shape).Idx → EReal) : Hidden := fun b q f =>
  gradB (prodN x w1 s1 b q f) (prodT dy w2 s2 b q f)

end Cert.GateProof
-- ==== Proof.GateMax.lean ====
module

public import Idealize.ShloMosaic.Lib.Pointwise

@[expose] public section

set_option maxRecDepth 16384

noncomputable section

/-! A maximum over one axis, read at an index, for any sizes. -/

namespace Cert.GateProof

open Idealize.ShloMosaic

local notation "𝕀" => Idealize.ShloMosaic.Ideal

/-- The maximum over the last of four axes. -/
theorem max4_3 {n0 n1 n2 n3 : ℕ} (v : FVec 𝕀 (⟨4, ![n0, n1, n2, n3]⟩ : Shape) .f32) (a : BitVec 32)
    (h : (⟨4, ![n0, n1, n2, n3]⟩ : Shape).Reduces [3] (⟨3, ![n0, n1, n2]⟩ : Shape)) (hf : FKind.Formats .f32)
    (ha : a = FKind.maximumf.neutral .f32 hf) (b : Fin n0) (q : Fin n1) (g : Fin n2) :
    multiReduction .maximumf [3] (⟨3, ![n0, n1, n2]⟩ : Shape) v a h hf ha (ix3 b q g)
      = Finset.univ.fold max (Ideal.ofBits .f32 a) (fun k : Fin n3 => v (ix4 b q g k)) :=
  (multiReduction_maximumf_eq_fold v a h hf ha _).trans (h.fold_fiber_r4_a3 _ _ _ v)

/-- The maximum over the third of four axes. -/
theorem max4_2 {n0 n1 n2 n3 : ℕ} (v : FVec 𝕀 (⟨4, ![n0, n1, n2, n3]⟩ : Shape) .f32) (a : BitVec 32)
    (h : (⟨4, ![n0, n1, n2, n3]⟩ : Shape).Reduces [2] (⟨3, ![n0, n1, n3]⟩ : Shape)) (hf : FKind.Formats .f32)
    (ha : a = FKind.maximumf.neutral .f32 hf) (b : Fin n0) (q : Fin n1) (g : Fin n3) :
    multiReduction .maximumf [2] (⟨3, ![n0, n1, n3]⟩ : Shape) v a h hf ha (ix3 b q g)
      = Finset.univ.fold max (Ideal.ofBits .f32 a) (fun k : Fin n2 => v (ix4 b q k g)) :=
  (multiReduction_maximumf_eq_fold v a h hf ha _).trans (h.fold_fiber_r4_a2 _ _ _ v)

/-- The maximum over the second of two axes. -/
theorem max2_1 {n0 n1 : ℕ} (v : FVec 𝕀 (⟨2, ![n0, n1]⟩ : Shape) .f32) (a : BitVec 32)
    (h : (⟨2, ![n0, n1]⟩ : Shape).Reduces [1] (⟨1, ![n0]⟩ : Shape)) (hf : FKind.Formats .f32)
    (ha : a = FKind.maximumf.neutral .f32 hf) (q : Fin n0) :
    multiReduction .maximumf [1] (⟨1, ![n0]⟩ : Shape) v a h hf ha (ix1 q)
      = Finset.univ.fold max (Ideal.ofBits .f32 a) (fun k : Fin n1 => v (ix2 q k)) :=
  (multiReduction_maximumf_eq_fold v a h hf ha _).trans (h.fold_fiber_r2_a1 _ _ _ v)

/-- The maximum over the first of two axes. -/
theorem max2_0 {n0 n1 : ℕ} (v : FVec 𝕀 (⟨2, ![n0, n1]⟩ : Shape) .f32) (a : BitVec 32)
    (h : (⟨2, ![n0, n1]⟩ : Shape).Reduces [0] (⟨1, ![n1]⟩ : Shape)) (hf : FKind.Formats .f32)
    (ha : a = FKind.maximumf.neutral .f32 hf) (q : Fin n1) :
    multiReduction .maximumf [0] (⟨1, ![n1]⟩ : Shape) v a h hf ha (ix1 q)
      = Finset.univ.fold max (Ideal.ofBits .f32 a) (fun k : Fin n0 => v (ix2 k q)) :=
  (multiReduction_maximumf_eq_fold v a h hf ha _).trans (h.fold_fiber_r2_a0 _ _ _ v)

end Cert.GateProof
-- ==== Proof.GateTile.lean ====
module

public import proofs.«01_k».proof.Proof.Gen.GateIdeal.Skeleton
public import proofs.«01_k».proof.Proof.GateSpec
public import proofs.«01_k».proof.Proof.GateMax

@[expose] public section

set_option maxRecDepth 16384

noncomputable section

/-! The kernel's quantiser on one 128 x 128 tile: its codes and scales at an index. -/

namespace Cert.GateProof

open Cert.GateIdeal Cert.GateIdeal.Gen Idealize.ShloMosaic Idealize.ShloMosaic.TcCoe

local notation "𝕀" => Idealize.ShloMosaic.Ideal

/-- The greatest absolute values of a tile's rows. -/
theorem rmaxT (v : FVec 𝕀 S128x128 .f32) (q : Fin 128) :
    multiReduction (F := 𝕀) .maximumf [1] S128 (absf v) 0xFF800000#32 reduces_S128x128_S128 (.inl rfl) rfl (ix1 q)
      = top fun k => v (ix2 q k) :=
  max2_1 (n0 := 128) (n1 := 128) (absf v) _ reduces_S128x128_S128 _ _ q

/-- The greatest absolute values of a tile's columns. -/
theorem cmaxT (v : FVec 𝕀 S128x128 .f32) (k : Fin 128) :
    multiReduction (F := 𝕀) .maximumf [0] S128 (absf v) 0xFF800000#32 reduces_S128x128_S128_2 (.inl rfl) rfl (ix1 k)
      = top fun q => v (ix2 q k) :=
  max2_0 (n0 := 128) (n1 := 128) (absf v) _ reduces_S128x128_S128_2 _ _ k

/-! The kernel sets a line of zeros apart by its scaled maximum, and gives it the factors one. -/

theorem c_ne_zero : Ideal.ofBits .f32 0x3B124925#32 ≠ 0 := by
  simp [Ideal.ofBits, Ideal.ieee, -EReal.coe_mul]

theorem dead_iff (M : EReal) : M * Ideal.ofBits .f32 0x3B124925#32 = 0 ↔ M = 0 :=
  ⟨fun h => (mul_eq_zero.mp h).resolve_right c_ne_zero, fun h => by rw [h, zero_mul]⟩

theorem exp2_zero : (FloatOps.exp2 (F := 𝕀) (φ := .f32) (0 : EReal) : EReal) = 1 := by
  show Ideal.exp2 (((0 : ℝ) : EReal)) = 1
  rw [Ideal.exp2_coe]
  simp

theorem inv_eq (M : EReal) : (if M * Ideal.ofBits .f32 0x3B124925#32 = 0 then (1 : EReal) else FloatOps.exp2 (F := 𝕀) (φ := .f32) (0 - up M))
    = FloatOps.exp2 (F := 𝕀) (φ := .f32) (0 - ex M) := by
  unfold ex
  by_cases h : M = 0
  · rw [if_pos ((dead_iff M).mpr h), if_pos h, sub_zero, exp2_zero]
  · rw [if_neg (fun h' => h ((dead_iff M).mp h')), if_neg h]

theorem scl_eq (M : EReal) : (if M * Ideal.ofBits .f32 0x3B124925#32 = 0 then (1 : EReal) else FloatOps.exp2 (F := 𝕀) (φ := .f32) (up M))
    = scl M := by
  unfold scl ex
  by_cases h : M = 0
  · rw [if_pos ((dead_iff M).mpr h), if_pos h, exp2_zero]
  · rw [if_neg (fun h' => h ((dead_iff M).mp h')), if_neg h]

theorem pay245_of (v : FVec 𝕀 S128x128 .f32) (M : FVec 𝕀 S128 .f32)
    (hM : multiReduction (F := 𝕀) .maximumf [1] S128 (absf v) 0xFF800000#32 reduces_S128x128_S128 (.inl rfl) rfl = M) (q k : Fin 128) :
    k0_pay245 v (ix2 q k) = code (v (ix2 q k)) (M (ix1 q)) := by
  unfold k0_pay245 k0_pay242 k0_pay243 k0_pay241 code
  rw [← inv_eq]
  dsimp only
  rw [hM]
  pointwise [up]

theorem pay244_of (v : FVec 𝕀 S128x128 .f32) (M : FVec 𝕀 S128 .f32)
    (hM : multiReduction (F := 𝕀) .maximumf [1] S128 (absf v) 0xFF800000#32 reduces_S128x128_S128 (.inl rfl) rfl = M) (q k : Fin 128) :
    k0_pay244 v (ix2 q k) = scl (M (ix1 q)) := by
  unfold k0_pay244 k0_pay242 k0_pay243 k0_pay241
  rw [← scl_eq]
  dsimp only
  rw [hM]
  pointwise [up]

theorem pay251_of (v : FVec 𝕀 S128x128 .f32) (M : FVec 𝕀 S128 .f32)
    (hM : multiReduction (F := 𝕀) .maximumf [0] S128 (absf v) 0xFF800000#32 reduces_S128x128_S128_2 (.inl rfl) rfl = M) (q k : Fin 128) :
    k0_pay251 v (ix3 0 q k) = code (v (ix2 q k)) (M (ix1 k)) := by
  unfold k0_pay251 k0_pay249 k0_pay250 k0_pay248 code
  rw [← inv_eq]
  dsimp only
  rw [hM]
  pointwise [up]

theorem pay252_of (v : FVec 𝕀 S128x128 .f32) (M : FVec 𝕀 S128 .f32)
    (hM : multiReduction (F := 𝕀) .maximumf [0] S128 (absf v) 0xFF800000#32 reduces_S128x128_S128_2 (.inl rfl) rfl = M) (k : Fin 128) :
    k0_pay252 v (ix3 0 0 k) = scl (M (ix1 k)) := by
  unfold k0_pay252 k0_pay249 k0_pay250 k0_pay248
  rw [← scl_eq]
  dsimp only
  rw [hM]
  pointwise [up]

/-- A tile holds `V`. -/
def HoldsT (v : FVec 𝕀 S128x128 .f32) (V : Fin 128 → Fin 128 → EReal) : Prop := ∀ q k, v (ix2 q k) = V q k

variable {v : FVec 𝕀 S128x128 .f32} {V : Fin 128 → Fin 128 → EReal}

theorem rmaxT_apply (hv : HoldsT v V) (q : Fin 128) :
    multiReduction (F := 𝕀) .maximumf [1] S128 (absf v) 0xFF800000#32 reduces_S128x128_S128 (.inl rfl) rfl (ix1 q) = top (V q) :=
  (rmaxT v q).trans (congrArg top (funext fun k => hv q k))

theorem cmaxT_apply (hv : HoldsT v V) (k : Fin 128) :
    multiReduction (F := 𝕀) .maximumf [0] S128 (absf v) 0xFF800000#32 reduces_S128x128_S128_2 (.inl rfl) rfl (ix1 k) = top fun q => V q k :=
  (cmaxT v k).trans (congrArg top (funext fun q => hv q k))

theorem codeT_apply (hv : HoldsT v V) (q k : Fin 128) : k0_pay245 v (ix2 q k) = code (V q k) (top (V q)) :=
  (pay245_of v _ rfl q k).trans (congrArg₂ code (hv q k) (rmaxT_apply hv q))

theorem sclT_apply (hv : HoldsT v V) (q k : Fin 128) : k0_pay244 v (ix2 q k) = scl (top (V q)) :=
  (pay244_of v _ rfl q k).trans (congrArg scl (rmaxT_apply hv q))

/-- The row codes of a tile. -/
theorem rowCodeT_apply (hv : HoldsT v V) (q k : Fin 128) : k0_pay246 v (ix3 0 q k) = code (V q k) (top (V q)) := by
  rw [← codeT_apply hv q k]
  unfold k0_pay246
  generalize k0_pay245 v = w
  pointwise

/-- The column codes of a tile. -/
theorem colCodeT_apply (hv : HoldsT v V) (q k : Fin 128) : k0_pay251 v (ix3 0 q k) = code (V q k) (top fun j => V j k) :=
  (pay251_of v _ rfl q k).trans (congrArg₂ code (hv q k) (cmaxT_apply hv k))

/-- The column scales of a tile. -/
theorem colScaleT_apply (hv : HoldsT v V) (k : Fin 128) : k0_pay252 v (ix3 0 0 k) = scl (top fun j => V j k) :=
  (pay252_of v _ rfl k).trans (congrArg scl (cmaxT_apply hv k))

/-- A tile's codes by rows, dequantised in single precision. -/
def deqT (v : FVec 𝕀 S128x128 .f32) : FVec 𝕀 S128x128 .f32 := mulf (extf .f32 (k0_pay245 v) bitsLt_fp8e4m3_f32) (k0_pay244 v)

theorem deqT_holds (hv : HoldsT v V) : HoldsT (deqT v) fun q k => code (V q k) (top (V q)) * scl (top (V q)) := by
  intro q k
  refine Eq.trans ?_ (congrArg₂ (· * ·) (codeT_apply hv q k) (sclT_apply hv q k))
  unfold deqT
  generalize k0_pay245 v = w
  generalize k0_pay244 v = s
  pointwise

/-- A tile's codes by rows, widened. -/
theorem wideT_apply (hv : HoldsT v V) (q k : Fin 128) : k0_pay247 v (ix2 q k) = code (V q k) (top (V q)) * scl (top (V q)) := by
  refine Eq.trans ?_ (congrArg₂ (· * ·) (codeT_apply hv q k) (sclT_apply hv q k))
  unfold k0_pay247
  generalize k0_pay245 v = w
  generalize k0_pay244 v = s
  pointwise

variable {a b d : FVec 𝕀 S128x128 .f32} {A B D : Fin 128 → Fin 128 → EReal}

/-- The activations of a tile. -/
theorem hT_holds (ha : HoldsT a A) (hb : HoldsT b B) : HoldsT (k0_pay208 a b) fun q k => act (A q k) (B q k) := by
  intro q k
  beta_reduce
  rw [← ha q k, ← hb q k]
  unfold k0_pay208 k0_pay207
  pointwise [act]

/-- The gradients with respect to the first product. -/
theorem daT_holds (ha : HoldsT a A) (hb : HoldsT b B) (hd : HoldsT d D) :
    HoldsT (k0_pay209 a b d) fun q k => gradA (A q k) (B q k) (D q k) := by
  intro q k
  beta_reduce
  rw [← ha q k, ← hb q k, ← hd q k]
  unfold k0_pay209 k0_pay207
  pointwise [gradA]

/-- The gradients with respect to the second product. -/
theorem dbT_holds (ha : HoldsT a A) (hd : HoldsT d D) : HoldsT (k0_pay210 a d) fun q k => gradB (A q k) (D q k) := by
  intro q k
  beta_reduce
  rw [← ha q k, ← hd q k]
  unfold k0_pay210 k0_pay207
  pointwise [gradB]

end Cert.GateProof
-- ==== Proof.GateChunk.lean ====
module

public import proofs.«01_k».proof.Proof.GateScratch
public import proofs.«01_k».proof.Proof.GateTile

@[expose] public section

set_option maxRecDepth 16384

noncomputable section

/-! A 128 x 128 tile of a product, as the body loads it from the chunk of 384 tokens it has just stored. -/

namespace Cert.GateProof

open Cert.GateIdeal Cert.GateIdeal.Gen Idealize.ShloMosaic Idealize.ShloMosaic.TcCoe Idealize.SL.Sem

local notation "𝕀" => Idealize.ShloMosaic.Ideal

/-- A chunk's product with the columns. -/
theorem chunkN (X : Vec 𝕀 S384x3584 .bf16) (W : Vec 𝕀 S3584x256 .bf16) (q : Fin 384) (k : Fin 256) :
    k0_pay204 X W (ix2 q k) = ∑ p : Fin 3584, (X (ix2 q p) : EReal) * (W (ix2 p k) : EReal) := by
  unfold k0_pay204
  pointwise

/-- A chunk's product with the transposed rows. -/
theorem chunkT (X : Vec 𝕀 S384x3584 .bf16) (W : Vec 𝕀 S256x3584 .bf16) (q : Fin 384) (k : Fin 256) :
    k0_pay206 X W (ix2 q k) = ∑ p : Fin 3584, (X (ix2 q p) : EReal) * (W (ix2 k p) : EReal) := by
  unfold k0_pay206
  pointwise

/-- An array over the sequences, their tokens and a block of 256 hidden columns. -/
abbrev Blk := Fin 12 → Fin 128 → Fin 256 → EReal

/-- The product of the tokens with a block of columns. -/
def blkN (X : Vec 𝕀 S1536x3584 .bf16) (W : Vec 𝕀 S3584x256 .bf16) : Blk := fun s q k =>
  ∑ p : Fin 3584, (X (ix2 (⟨s.val * 128 + q.val, by omega⟩ : Fin 1536) p) : EReal) * (W (ix2 p k) : EReal)

/-- The product of the tokens with a transposed block of rows. -/
def blkT (X : Vec 𝕀 S1536x3584 .bf16) (W : Vec 𝕀 S256x3584 .bf16) : Blk := fun s q k =>
  ∑ p : Fin 3584, (X (ix2 (⟨s.val * 128 + q.val, by omega⟩ : Fin 1536) p) : EReal) * (W (ix2 k p) : EReal)

/-- Column `k` of the 128 columns that column `f` is among. -/
def col (f : Fin 256) (k : Fin 128) : Fin 256 := ⟨f.val / 128 * 128 + k.val, by omega⟩

/-- The tile a 128 x 128 tile of an array is: sequence `s`, and the columns that `f` is among. -/
def tileOf (V : Blk) (s : Fin 12) (f : Fin 256) : Fin 128 → Fin 128 → EReal := fun q k => V s q (col f k)

/-- Rows of the tokens, read through the buffer that holds them all. -/
theorem rows_read (arg4 : Memref sig .tc .vmem S1536x3584 .bf16) (harg4 : arg4.IsWhole) (X : Vec 𝕀 S1536x3584 .bf16) (r : ℕ)
    (inb : ∀ a, ![r, 0] a + S384x3584.size a ≤ S1536x3584.size a) (q : Fin 384) (p : Fin 3584) (h : r + q.val < 1536) :
    View.readAt (Elt 𝕀) arg4.view (Rect.unit (s := S1536x3584) ![r, 0] S384x3584.size inb).toLoadRect (harg4.unread X) (ix2 q p)
      = X (ix2 (⟨r + q.val, h⟩ : Fin 1536) p) := by
  refine (harg4.readAt_unread X _ _).trans (congrArg X ?_)
  refine (eq_ix2 _).trans (congrArg₂ ix2 (Fin.ext ?_) (Fin.ext ?_))
  · simp
  · simp

/-- A tile of the product with the columns, as it is loaded from its chunk. -/
theorem readN {v : View sig .tc .vmem S384x256 .f32} {arg4 : Memref sig .tc .vmem S1536x3584 .bf16} {harg4 : arg4.IsWhole}
    {X : Vec 𝕀 S1536x3584 .bf16} {W W' : Vec 𝕀 S3584x256 .bf16} (hW : W = W') {L : List (View.Piece (Elt 𝕀) S384x256 .f32)} {r j g : ℕ}
    {inb : ∀ a, ![r, 0] a + S384x3584.size a ≤ S1536x3584.size a} {inb0 : ∀ a, ![0, 0] a + S384x256.size a ≤ S384x256.size a}
    {inbj : ∀ a, ![j, g] a + S128x128.size a ≤ S384x256.size a} (s : Fin 12) (f : Fin 256)
    (hs : r + j = s.val * 128) (hf : g = f.val / 128 * 128) :
    HoldsT (v.readCov (⟨Rect.unit (s := S384x256) ![0, 0] S384x256.size inb0,
        k0_pay204 (View.readAt (Elt 𝕀) arg4.view (Rect.unit (s := S1536x3584) ![r, 0] S384x3584.size inb).toLoadRect (harg4.unread X)) W⟩ :: L)
        (Rect.unit (s := S384x256) ![j, g] S128x128.size inbj).toLoadRect)
      (tileOf (blkN X W') s f) := by
  subst hW
  intro q k
  have hj : j + 128 ≤ 384 := inbj 0
  rw [View.readCov_fill _ _ _ _ _ (by decide)]
  have e : (Rect.unit (s := S384x256) ![j, g] S128x128.size inbj).toLoadRect.idx (ix2 q k)
      = ix2 (⟨j + q.val, by omega⟩ : Fin 384) (col f k) := by
    refine (eq_ix2 _).trans (congrArg₂ ix2 (Fin.ext ?_) (Fin.ext ?_))
    · simp
    · simp [col, hf]
  refine (congrArg (k0_pay204 _ _) e).trans ((chunkN _ _ _ _).trans ?_)
  unfold tileOf blkN
  refine Finset.sum_congr rfl fun p _ => ?_
  refine congrArg (· * (W (ix2 p (col f k)) : EReal)) ?_
  refine (rows_read arg4 harg4 X r inb _ p (by simp only []; omega)).trans (congrArg X (congrArg (fun a => ix2 a p) (Fin.ext ?_)))
  simp only []
  omega

/-- A tile of the product with the transposed rows, as it is loaded from its chunk. -/
theorem readT {v : View sig .tc .vmem S384x256 .f32} {arg4 : Memref sig .tc .vmem S1536x3584 .bf16} {harg4 : arg4.IsWhole}
    {X : Vec 𝕀 S1536x3584 .bf16} {W W' : Vec 𝕀 S256x3584 .bf16} (hW : W = W') {L : List (View.Piece (Elt 𝕀) S384x256 .f32)} {r j g : ℕ}
    {inb : ∀ a, ![r, 0] a + S384x3584.size a ≤ S1536x3584.size a} {inb0 : ∀ a, ![0, 0] a + S384x256.size a ≤ S384x256.size a}
    {inbj : ∀ a, ![j, g] a + S128x128.size a ≤ S384x256.size a} (s : Fin 12) (f : Fin 256)
    (hs : r + j = s.val * 128) (hf : g = f.val / 128 * 128) :
    HoldsT (v.readCov (⟨Rect.unit (s := S384x256) ![0, 0] S384x256.size inb0,
        k0_pay206 (View.readAt (Elt 𝕀) arg4.view (Rect.unit (s := S1536x3584) ![r, 0] S384x3584.size inb).toLoadRect (harg4.unread X)) W⟩ :: L)
        (Rect.unit (s := S384x256) ![j, g] S128x128.size inbj).toLoadRect)
      (tileOf (blkT X W') s f) := by
  subst hW
  intro q k
  have hj : j + 128 ≤ 384 := inbj 0
  rw [View.readCov_fill _ _ _ _ _ (by decide)]
  have e : (Rect.unit (s := S384x256) ![j, g] S128x128.size inbj).toLoadRect.idx (ix2 q k)
      = ix2 (⟨j + q.val, by omega⟩ : Fin 384) (col f k) := by
    refine (eq_ix2 _).trans (congrArg₂ ix2 (Fin.ext ?_) (Fin.ext ?_))
    · simp
    · simp [col, hf]
  refine (congrArg (k0_pay206 _ _) e).trans ((chunkT _ _ _ _).trans ?_)
  unfold tileOf blkT
  refine Finset.sum_congr rfl fun p _ => ?_
  refine congrArg (· * (W (ix2 (col f k) p) : EReal)) ?_
  refine (rows_read arg4 harg4 X r inb _ p (by simp only []; omega)).trans (congrArg X (congrArg (fun a => ix2 a p) (Fin.ext ?_)))
  simp only []
  omega

end Cert.GateProof
-- ==== Proof.GatePiece.lean ====
module

public import proofs.«01_k».proof.Proof.GateChunk

@[expose] public section

set_option maxRecDepth 16384

noncomputable section

/-! What one grid point leaves in each result's block, in terms of the block of 256 columns it works on. -/

namespace Cert.GateProof

open Cert.GateIdeal Cert.GateIdeal.Gen Idealize.ShloMosaic Idealize.ShloMosaic.TcCoe Idealize.SL.Sem

local notation "𝕀" => Idealize.ShloMosaic.Ideal

/-- The greatest absolute value of the 128 columns of a token that column `f` is among. -/
def rowTopB (V : Blk) (s : Fin 12) (q : Fin 128) (f : Fin 256) : EReal := top fun k => V s q (col f k)

/-- The greatest absolute value of the 128 tokens of a sequence in a column. -/
def colTopB (V : Blk) (s : Fin 12) (f : Fin 256) : EReal := top fun q => V s q f

/-- The codes by rows. -/
def rowCodeB (V : Blk) : S12x128x256.Idx → EReal := fun y => code (V (y 0) (y 1) (y 2)) (rowTopB V (y 0) (y 1) (y 2))

/-- The codes by columns. -/
def colCodeB (V : Blk) : S12x128x256.Idx → EReal := fun y => code (V (y 0) (y 1) (y 2)) (colTopB V (y 0) (y 2))

/-- The scales by columns. -/
def colScaleB (V : Blk) : S12x1x256.Idx → EReal := fun y => scl (colTopB V (y 0) (y 2))

/-- The codes by rows, dequantised. -/
def rowWideB (V : Blk) : Blk := fun s q f => code (V s q f) (rowTopB V s q f) * scl (rowTopB V s q f)

/-- An array over sequences, tokens and columns, over all the tokens and the columns. -/
def flatB (V : Blk) : S1536x256.Idx → EReal := fun y =>
  V ⟨(y 0).val / 128, by have := (y 0).isLt; change (y 0).val < 1536 at this; omega⟩ ⟨(y 0).val % 128, Nat.mod_lt _ (by decide)⟩ (y 1)

theorem col_col (f : Fin 256) (k k' : Fin 128) : col (col f k) k' = col f k' :=
  Fin.ext (by simp only [col]; omega)

theorem col_eq (f : Fin 256) (k : Fin 128) (h : f.val = f.val / 128 * 128 + k.val) : col f k = f := Fin.ext h.symm

variable {v : FVec 𝕀 S128x128 .f32} {V : Blk}

/-- A stored tile of the codes by rows. -/
theorem rowCode_piece (y : S12x128x256.Idx) (x : S1x128x128.Idx) (hv : HoldsT v (tileOf V (y 0) (y 2)))
    (h1 : (y 1).val = (x 1).val) (h2 : (y 2).val = (y 2).val / 128 * 128 + (x 2).val) : k0_pay246 v x = rowCodeB V y := by
  have e1 : y 1 = x 1 := Fin.ext h1
  have e0 : x 0 = (0 : Fin 1) := Subsingleton.elim (α := Fin 1) _ _
  have ex : x = ix3 0 (x 1) (x 2) := (eq_ix3 x).trans (congrArg (fun a => ix3 a (x 1) (x 2)) e0)
  refine (congrArg (k0_pay246 v) ex).trans ((rowCodeT_apply hv (x 1) (x 2)).trans ?_)
  unfold rowCodeB rowTopB tileOf
  rw [col_eq (y 2) (x 2) h2, e1]

/-- A stored tile of the codes by columns. -/
theorem colCode_piece (y : S12x128x256.Idx) (x : S1x128x128.Idx) (hv : HoldsT v (tileOf V (y 0) (y 2)))
    (h1 : (y 1).val = (x 1).val) (h2 : (y 2).val = (y 2).val / 128 * 128 + (x 2).val) : k0_pay251 v x = colCodeB V y := by
  have e1 : y 1 = x 1 := Fin.ext h1
  have e0 : x 0 = (0 : Fin 1) := Subsingleton.elim (α := Fin 1) _ _
  have ex : x = ix3 0 (x 1) (x 2) := (eq_ix3 x).trans (congrArg (fun a => ix3 a (x 1) (x 2)) e0)
  refine (congrArg (k0_pay251 v) ex).trans ((colCodeT_apply hv (x 1) (x 2)).trans ?_)
  unfold colCodeB colTopB tileOf
  rw [col_eq (y 2) (x 2) h2, e1]

/-- A stored tile of the scales by columns. -/
theorem colScale_piece (y : S12x1x256.Idx) (x : S1x1x128.Idx) (hv : HoldsT v (tileOf V (y 0) (y 2)))
    (h2 : (y 2).val = (y 2).val / 128 * 128 + (x 2).val) : k0_pay252 v x = colScaleB V y := by
  have e0 : x 0 = (0 : Fin 1) := Subsingleton.elim (α := Fin 1) _ _
  have e1 : x 1 = (0 : Fin 1) := Subsingleton.elim (α := Fin 1) _ _
  have ex : x = ix3 0 0 (x 2) := (eq_ix3 x).trans (congrArg₂ (fun a b => ix3 a b (x 2)) e0 e1)
  refine (congrArg (k0_pay252 v) ex).trans ((colScaleT_apply hv (x 2)).trans ?_)
  unfold colScaleB colTopB tileOf
  rw [col_eq (y 2) (x 2) h2]

/-- A tile's codes by rows, dequantised, are the tile of the dequantised array. -/
theorem deq_tile {s : Fin 12} {f : Fin 256} (hv : HoldsT v (tileOf V s f)) : HoldsT (deqT v) (tileOf (rowWideB V) s f) := by
  intro q k
  refine (deqT_holds hv q k).trans ?_
  simp only [tileOf, rowWideB, rowTopB, col_col]
  rfl

/-- A stored tile of the dequantised array. -/
theorem wide_piece (y : S1536x256.Idx) (x : S128x128.Idx) (s : Fin 12) (hv : HoldsT v (tileOf V s (y 1)))
    (h0 : (y 0).val = s.val * 128 + (x 0).val) (h1 : (y 1).val = (y 1).val / 128 * 128 + (x 1).val) :
    k0_pay247 v x = flatB (rowWideB V) y := by
  have hx : (x 0).val < 128 := (x 0).isLt
  refine (congrArg (k0_pay247 v) (eq_ix2 x)).trans ((wideT_apply hv (x 0) (x 1)).trans ?_)
  unfold flatB
  have es : (⟨(y 0).val / 128, by have := (y 0).isLt; change (y 0).val < 1536 at this; omega⟩ : Fin 12) = s := Fin.ext (by simp only []; omega)
  have eq : (⟨(y 0).val % 128, Nat.mod_lt _ (by decide)⟩ : Fin 128) = x 0 := Fin.ext (by simp only []; omega)
  rw [es, eq]
  simp only [rowWideB, rowTopB, tileOf]
  rw [col_eq (y 1) (x 1) h1]
  rfl

end Cert.GateProof
-- ==== Proof.GateBlock.lean ====
module

public import proofs.«01_k».proof.Proof.GatePiece
public import proofs.«01_k».proof.Proof.GateIdealFrame

@[expose] public section

set_option maxRecDepth 16384

noncomputable section

/-! The three products, the activations and the two gradients in the columns of one grid point, and the tiles of them that the
body computes. -/

namespace Cert.GateProof

open Cert.GateIdeal Cert.GateIdeal.Gen Idealize.ShloMosaic Idealize.ShloMosaic.TcCoe Idealize.SL.Sem

local notation "𝕀" => Idealize.ShloMosaic.Ideal

variable (m : (ℓ : Loc nD τ sig) → Buf (Elt 𝕀) ℓ)

/-- The first product of the tokens with the point's block of weights. -/
def blkA (c : Dev nD) (t : Fin cfg0.N) : Blk := blkN (iblk m c 3 t) (colsB (grid0.coords t) (iblk m c 0 t) (iblk m c 5 t))

/-- The second product of the tokens with the point's block of weights. -/
def blkB (c : Dev nD) (t : Fin cfg0.N) : Blk := blkN (iblk m c 3 t) (colsB (grid0.coords t) (iblk m c 1 t) (iblk m c 6 t))

/-- The product of the tokens' gradients with the point's block of weights. -/
def blkD (c : Dev nD) (t : Fin cfg0.N) : Blk := blkT (iblk m c 4 t) (rowsB (grid0.coords t) (iblk m c 2 t) (iblk m c 7 t))

/-- The activations in the point's columns. -/
def blkH (c : Dev nD) (t : Fin cfg0.N) : Blk := fun s q f => act (blkA m c t s q f) (blkB m c t s q f)

/-- The gradients with respect to the first product. -/
def blkDA (c : Dev nD) (t : Fin cfg0.N) : Blk := fun s q f => gradA (blkA m c t s q f) (blkB m c t s q f) (blkD m c t s q f)

/-- The gradients with respect to the second product. -/
def blkDB (c : Dev nD) (t : Fin cfg0.N) : Blk := fun s q f => gradB (blkA m c t s q f) (blkD m c t s q f)

variable {m} {a b d : FVec 𝕀 S128x128 .f32} {c : Dev nD} {t : Fin cfg0.N} {s : Fin 12} {f : Fin 256}

theorem tileH (ha : HoldsT a (tileOf (blkA m c t) s f)) (hb : HoldsT b (tileOf (blkB m c t) s f)) :
    HoldsT (k0_pay208 a b) (tileOf (blkH m c t) s f) := hT_holds ha hb

theorem tileDA (ha : HoldsT a (tileOf (blkA m c t) s f)) (hb : HoldsT b (tileOf (blkB m c t) s f))
    (hd : HoldsT d (tileOf (blkD m c t) s f)) : HoldsT (k0_pay209 a b d) (tileOf (blkDA m c t) s f) := daT_holds ha hb hd

theorem tileDB (ha : HoldsT a (tileOf (blkA m c t) s f)) (hd : HoldsT d (tileOf (blkD m c t) s f)) :
    HoldsT (k0_pay210 a d) (tileOf (blkDB m c t) s f) := dbT_holds ha hd

end Cert.GateProof
-- ==== Proof.GateOutH.lean ====
module

public import proofs.«01_k».proof.Proof.GateBlock

@[expose] public section

set_option maxRecDepth 200000

noncomputable section

/-! What a grid point leaves in the four results' blocks that hold the activations. -/

namespace Cert.GateProof

open Cert.GateIdeal Cert.GateIdeal.Gen Idealize.ShloMosaic Idealize.ShloMosaic.TcCoe Idealize.SL.Sem

local notation "𝕀" => Idealize.ShloMosaic.Ideal

variable (m : (ℓ : Loc nD τ sig) → Buf (Elt 𝕀) ℓ)

/-- The codes by rows: activations. -/
theorem outH8 (c : Dev nD) (t : Fin cfg0.N) : (outsAt0 m c t).1 = rowCodeB (blkH m c t) := by
  unfold outsAt0 out0_A_8
  rw [View.read_writes_junk_eq_canon]
  funext y
  dsimp only [kernelRun0_A]
  canon_tiles x hx
  all_goals
    refine rowCode_piece (v := k0_pay208 _ _) y x (tileH (readN (w1_read _ _ _ _ _ _ _ _ _) (y 0) _ ?_ ?_) (readN (w3_read _ _ _ _ _ _ _ _ _) (y 0) _ ?_ ?_)) ?_ ?_
    all_goals omega

/-- The codes by columns of the dequantised: activations. -/
theorem outH10 (c : Dev nD) (t : Fin cfg0.N) : (outsAt0 m c t).2.1 = colCodeB (rowWideB (blkH m c t)) := by
  unfold outsAt0 out0_A_10
  rw [View.read_writes_junk_eq_canon]
  funext y
  dsimp only [kernelRun0_A]
  canon_tiles x hx
  all_goals
    refine colCode_piece (v := deqT (k0_pay208 _ _)) y x (deq_tile (tileH (readN (w1_read _ _ _ _ _ _ _ _ _) (y 0) _ ?_ ?_) (readN (w3_read _ _ _ _ _ _ _ _ _) (y 0) _ ?_ ?_))) ?_ ?_
    all_goals omega

/-- The scales by columns of the dequantised: activations. -/
theorem outH11 (c : Dev nD) (t : Fin cfg0.N) : (outsAt0 m c t).2.2.1 = colScaleB (rowWideB (blkH m c t)) := by
  unfold outsAt0 out0_A_11
  rw [View.read_writes_junk_eq_canon]
  funext y
  dsimp only [kernelRun0_A]
  canon_tiles x hx
  all_goals
    refine colScale_piece (v := deqT (k0_pay208 _ _)) y x (deq_tile (tileH (readN (w1_read _ _ _ _ _ _ _ _ _) (y 0) _ ?_ ?_) (readN (w3_read _ _ _ _ _ _ _ _ _) (y 0) _ ?_ ?_))) ?_
    all_goals omega

/-- The codes by rows, dequantised, in one array: activations. -/
theorem outH20 (c : Dev nD) (t : Fin cfg0.N) : (outsAt0 m c t).2.2.2.2.2.2.2.2.2.1 = flatB (rowWideB (blkH m c t)) := by
  unfold outsAt0 out0_A_20
  rw [View.read_writes_junk_eq_canon]
  funext y
  dsimp only [kernelRun0_A]
  canon_tiles x hx
  all_goals
    refine wide_piece (v := k0_pay208 _ _) y x ⟨(y 0).val / 128, by have := (y 0).isLt; change (y 0).val < 1536 at this; omega⟩ (tileH (readN (w1_read _ _ _ _ _ _ _ _ _) _ _ ?_ ?_) (readN (w3_read _ _ _ _ _ _ _ _ _) _ _ ?_ ?_)) ?_ ?_
    all_goals first | omega | (dsimp only; omega)

end Cert.GateProof
-- ==== Proof.GateOutDA.lean ====
module

public import proofs.«01_k».proof.Proof.GateBlock

@[expose] public section

set_option maxRecDepth 200000

noncomputable section

/-! What a grid point leaves in the four results' blocks that hold the gradients with respect to the first product. -/

namespace Cert.GateProof

open Cert.GateIdeal Cert.GateIdeal.Gen Idealize.ShloMosaic Idealize.ShloMosaic.TcCoe Idealize.SL.Sem

local notation "𝕀" => Idealize.ShloMosaic.Ideal

variable (m : (ℓ : Loc nD τ sig) → Buf (Elt 𝕀) ℓ)

/-- The codes by rows: gradients with respect to the first product. -/
theorem outDA12 (c : Dev nD) (t : Fin cfg0.N) : (outsAt0 m c t).2.2.2.1 = rowCodeB (blkDA m c t) := by
  unfold outsAt0 out0_A_12
  rw [View.read_writes_junk_eq_canon]
  funext y
  dsimp only [kernelRun0_A]
  canon_tiles x hx
  all_goals
    refine rowCode_piece (v := k0_pay209 _ _ _) y x (tileDA (readN (w1_read _ _ _ _ _ _ _ _ _) (y 0) _ ?_ ?_) (readN (w3_read _ _ _ _ _ _ _ _ _) (y 0) _ ?_ ?_) (readT (w2_read _ _ _ _ _ _ _ _ _) (y 0) _ ?_ ?_)) ?_ ?_
    all_goals omega

/-- The codes by columns: gradients with respect to the first product. -/
theorem outDA16 (c : Dev nD) (t : Fin cfg0.N) : (outsAt0 m c t).2.2.2.2.2.1 = colCodeB (blkDA m c t) := by
  unfold outsAt0 out0_A_16
  rw [View.read_writes_junk_eq_canon]
  funext y
  dsimp only [kernelRun0_A]
  canon_tiles x hx
  all_goals
    refine colCode_piece (v := k0_pay209 _ _ _) y x (tileDA (readN (w1_read _ _ _ _ _ _ _ _ _) (y 0) _ ?_ ?_) (readN (w3_read _ _ _ _ _ _ _ _ _) (y 0) _ ?_ ?_) (readT (w2_read _ _ _ _ _ _ _ _ _) (y 0) _ ?_ ?_)) ?_ ?_
    all_goals omega

/-- The scales by columns: gradients with respect to the first product. -/
theorem outDA17 (c : Dev nD) (t : Fin cfg0.N) : (outsAt0 m c t).2.2.2.2.2.2.1 = colScaleB (blkDA m c t) := by
  unfold outsAt0 out0_A_17
  rw [View.read_writes_junk_eq_canon]
  funext y
  dsimp only [kernelRun0_A]
  canon_tiles x hx
  all_goals
    refine colScale_piece (v := k0_pay209 _ _ _) y x (tileDA (readN (w1_read _ _ _ _ _ _ _ _ _) (y 0) _ ?_ ?_) (readN (w3_read _ _ _ _ _ _ _ _ _) (y 0) _ ?_ ?_) (readT (w2_read _ _ _ _ _ _ _ _ _) (y 0) _ ?_ ?_)) ?_
    all_goals omega

/-- The codes by rows, dequantised, in one array: gradients with respect to the first product. -/
theorem outDA21 (c : Dev nD) (t : Fin cfg0.N) : (outsAt0 m c t).2.2.2.2.2.2.2.2.2.2.1 = flatB (rowWideB (blkDA m c t)) := by
  unfold outsAt0 out0_A_21
  rw [View.read_writes_junk_eq_canon]
  funext y
  dsimp only [kernelRun0_A]
  canon_tiles x hx
  all_goals
    refine wide_piece (v := k0_pay209 _ _ _) y x ⟨(y 0).val / 128, by have := (y 0).isLt; change (y 0).val < 1536 at this; omega⟩ (tileDA (readN (w1_read _ _ _ _ _ _ _ _ _) _ _ ?_ ?_) (readN (w3_read _ _ _ _ _ _ _ _ _) _ _ ?_ ?_) (readT (w2_read _ _ _ _ _ _ _ _ _) _ _ ?_ ?_)) ?_ ?_
    all_goals first | omega | (dsimp only; omega)

end Cert.GateProof
-- ==== Proof.GateOutDB.lean ====
module

public import proofs.«01_k».proof.Proof.GateBlock

@[expose] public section

set_option maxRecDepth 200000

noncomputable section

/-! What a grid point leaves in the four results' blocks that hold the gradients with respect to the second product. -/

namespace Cert.GateProof

open Cert.GateIdeal Cert.GateIdeal.Gen Idealize.ShloMosaic Idealize.ShloMosaic.TcCoe Idealize.SL.Sem

local notation "𝕀" => Idealize.ShloMosaic.Ideal

variable (m : (ℓ : Loc nD τ sig) → Buf (Elt 𝕀) ℓ)

/-- The codes by rows: gradients with respect to the second product. -/
theorem outDB14 (c : Dev nD) (t : Fin cfg0.N) : (outsAt0 m c t).2.2.2.2.1 = rowCodeB (blkDB m c t) := by
  unfold outsAt0 out0_A_14
  rw [View.read_writes_junk_eq_canon]
  funext y
  dsimp only [kernelRun0_A]
  canon_tiles x hx
  all_goals
    refine rowCode_piece (v := k0_pay210 _ _) y x (tileDB (readN (w1_read _ _ _ _ _ _ _ _ _) (y 0) _ ?_ ?_) (readT (w2_read _ _ _ _ _ _ _ _ _) (y 0) _ ?_ ?_)) ?_ ?_
    all_goals omega

/-- The codes by columns: gradients with respect to the second product. -/
theorem outDB18 (c : Dev nD) (t : Fin cfg0.N) : (outsAt0 m c t).2.2.2.2.2.2.2.1 = colCodeB (blkDB m c t) := by
  unfold outsAt0 out0_A_18
  rw [View.read_writes_junk_eq_canon]
  funext y
  dsimp only [kernelRun0_A]
  canon_tiles x hx
  all_goals
    refine colCode_piece (v := k0_pay210 _ _) y x (tileDB (readN (w1_read _ _ _ _ _ _ _ _ _) (y 0) _ ?_ ?_) (readT (w2_read _ _ _ _ _ _ _ _ _) (y 0) _ ?_ ?_)) ?_ ?_
    all_goals omega

/-- The scales by columns: gradients with respect to the second product. -/
theorem outDB19 (c : Dev nD) (t : Fin cfg0.N) : (outsAt0 m c t).2.2.2.2.2.2.2.2.1 = colScaleB (blkDB m c t) := by
  unfold outsAt0 out0_A_19
  rw [View.read_writes_junk_eq_canon]
  funext y
  dsimp only [kernelRun0_A]
  canon_tiles x hx
  all_goals
    refine colScale_piece (v := k0_pay210 _ _) y x (tileDB (readN (w1_read _ _ _ _ _ _ _ _ _) (y 0) _ ?_ ?_) (readT (w2_read _ _ _ _ _ _ _ _ _) (y 0) _ ?_ ?_)) ?_
    all_goals omega

/-- The codes by rows, dequantised, in one array: gradients with respect to the second product. -/
theorem outDB22 (c : Dev nD) (t : Fin cfg0.N) : (outsAt0 m c t).2.2.2.2.2.2.2.2.2.2.2 = flatB (rowWideB (blkDB m c t)) := by
  unfold outsAt0 out0_A_22
  rw [View.read_writes_junk_eq_canon]
  funext y
  dsimp only [kernelRun0_A]
  canon_tiles x hx
  all_goals
    refine wide_piece (v := k0_pay210 _ _) y x ⟨(y 0).val / 128, by have := (y 0).isLt; change (y 0).val < 1536 at this; omega⟩ (tileDB (readN (w1_read _ _ _ _ _ _ _ _ _) _ _ ?_ ?_) (readT (w2_read _ _ _ _ _ _ _ _ _) _ _ ?_ ?_)) ?_ ?_
    all_goals first | omega | (dsimp only; omega)

end Cert.GateProof
-- ==== Proof.GateArray.lean ====
module

public import proofs.«01_k».proof.Proof.GateOutH
public import proofs.«01_k».proof.Proof.GateOutDA
public import proofs.«01_k».proof.Proof.GateOutDB
public import proofs.«01_k».proof.Proof.GateSpec

@[expose] public section

set_option maxRecDepth 16384

noncomputable section

/-! Twelve of the arrays that the gate call leaves (the row scales are in GateRowFrame.lean), as functions of its argument arrays. -/

namespace Cert.GateProof

open Cert.GateIdeal Cert.GateIdeal.Gen
open Idealize.ShloMosaic Idealize.ShloMosaic.TcCoe Idealize.SL.Sem
open Idealize.ShloMosaic.Pipeline (Dat)

local notation "𝕀" => Idealize.ShloMosaic.Ideal

variable (m : (ℓ : Loc nD τ sig) → Buf (Elt 𝕀) ℓ)

theorem pt_lt (t : Fin cfg0.N) : t.val < 38 := lt_of_lt_of_eq t.isLt N_0

/-- The block index of each input window at each grid point. -/
theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![t.val, 0] := (by decide +kernel : ∀ t : Fin grid0.N, _)

/-- The grid has one coordinate, the point's number. -/
theorem coord : ∀ t : Fin cfg0.N, (grid0.coords t 0).val = t.val := (by decide +kernel : ∀ t : Fin grid0.N, _)

/-- Column `f` of the block of point `t`. -/
def gcol (t : Fin cfg0.N) (f : Fin 256) : Fin 9728 := ⟨t.val * 256 + f.val, by have := pt_lt t; omega⟩

/-- A point's columns of an array. -/
def cut (V : Hidden) (t : Fin cfg0.N) : Blk := fun s q f => V s q (gcol t f)

theorem blkA_eq (c : Dev nD) (t : Fin cfg0.N) : blkA m c t = cut (prodN (m ((c : Thread nD τ).loc main_arg3)) (m ((c : Thread nD τ).loc main_arg5)) (m ((c : Thread nD τ).loc main_arg0))) t := by
  funext s q f
  unfold blkA blkN cut prodN colsB
  refine Finset.sum_congr rfl fun p _ => ?_
  have ht := pt_lt t
  blk_point [iblk, V, idx0 t, idx3 t, idx5 t]
  all_goals
    simp only [gcol, coord] <;> omega

theorem blkB_eq (c : Dev nD) (t : Fin cfg0.N) : blkB m c t = cut (prodN (m ((c : Thread nD τ).loc main_arg3)) (m ((c : Thread nD τ).loc main_arg6)) (m ((c : Thread nD τ).loc main_arg1))) t := by
  funext s q f
  unfold blkB blkN cut prodN colsB
  refine Finset.sum_congr rfl fun p _ => ?_
  have ht := pt_lt t
  blk_point [iblk, V, idx1 t, idx3 t, idx6 t]
  all_goals
    simp only [gcol, coord] <;> omega

theorem blkD_eq (c : Dev nD) (t : Fin cfg0.N) : blkD m c t = cut (prodT (m ((c : Thread nD τ).loc main_arg4)) (m ((c : Thread nD τ).loc main_arg7)) (m ((c : Thread nD τ).loc main_arg2))) t := by
  funext s q f
  unfold blkD blkT cut prodT rowsB
  refine Finset.sum_congr rfl fun p _ => ?_
  have ht := pt_lt t
  blk_point [iblk, V, idx2 t, idx4 t, idx7 t]
  all_goals
    simp only [gcol, coord] <;> omega

/-! The values of the three quantised arrays over the whole hidden width. -/

/-- The activations. -/
def valH (c : Dev nD) : Hidden :=
  specH (m ((c : Thread nD τ).loc main_arg0)) (m ((c : Thread nD τ).loc main_arg1)) (m ((c : Thread nD τ).loc main_arg3))
    (m ((c : Thread nD τ).loc main_arg5)) (m ((c : Thread nD τ).loc main_arg6))

/-- The gradients with respect to the first product. -/
def valDA (c : Dev nD) : Hidden :=
  specDA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The gradients with respect to the second product. -/
def valDB (c : Dev nD) : Hidden :=
  specDB (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg7))

theorem blkH_eq (c : Dev nD) (t : Fin cfg0.N) : blkH m c t = cut (valH m c) t := by
  funext s q f
  unfold blkH
  rw [blkA_eq, blkB_eq]
  rfl

theorem blkDA_eq (c : Dev nD) (t : Fin cfg0.N) : blkDA m c t = cut (valDA m c) t := by
  funext s q f
  unfold blkDA
  rw [blkA_eq, blkB_eq, blkD_eq]
  rfl

theorem blkDB_eq (c : Dev nD) (t : Fin cfg0.N) : blkDB m c t = cut (valDB m c) t := by
  funext s q f
  unfold blkDB
  rw [blkA_eq, blkD_eq]
  rfl

/-! Quantising a point's columns is taking the point's columns of the quantised array. -/

variable {V : Hidden} {t : Fin cfg0.N}

theorem rowTop_cut (s : Fin 12) (q : Fin 128) (f : Fin 256) :
    rowTopB (cut V t) s q f = rowTop V s q ⟨(gcol t f).val / 128, by omega⟩ := by
  unfold rowTopB rowTop cut
  refine congrArg top (funext fun k => congrArg (V s q) (Fin.ext ?_))
  simp only [gcol, col]
  omega

theorem rowCode_cut (y : S12x128x256.Idx) : rowCodeB (cut V t) y = rowCode V (y 0) (y 1) (gcol t (y 2)) := by
  exact congrArg (code (V (y 0) (y 1) (gcol t (y 2)))) (rowTop_cut (V := V) (t := t) (y 0) (y 1) (y 2))

theorem colCode_cut (y : S12x128x256.Idx) : colCodeB (cut V t) y = colCode V (y 0) (y 1) (gcol t (y 2)) := rfl

theorem colScale_cut (y : S12x1x256.Idx) : colScaleB (cut V t) y = scl (colTop V (y 0) (gcol t (y 2))) := rfl

theorem rowWide_cut : rowWideB (cut V t) = cut (rowWide V) t := by
  funext s q f
  unfold rowWideB
  rw [rowTop_cut]
  rfl

/-! Where a point's blocks lie in the results. -/

theorem idxW : ∀ t : Fin cfg0.N,
    (win0_8.index t = ![0, 0, t.val] ∧ win0_10.index t = ![0, 0, t.val] ∧ win0_11.index t = ![0, 0, t.val] ∧ win0_12.index t = ![0, 0, t.val])
    ∧ (win0_14.index t = ![0, 0, t.val] ∧ win0_16.index t = ![0, 0, t.val] ∧ win0_17.index t = ![0, 0, t.val] ∧ win0_18.index t = ![0, 0, t.val])
    ∧ win0_19.index t = ![0, 0, t.val] ∧ win0_20.index t = ![0, t.val] ∧ win0_21.index t = ![0, t.val] ∧ win0_22.index t = ![0, t.val] :=
  (by decide +kernel : ∀ t : Fin grid0.N, _)

theorem at3_of {V : Hidden} {y : S12x128x256.Idx} {i : S12x128x9728.Idx} (h0 : (i 0).val = (y 0).val) (h1 : (i 1).val = (y 1).val)
    (h2 : (i 2).val = t.val * 256 + (y 2).val) : V (y 0) (y 1) (gcol t (y 2)) = at3 V i := by
  have e0 : i 0 = y 0 := Fin.ext h0
  have e1 : i 1 = y 1 := Fin.ext h1
  have e2 : i 2 = gcol t (y 2) := Fin.ext h2
  unfold at3
  rw [e0, e1, e2]

theorem colScale_of {V : Hidden} {y : S12x1x256.Idx} {i : S12x1x9728.Idx} (h0 : (i 0).val = (y 0).val)
    (h2 : (i 2).val = t.val * 256 + (y 2).val) : scl (colTop V (y 0) (gcol t (y 2))) = colScale V i := by
  have e0 : i 0 = y 0 := Fin.ext h0
  have e2 : i 2 = gcol t (y 2) := Fin.ext h2
  unfold colScale
  rw [e0, e2]

theorem at2_of {V : Hidden} {y : S1536x256.Idx} {i : S1536x9728.Idx} (h0 : (i 0).val = (y 0).val)
    (h1 : (i 1).val = t.val * 256 + (y 1).val) : flatB (cut V t) y = at2 V i := by
  have e0 : i 0 = y 0 := Fin.ext h0
  have e1 : i 1 = gcol t (y 1) := Fin.ext h1
  unfold at2 flatB cut
  simp only [e0, e1]

/-- The codes by rows: activations. -/
theorem arr8 (c : Dev nD) : (dats m 0 c).arrAt 8 cfg0.N = at3 (rowCode (valH m c)) := by
  refine (dats m 0 c).arrAt_eq_of_covers 8 _ (by decide +kernel) fun t hf y => ?_
  blk_simp
  rw [after0_8, outH8, blkH_eq]
  refine (rowCode_cut y).trans (at3_of ?_ ?_ ?_)
  all_goals blk_simp [(idxW t).1.1]

/-- The codes by columns of the dequantised: activations. -/
theorem arr10 (c : Dev nD) : (dats m 0 c).arrAt 10 cfg0.N = at3 (colCode (rowWide (valH m c))) := by
  refine (dats m 0 c).arrAt_eq_of_covers 10 _ (by decide +kernel) fun t hf y => ?_
  blk_simp
  rw [after0_10, outH10, blkH_eq, rowWide_cut]
  refine (colCode_cut y).trans (at3_of ?_ ?_ ?_)
  all_goals blk_simp [(idxW t).1.2.1]

/-- The scales by columns of the dequantised: activations. -/
theorem arr11 (c : Dev nD) : (dats m 0 c).arrAt 11 cfg0.N = colScale (rowWide (valH m c)) := by
  refine (dats m 0 c).arrAt_eq_of_covers 11 _ (by decide +kernel) fun t hf y => ?_
  blk_simp
  rw [after0_11, outH11, blkH_eq, rowWide_cut]
  refine (colScale_cut y).trans (colScale_of ?_ ?_)
  all_goals blk_simp [(idxW t).1.2.2.1]

/-- The codes by rows, dequantised: activations. -/
theorem arr20 (c : Dev nD) : (dats m 0 c).arrAt 20 cfg0.N = at2 (rowWide (valH m c)) := by
  refine (dats m 0 c).arrAt_eq_of_covers 20 _ (by decide +kernel) fun t hf y => ?_
  blk_simp
  rw [after0_20, outH20, blkH_eq, rowWide_cut]
  refine at2_of ?_ ?_
  all_goals blk_simp [(idxW t).2.2.2.1]

/-- The codes by rows: gradients with respect to the first product. -/
theorem arr12 (c : Dev nD) : (dats m 0 c).arrAt 12 cfg0.N = at3 (rowCode (valDA m c)) := by
  refine (dats m 0 c).arrAt_eq_of_covers 12 _ (by decide +kernel) fun t hf y => ?_
  blk_simp
  rw [after0_12, outDA12, blkDA_eq]
  refine (rowCode_cut y).trans (at3_of ?_ ?_ ?_)
  all_goals blk_simp [(idxW t).1.2.2.2]

/-- The codes by columns: gradients with respect to the first product. -/
theorem arr16 (c : Dev nD) : (dats m 0 c).arrAt 16 cfg0.N = at3 (colCode (valDA m c)) := by
  refine (dats m 0 c).arrAt_eq_of_covers 16 _ (by decide +kernel) fun t hf y => ?_
  blk_simp
  rw [after0_16, outDA16, blkDA_eq]
  refine (colCode_cut y).trans (at3_of ?_ ?_ ?_)
  all_goals blk_simp [(idxW t).2.1.2.1]

/-- The scales by columns: gradients with respect to the first product. -/
theorem arr17 (c : Dev nD) : (dats m 0 c).arrAt 17 cfg0.N = colScale (valDA m c) := by
  refine (dats m 0 c).arrAt_eq_of_covers 17 _ (by decide +kernel) fun t hf y => ?_
  blk_simp
  rw [after0_17, outDA17, blkDA_eq]
  refine (colScale_cut y).trans (colScale_of ?_ ?_)
  all_goals blk_simp [(idxW t).2.1.2.2.1]

/-- The codes by rows, dequantised: gradients with respect to the first product. -/
theorem arr21 (c : Dev nD) : (dats m 0 c).arrAt 21 cfg0.N = at2 (rowWide (valDA m c)) := by
  refine (dats m 0 c).arrAt_eq_of_covers 21 _ (by decide +kernel) fun t hf y => ?_
  blk_simp
  rw [after0_21, outDA21, blkDA_eq, rowWide_cut]
  refine at2_of ?_ ?_
  all_goals blk_simp [(idxW t).2.2.2.2.1]

/-- The codes by rows: gradients with respect to the second product. -/
theorem arr14 (c : Dev nD) : (dats m 0 c).arrAt 14 cfg0.N = at3 (rowCode (valDB m c)) := by
  refine (dats m 0 c).arrAt_eq_of_covers 14 _ (by decide +kernel) fun t hf y => ?_
  blk_simp
  rw [after0_14, outDB14, blkDB_eq]
  refine (rowCode_cut y).trans (at3_of ?_ ?_ ?_)
  all_goals blk_simp [(idxW t).2.1.1]

/-- The codes by columns: gradients with respect to the second product. -/
theorem arr18 (c : Dev nD) : (dats m 0 c).arrAt 18 cfg0.N = at3 (colCode (valDB m c)) := by
  refine (dats m 0 c).arrAt_eq_of_covers 18 _ (by decide +kernel) fun t hf y => ?_
  blk_simp
  rw [after0_18, outDB18, blkDB_eq]
  refine (colCode_cut y).trans (at3_of ?_ ?_ ?_)
  all_goals blk_simp [(idxW t).2.1.2.2.2]

/-- The scales by columns: gradients with respect to the second product. -/
theorem arr19 (c : Dev nD) : (dats m 0 c).arrAt 19 cfg0.N = colScale (valDB m c) := by
  refine (dats m 0 c).arrAt_eq_of_covers 19 _ (by decide +kernel) fun t hf y => ?_
  blk_simp
  rw [after0_19, outDB19, blkDB_eq]
  refine (colScale_cut y).trans (colScale_of ?_ ?_)
  all_goals blk_simp [(idxW t).2.2.1]

/-- The codes by rows, dequantised: gradients with respect to the second product. -/
theorem arr22 (c : Dev nD) : (dats m 0 c).arrAt 22 cfg0.N = at2 (rowWide (valDB m c)) := by
  refine (dats m 0 c).arrAt_eq_of_covers 22 _ (by decide +kernel) fun t hf y => ?_
  blk_simp
  rw [after0_22, outDB22, blkDB_eq, rowWide_cut]
  refine at2_of ?_ ?_
  all_goals blk_simp [(idxW t).2.2.2.2.2]

end Cert.GateProof
-- ==== Proof.GateRow.lean ====
module

public import proofs.«01_k».proof.Proof.GatePiece
public import Idealize.ShloMosaic.Lib.WritesUnit

@[expose] public section

set_option maxRecDepth 16384

noncomputable section

/-! The windows of row scales. A grid point puts two columns of scales into a [12, 128, 76] window, one sequence after another: it
reads a sequence's rows back, chooses the new scales where the column is its own, and stores the rows again. -/

namespace Cert.GateProof

open Cert.GateIdeal Cert.GateIdeal.Gen Idealize.ShloMosaic Idealize.ShloMosaic.TcCoe Idealize.SL.Sem

local notation "𝕀" => Idealize.ShloMosaic.Ideal

/-- A sequence's rows `r` with the scales of the tile `v` in column `n`, as the body computes them. -/
def rowPay (n : BitVec 32) (v : FVec 𝕀 S128x128 .f32) (r : FVec 𝕀 S1x128x76 .f32) : FVec 𝕀 S1x128x76 .f32 :=
  shapeCast S1x128x76 (select (extractStridedSlice S128x76 ![0, 0] (cmpi .eq (iota .tc S128x128 32 [1] iota_S128x128_d1_w32) (broadcast S128x128 n)) slices_S128x128_o0_0_S128x76)
    (extractStridedSlice S128x76 ![0, 0] (k0_pay244 v) slices_S128x128_o0_0_S128x76)
    (shapeCast S128x76 r shapeCasts_S1x128x76_S128x76)) shapeCasts_S128x76_S1x128x76

theorem rowPay_of (n : BitVec 32) (v : FVec 𝕀 S128x128 .f32) (r : FVec 𝕀 S1x128x76 .f32) (w : FVec 𝕀 S128x128 .f32) (hw : k0_pay244 v = w)
    (q : Fin 128) (g : Fin 76) :
    rowPay n v r (ix3 0 q g) = if BitVec.ofNat 32 g.val = n then w (ix2 q ⟨g.val, by omega⟩) else r (ix3 0 q g) := by
  unfold rowPay
  rw [hw]
  pointwise
  by_cases h : BitVec.ofNat 32 g.val = n
  · simp [Scalar.select, IntOp.cmpi, h]
  · have h' : (BitVec.ofNat 32 g.val == n) = false := by simpa using h
    simp [Scalar.select, IntOp.cmpi, h, h']

/-- The column a point's first chunk of 128 goes to. -/
def laneA (t : ℕ) : BitVec 32 := Scalar.addi (Scalar.muli (BitVec.ofNat 32 t) 2#32) 0#32

/-- The column a point's second chunk of 128 goes to. -/
def laneB (t : ℕ) : BitVec 32 := Scalar.addi (Scalar.muli (BitVec.ofNat 32 t) 2#32) 1#32

theorem laneA_iff (t g : ℕ) (ht : t < 38) (hg : g < 76) : BitVec.ofNat 32 g = laneA t ↔ g = 2 * t := by
  simp only [laneA, Scalar.addi, Scalar.muli, IntOp.addi, IntOp.muli, ← BitVec.toNat_inj, BitVec.toNat_add, BitVec.toNat_mul, BitVec.toNat_ofNat]
  omega

theorem laneB_iff (t g : ℕ) (ht : t < 38) (hg : g < 76) : BitVec.ofNat 32 g = laneB t ↔ g = 2 * t + 1 := by
  simp only [laneB, Scalar.addi, Scalar.muli, IntOp.addi, IntOp.muli, ← BitVec.toNat_inj, BitVec.toNat_add, BitVec.toNat_mul, BitVec.toNat_ofNat]
  omega

/-- The window after a point: the point's two columns of scales over what the window held. -/
def rowNew (B : Blk) (t : ℕ) (X : S12x128x76.Idx → EReal) : S12x128x76.Idx → EReal := fun y =>
  if (y 2).val = 2 * t + 1 then scl (rowTopB B (y 0) (y 1) ⟨128, by decide⟩)
  else if (y 2).val = 2 * t then scl (rowTopB B (y 0) (y 1) ⟨0, by decide⟩) else X y

/-- The first `k` sequences of the window are as the point leaves them once the stores `L` have been made over `X`. -/
def RowsDone (M : Memref sig .tc .vmem S12x128x76 .f32) (hM : M.IsWhole) (X : S12x128x76.Idx → EReal) (B : Blk) (t k : ℕ)
    (L : List (View.Piece (Elt 𝕀) S12x128x76 .f32)) : Prop :=
  ∀ y : S12x128x76.Idx, (y 0).val < k → M.view.read (Elt 𝕀) (M.view.writes (Elt 𝕀) (hM.unread X) L) y = rowNew B t X y

theorem rowsDone_nil (M : Memref sig .tc .vmem S12x128x76 .f32) (hM : M.IsWhole) (X : S12x128x76.Idx → EReal) (B : Blk) (t : ℕ)
    (L : List (View.Piece (Elt 𝕀) S12x128x76 .f32)) : RowsDone M hM X B t 0 L := fun _ h => absurd h (Nat.not_lt_zero _)

/-- One sequence: the rows are read, the first chunk's scales put in, the rows read again and the second chunk's put in. -/
theorem rowsDone_step {M : Memref sig .tc .vmem S12x128x76 .f32} {hM : M.IsWhole} {X : S12x128x76.Idx → EReal} {B : Blk} {t k : ℕ}
    {inb inb' : ∀ a, ![k, 0, 0] a + S1x128x76.size a ≤ S12x128x76.size a} {v0 v1 : FVec 𝕀 S128x128 .f32}
    {r0 r1 : FVec 𝕀 S1x128x76 .f32} {L : List (View.Piece (Elt 𝕀) S12x128x76 .f32)} (ht : t < 38) (hk : k < 12)
    (hr0 : r0 = View.readAt (Elt 𝕀) M.view (Rect.unit (s := S12x128x76) ![k, 0, 0] S1x128x76.size inb).toLoadRect (hM.unread X))
    (hr1 : r1 = M.view.readCov ((⟨Rect.unit ![k, 0, 0] S1x128x76.size inb, rowPay (laneA t) v0 r0⟩ : View.Piece (Elt 𝕀) S12x128x76 .f32) :: L)
      (Rect.unit (s := S12x128x76) ![k, 0, 0] S1x128x76.size inb).toLoadRect)
    (h0 : HoldsT v0 (tileOf B ⟨k, hk⟩ ⟨0, by decide⟩)) (h1 : HoldsT v1 (tileOf B ⟨k, hk⟩ ⟨128, by decide⟩)) (ih : RowsDone M hM X B t k L) :
    RowsDone M hM X B t (k + 1) ((⟨Rect.unit ![k, 0, 0] S1x128x76.size inb', rowPay (laneB t) v1 r1⟩ : View.Piece (Elt 𝕀) S12x128x76 .f32)
      :: (⟨Rect.unit ![k, 0, 0] S1x128x76.size inb, rowPay (laneA t) v0 r0⟩ : View.Piece (Elt 𝕀) S12x128x76 .f32) :: L) := by
  obtain ⟨s, hs, es⟩ : ∃ s : Fin 12, ∃ hs : s.val = k, (⟨k, hk⟩ : Fin 12) = s := ⟨⟨k, hk⟩, rfl, rfl⟩
  rw [es] at h0 h1
  intro y hy
  by_cases hk' : (y 0).val < k
  · rw [View.read_writes_cons_unit_of_not_mem _ _ _ _ _ y rfl 0 (Or.inl hk'),
      View.read_writes_cons_unit_of_not_mem _ _ _ _ _ y rfl 0 (Or.inl hk')]
    exact ih y hk'
  · have e0 : y 0 = s := Fin.ext (by omega)
    have hv : (y 0).val = k := by omega
    have hr1' : r1 = rowPay (laneA t) v0 r0 := hr1.trans (View.readCov_cons_toLoadRect _ _ _ _)
    have hr0' : ∀ (q : Fin 128) (g : Fin 76), r0 (ix3 0 q g) = X (ix3 s q g) := fun q g => by
      rw [hr0]
      refine (Memref.IsWhole.readAt_unread (Val := Elt 𝕀) hM X _ _).trans (congrArg X ?_)
      funext a
      fin_cases a
      · exact Fin.ext (by show k + 1 * 0 = s.val; omega)
      · exact Fin.ext (by show 0 + 1 * q.val = q.val; omega)
      · exact Fin.ext (by show 0 + 1 * g.val = g.val; omega)
    have hx : ∀ a : Fin 3, (y a).val = ![k, 0, 0] a + ((ix3 (0 : Fin 1) (y 1) (y 2) : S1x128x76.Idx) a).val := by
      intro a
      fin_cases a
      · show (y 0).val = k + 0
        omega
      · show (y 1).val = 0 + (y 1).val
        omega
      · show (y 2).val = 0 + (y 2).val
        omega
    refine (View.read_writes_cons_unit_of_mem (s := S12x128x76) (size := S1x128x76.size) _ _ inb' _ _ y (ix3 (0 : Fin 1) (y 1) (y 2)) rfl hx).trans ?_
    have hg : (y 2).val < 76 := (y 2).isLt
    refine (rowPay_of _ _ _ _ rfl (y 1) (y 2)).trans ?_
    rw [hr1']
    unfold rowNew
    by_cases hB : (y 2).val = 2 * t + 1
    · rw [if_pos hB, if_pos ((laneB_iff t _ ht hg).mpr hB)]
      refine (sclT_apply h1 (y 1) _).trans ?_
      rw [e0]
      rfl
    · rw [if_neg hB, if_neg (fun h => hB ((laneB_iff t _ ht hg).mp h))]
      refine (rowPay_of _ _ _ _ rfl (y 1) (y 2)).trans ?_
      by_cases hA : (y 2).val = 2 * t
      · rw [if_pos hA, if_pos ((laneA_iff t _ ht hg).mpr hA)]
        refine (sclT_apply h0 (y 1) _).trans ?_
        rw [e0]
        rfl
      · rw [if_neg hA, if_neg (fun h => hA ((laneA_iff t _ ht hg).mp h))]
        refine (hr0' (y 1) (y 2)).trans ((congrArg (fun a => X (ix3 a (y 1) (y 2))) e0.symm).trans ?_)
        exact congrArg X (eq_ix3 y).symm

end Cert.GateProof

end
-- ==== Proof.GateIdealRow.lean ====
/- The run of the gate call's whole body (program `GateIdeal`) at one grid point, for the three windows of row scales alone: the body
   reads each back before it stores it, so it is handed each at named contents, and the witness is the pieces it writes over them. -/
module

public import proofs.«01_k».proof.Proof.GateIdealRuns

@[expose] public section

-- membership in a rectangle of production extents (`View.cover_of_tiled`): the elaborator's structural look
-- recurses once per coordinate of the long axes
set_option maxRecDepth 16384

noncomputable section

namespace Cert.GateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 11996000 in
/-- The pieces (last first) that the body's stores write over the contents `x9`, `x13`, `x15` of the three windows of row scales, WITH
    the proof: on whole staging memrefs, the inputs' at their contents, these three at `x9`, `x13`, `x15`, every other output and the scratch
    buffers at anything, the body runs to the continuation holding the inputs' as they were, these three with their pieces written over
    what they held, and everything else at some contents. -/
noncomputable def kernelRun0_R (c : Dev nD) (i : grid0.Coords) (arg1 : Memref sig .tc .smem S28x76 .f32) (harg1 : arg1.IsWhole) (arg2 : Memref sig .tc .smem S28x76 .f32) (harg2 : arg2.IsWhole) (arg3 : Memref sig .tc .smem S76x28 .f32) (harg3 : arg3.IsWhole) (arg4 : Memref sig .tc .vmem S1536x3584 .bf16) (harg4 : arg4.IsWhole) (arg5 : Memref sig .tc .vmem S1536x3584 .bf16) (harg5 : arg5.IsWhole) (arg6 : Memref sig .tc .vmem S3584x256 .fp8e4m3) (harg6 : arg6.IsWhole) (arg7 : Memref sig .tc .vmem S3584x256 .fp8e4m3) (harg7 : arg7.IsWhole) (arg8 : Memref sig .tc .vmem S256x3584 .fp8e4m3) (harg8 : arg8.IsWhole) (arg9 : Memref sig .tc .vmem S12x128x256 .fp8e4m3) (harg9 : arg9.IsWhole) (arg10 : Memref sig .tc .vmem S12x128x76 .f32) (harg10 : arg10.IsWhole) (arg11 : Memref sig .tc .vmem S12x128x256 .fp8e4m3) (harg11 : arg11.IsWhole) (arg12 : Memref sig .tc .vmem S12x1x256 .f32) (harg12 : arg12.IsWhole) (arg13 : Memref sig .tc .vmem S12x128x256 .fp8e4m3) (harg13 : arg13.IsWhole) (arg14 : Memref sig .tc .vmem S12x128x76 .f32) (harg14 : arg14.IsWhole) (arg15 : Memref sig .tc .vmem S12x128x256 .fp8e4m3) (harg15 : arg15.IsWhole) (arg16 : Memref sig .tc .vmem S12x128x76 .f32) (harg16 : arg16.IsWhole) (arg17 : Memref sig .tc .vmem S12x128x256 .fp8e4m3) (harg17 : arg17.IsWhole) (arg18 : Memref sig .tc .vmem S12x1x256 .f32) (harg18 : arg18.IsWhole) (arg19 : Memref sig .tc .vmem S12x128x256 .fp8e4m3) (harg19 : arg19.IsWhole) (arg20 : Memref sig .tc .vmem S12x1x256 .f32) (harg20 : arg20.IsWhole) (arg21 : Memref sig .tc .vmem S1536x256 .bf16) (harg21 : arg21.IsWhole) (arg22 : Memref sig .tc .vmem S1536x256 .bf16) (harg22 : arg22.IsWhole) (arg23 : Memref sig .tc .vmem S1536x256 .bf16) (harg23 : arg23.IsWhole) (arg24 : Memref sig .tc .vmem S3584x256 .bf16) (harg24 : arg24.IsWhole) (arg25 : Memref sig .tc .vmem S3584x256 .bf16) (harg25 : arg25.IsWhole) (arg26 : Memref sig .tc .vmem S256x3584 .bf16) (harg26 : arg26.IsWhole) (arg27 : Memref sig .tc .vmem S384x256 .f32) (harg27 : arg27.IsWhole) (arg28 : Memref sig .tc .vmem S384x256 .f32) (harg28 : arg28.IsWhole) (arg29 : Memref sig .tc .vmem S384x256 .f32) (harg29 : arg29.IsWhole)
    (x0 : Vec F S28x76 .f32) (x1 : Vec F S28x76 .f32) (x2 : Vec F S76x28 .f32) (x3 : Vec F S1536x3584 .bf16) (x4 : Vec F S1536x3584 .bf16) (x5 : Vec F S3584x256 .fp8e4m3) (x6 : Vec F S3584x256 .fp8e4m3) (x7 : Vec F S256x3584 .fp8e4m3)
    (x9 x13 x15 : Vec F S12x128x76 .f32) :
    Σ' (L9 : List (View.Piece (Elt F) S12x128x76 .f32)), Σ' (L13 : List (View.Piece (Elt F) S12x128x76 .f32)), { L15 : List (View.Piece (Elt F) S12x128x76 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x13 ∗ (∃ d, owns (c : Thread nD τ) arg15 fullShare d) ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (arg10.view.loc (c : Thread nD τ) ↦[arg10.view.set]{fullShare} arg10.view.writes (Elt F) (harg10.unread x9) L9) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} arg14.view.writes (Elt F) (harg14.unread x13) L13) ∗ (∃ d, owns (c : Thread nD τ) arg15 fullShare d) ∗ (arg16.view.loc (c : Thread nD τ) ↦[arg16.view.set]{fullShare} arg16.view.writes (Elt F) (harg16.unread x15) L15) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0_gate i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?L9, ?L13, ?L15, fun E K => ?run⟩
  case run =>
    simp only [cc0_gate_eq_skeleton]; unfold cc0_gate_skel
    simp only [k0_part211_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part212_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part213_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part214_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, ⟨%d12, %f12, -, H12⟩, ⟨%f13, %hf13, H13⟩, ⟨%d14, %f14, -, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg14.eq_unread hf13; obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]; · iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]; · iexact H13
    isplitl [H14]
    · iexists _, _; isplitr; swap; · iexact H14
      ipureintro; rfl
    isplitl [H15]; · iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl
  all_goals exact []

end Cert.GateIdeal.Gen

end
-- ==== Proof.GateRowOut.lean ====
module

public import proofs.«01_k».proof.Proof.GateRow
public import proofs.«01_k».proof.Proof.GateIdealRow
public import proofs.«01_k».proof.Proof.GateBlock

@[expose] public section

set_option maxRecDepth 200000

noncomputable section

/-! What a grid point leaves in the three windows of row scales. -/

namespace Cert.GateProof

open Cert.GateIdeal Cert.GateIdeal.Gen Idealize.ShloMosaic Idealize.ShloMosaic.TcCoe Idealize.SL.Sem

local notation "𝕀" => Idealize.ShloMosaic.Ideal

theorem w1_readR (c : Dev nD) (i : grid0.Coords) (arg1) (harg1) (arg6) (harg6) (arg24) (x0) (x5) :
    kernelRun0_R.sl.v1851 (F := 𝕀) c i arg1 harg1 arg6 harg6 arg24 x0 x5 = colsB i x0 x5 := w1_read c i arg1 harg1 arg6 harg6 arg24 x0 x5

theorem w3_readR (c : Dev nD) (i : grid0.Coords) (arg2) (harg2) (arg7) (harg7) (arg25) (x1) (x6) :
    kernelRun0_R.sl.v1857 (F := 𝕀) c i arg2 harg2 arg7 harg7 arg25 x1 x6 = colsB i x1 x6 := w3_read c i arg2 harg2 arg7 harg7 arg25 x1 x6

theorem w2_readR (c : Dev nD) (i : grid0.Coords) (arg3) (harg3) (arg8) (harg8) (arg26) (x2) (x7) :
    kernelRun0_R.sl.v1863 (F := 𝕀) c i arg3 harg3 arg8 harg8 arg26 x2 x7 = rowsB i x2 x7 := w2_read c i arg3 harg3 arg8 harg8 arg26 x2 x7

variable (m : (ℓ : Loc nD τ sig) → Buf (Elt 𝕀) ℓ)

/-- The run of the body at a grid point, the windows of row scales found at `X9`, `X13` and `X15`. -/
abbrev rowRun (c : Dev nD) (t : Fin cfg0.N) (X9 X13 X15 : S12x128x76.Idx → EReal) :=
  kernelRun0_R (F := 𝕀) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) X9 X13 X15

/-- One sequence, its two stored rows given up to equations. -/
theorem rowsDone_two {M : Memref sig .tc .vmem S12x128x76 .f32} {hM : M.IsWhole} {X : S12x128x76.Idx → EReal} {B : Blk} {t k : ℕ}
    {inb inb' : ∀ a, ![k, 0, 0] a + S1x128x76.size a ≤ S12x128x76.size a} {x x' r0 r1 : FVec 𝕀 S1x128x76 .f32}
    {L : List (View.Piece (Elt 𝕀) S12x128x76 .f32)} (v0 v1 : FVec 𝕀 S128x128 .f32)
    (hx : x = rowPay (laneB t) v1 r1) (hx' : x' = rowPay (laneA t) v0 r0) (hk : k < 12)
    (hr0 : r0 = View.readAt (Elt 𝕀) M.view (Rect.unit (s := S12x128x76) ![k, 0, 0] S1x128x76.size inb).toLoadRect (hM.unread X))
    (hr1 : r1 = M.view.readCov ((⟨Rect.unit ![k, 0, 0] S1x128x76.size inb, x'⟩ : View.Piece (Elt 𝕀) S12x128x76 .f32) :: L)
      (Rect.unit (s := S12x128x76) ![k, 0, 0] S1x128x76.size inb).toLoadRect)
    (h0 : HoldsT v0 (tileOf B ⟨k, hk⟩ ⟨0, by decide⟩)) (h1 : HoldsT v1 (tileOf B ⟨k, hk⟩ ⟨128, by decide⟩)) (ht : t < 38)
    (ih : RowsDone M hM X B t k L) :
    RowsDone M hM X B t (k + 1) ((⟨Rect.unit ![k, 0, 0] S1x128x76.size inb', x⟩ : View.Piece (Elt 𝕀) S12x128x76 .f32)
      :: (⟨Rect.unit ![k, 0, 0] S1x128x76.size inb, x'⟩ : View.Piece (Elt 𝕀) S12x128x76 .f32) :: L) := by
  subst hx
  subst hx'
  exact rowsDone_step ht hk hr0 hr1 h0 h1 ih

set_option maxHeartbeats 4000000 in
/-- The row scales of the activations. -/
theorem rows9 (c : Dev nD) (t : Fin cfg0.N) (X9 X13 X15 : S12x128x76.Idx → EReal) :
    RowsDone (ms0_9 t) (hs0_9 t) X9 (blkH m c t) (grid0.coords t 0).val 12 (rowRun m c t X9 X13 X15).1 := by
  dsimp only [rowRun, kernelRun0_R]
  iterate 12
    apply rowsDone_two (v0 := k0_pay208 _ _) (v1 := k0_pay208 _ _)
    case hx =>
      try unfold k0_pay1260 kernelRun0_R.sl.r_540 kernelRun0_R.sl.r_541 k0_pay1258 k0_pay1259 rowPay
      exact rfl
    case hx' => exact rfl
    case hk => decide
    case hr0 => rfl
    case hr1 => rfl
    case h0 => exact tileH (readN (w1_readR _ _ _ _ _ _ _ _ _) _ _ (by simp) (by simp)) (readN (w3_readR _ _ _ _ _ _ _ _ _) _ _ (by simp) (by simp))
    case h1 => exact tileH (readN (w1_readR _ _ _ _ _ _ _ _ _) _ _ (by simp) (by simp)) (readN (w3_readR _ _ _ _ _ _ _ _ _) _ _ (by simp) (by simp))
    case ht => exact coord_lt (grid0.coords t)
  exact rowsDone_nil _ _ _ _ _ _

set_option maxHeartbeats 4000000 in
/-- The row scales of the gradients with respect to the first product. -/
theorem rows13 (c : Dev nD) (t : Fin cfg0.N) (X9 X13 X15 : S12x128x76.Idx → EReal) :
    RowsDone (ms0_13 t) (hs0_13 t) X13 (blkDA m c t) (grid0.coords t 0).val 12 (rowRun m c t X9 X13 X15).2.1 := by
  dsimp only [rowRun, kernelRun0_R]
  iterate 12
    apply rowsDone_two (v0 := k0_pay209 _ _ _) (v1 := k0_pay209 _ _ _)
    case hx =>
      try unfold k0_pay1 kernelRun0_R.sl.r_616 kernelRun0_R.sl.r_617 k0_pay1469 k0_pay1470 rowPay
      exact rfl
    case hx' => exact rfl
    case hk => decide
    case hr0 => rfl
    case hr1 => rfl
    case h0 => exact tileDA (readN (w1_readR _ _ _ _ _ _ _ _ _) _ _ (by simp) (by simp)) (readN (w3_readR _ _ _ _ _ _ _ _ _) _ _ (by simp) (by simp)) (readT (w2_readR _ _ _ _ _ _ _ _ _) _ _ (by simp) (by simp))
    case h1 => exact tileDA (readN (w1_readR _ _ _ _ _ _ _ _ _) _ _ (by simp) (by simp)) (readN (w3_readR _ _ _ _ _ _ _ _ _) _ _ (by simp) (by simp)) (readT (w2_readR _ _ _ _ _ _ _ _ _) _ _ (by simp) (by simp))
    case ht => exact coord_lt (grid0.coords t)
  exact rowsDone_nil _ _ _ _ _ _

set_option maxHeartbeats 4000000 in
/-- The row scales of the gradients with respect to the second product. -/
theorem rows15 (c : Dev nD) (t : Fin cfg0.N) (X9 X13 X15 : S12x128x76.Idx → EReal) :
    RowsDone (ms0_15 t) (hs0_15 t) X15 (blkDB m c t) (grid0.coords t 0).val 12 (rowRun m c t X9 X13 X15).2.2.1 := by
  dsimp only [rowRun, kernelRun0_R]
  iterate 12
    apply rowsDone_two (v0 := k0_pay210 _ _) (v1 := k0_pay210 _ _)
    case hx =>
      exact rfl
    case hx' => exact rfl
    case hk => decide
    case hr0 => rfl
    case hr1 => rfl
    case h0 => exact tileDB (readN (w1_readR _ _ _ _ _ _ _ _ _) _ _ (by simp) (by simp)) (readT (w2_readR _ _ _ _ _ _ _ _ _) _ _ (by simp) (by simp))
    case h1 => exact tileDB (readN (w1_readR _ _ _ _ _ _ _ _ _) _ _ (by simp) (by simp)) (readT (w2_readR _ _ _ _ _ _ _ _ _) _ _ (by simp) (by simp))
    case ht => exact coord_lt (grid0.coords t)
  exact rowsDone_nil _ _ _ _ _ _

end Cert.GateProof

end
-- ==== Proof.GateRowFrame.lean ====
module

public import proofs.«01_k».proof.Proof.GateRowOut
public import proofs.«01_k».proof.Proof.GateArray
public import proofs.«01_k».proof.Proof.GateIdealValue
public import Idealize.ShloMosaic.Lib.Pipeline.DatRel
public import Idealize.ShloMosaic.Lib.Pipeline.ArrRel

@[expose] public section

set_option maxRecDepth 200000

noncomputable section

/-! The run of the gate call with the three windows of row scales followed from point to point. A point puts two columns into each
of them and keeps the others, so after point `t` the first `2 * (t + 1)` columns are the row scales, whatever the windows held at
first; after the last point the whole arrays are. -/

namespace Cert.GateProof

open Cert.GateIdeal Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

local notation "𝕀" => Idealize.ShloMosaic.Ideal
local notation "𝕄" => MT nD τ sig Unit (Elt Idealize.ShloMosaic.Ideal) ℕ (UR sig nD τ) ℕ

variable (m : (ℓ : Loc nD τ sig) → Buf (Elt 𝕀) ℓ) (ρ : Dev nD → PrngReg)

/-- The columns of the first `n` points are the row scales of `V`. -/
def UpTo (V : Hidden) (n : ℕ) (X : S12x128x76.Idx → EReal) : Prop := ∀ y : S12x128x76.Idx, (y 2).val < 2 * n → X y = rowScale V y

/-- A point's two columns over a window in which the columns before are done. -/
theorem upTo_succ {V : Hidden} {t : Fin cfg0.N} {X Y : S12x128x76.Idx → EReal} (hX : ∀ y, X y = rowNew (cut V t) t.val Y y)
    (hY : t.val ≠ 0 → UpTo V t.val Y) : UpTo V (t.val + 1) X := by
  intro y hy
  rw [hX y]
  unfold rowNew
  split_ifs with h1 h0
  · refine congrArg scl ((rowTop_cut _ _ _).trans (congrArg (rowTop V (y 0) (y 1)) (Fin.ext ?_)))
    show (t.val * 256 + 128) / 128 = (y 2).val
    omega
  · refine congrArg scl ((rowTop_cut _ _ _).trans (congrArg (rowTop V (y 0) (y 1)) (Fin.ext ?_)))
    show (t.val * 256 + 0) / 128 = (y 2).val
    omega
  · exact hY (by omega) y (by omega)

/-- The windows of which a relation is followed: the outputs. -/
def rowMark : Fin 23 → Bool := fun w => decide (8 ≤ w.val)

/-- What is known of an output window after a point: of a window of row scales, that the columns so far are done. -/
def rowRel (c : Dev nD) (w : Fin cfg0.W) (t : Fin cfg0.N) (X : (cfg0.win w).block.Idx → Elt 𝕀 (cfg0.win w).elt) : Prop :=
  match w, X with
  | ⟨9, _⟩, X => UpTo (valH m c) (t.val + 1) X
  | ⟨13, _⟩, X => UpTo (valDA m c) (t.val + 1) X
  | ⟨15, _⟩, X => UpTo (valDB m c) (t.val + 1) X
  | _, _ => True

/-- What a point after the first finds in window 9: the columns of the points before it are done. -/
theorem found9 (c : Dev nD) (t : Fin cfg0.N) (Y : S12x128x76.Idx → EReal)
    (h : ((dats m 0 c).toRRel rowMark (rowRel m c)).Finds 9 t Y) (ht : t.val ≠ 0) : UpTo (valH m c) t.val Y := by
  rcases (Pipeline.RDat.finds_of_pos ((dats m 0 c).toRRel rowMark (rowRel m c)) (w := 9) rfl ht Y).mp h with h | h
  · have := (flush0_9 _).mp h
    have := pt_lt t
    simp only at *
    omega
  · have h' : UpTo (valH m c) (t.val - 1 + 1) Y := Dat.toRRel_leaves _ rfl h
    rwa [Nat.sub_add_cancel (Nat.pos_of_ne_zero ht)] at h'

/-- What a point leaves in window 9: its own columns are done too. -/
theorem left9 (c : Dev nD) (t : Fin cfg0.N) (X9 X13 X15 : S12x128x76.Idx → EReal)
    (h : ((dats m 0 c).toRRel rowMark (rowRel m c)).Finds 9 t X9) :
    UpTo (valH m c) (t.val + 1) ((ms0_9 t).view.read (Elt 𝕀) ((ms0_9 t).view.writes (Elt 𝕀) ((hs0_9 t).unread X9) (rowRun m c t X9 X13 X15).1)) :=
  upTo_succ (fun y => by
    rw [← blkH_eq, ← coord t]
    exact rows9 m c t X9 X13 X15 y (y 0).isLt) (found9 m c t X9 h)

/-- What a point after the first finds in window 13: the columns of the points before it are done. -/
theorem found13 (c : Dev nD) (t : Fin cfg0.N) (Y : S12x128x76.Idx → EReal)
    (h : ((dats m 0 c).toRRel rowMark (rowRel m c)).Finds 13 t Y) (ht : t.val ≠ 0) : UpTo (valDA m c) t.val Y := by
  rcases (Pipeline.RDat.finds_of_pos ((dats m 0 c).toRRel rowMark (rowRel m c)) (w := 13) rfl ht Y).mp h with h | h
  · have := (flush0_13 _).mp h
    have := pt_lt t
    simp only at *
    omega
  · have h' : UpTo (valDA m c) (t.val - 1 + 1) Y := Dat.toRRel_leaves _ rfl h
    rwa [Nat.sub_add_cancel (Nat.pos_of_ne_zero ht)] at h'

/-- What a point leaves in window 13: its own columns are done too. -/
theorem left13 (c : Dev nD) (t : Fin cfg0.N) (X9 X13 X15 : S12x128x76.Idx → EReal)
    (h : ((dats m 0 c).toRRel rowMark (rowRel m c)).Finds 13 t X13) :
    UpTo (valDA m c) (t.val + 1) ((ms0_13 t).view.read (Elt 𝕀) ((ms0_13 t).view.writes (Elt 𝕀) ((hs0_13 t).unread X13) (rowRun m c t X9 X13 X15).2.1)) :=
  upTo_succ (fun y => by
    rw [← blkDA_eq, ← coord t]
    exact rows13 m c t X9 X13 X15 y (y 0).isLt) (found13 m c t X13 h)

/-- What a point after the first finds in window 15: the columns of the points before it are done. -/
theorem found15 (c : Dev nD) (t : Fin cfg0.N) (Y : S12x128x76.Idx → EReal)
    (h : ((dats m 0 c).toRRel rowMark (rowRel m c)).Finds 15 t Y) (ht : t.val ≠ 0) : UpTo (valDB m c) t.val Y := by
  rcases (Pipeline.RDat.finds_of_pos ((dats m 0 c).toRRel rowMark (rowRel m c)) (w := 15) rfl ht Y).mp h with h | h
  · have := (flush0_15 _).mp h
    have := pt_lt t
    simp only at *
    omega
  · have h' : UpTo (valDB m c) (t.val - 1 + 1) Y := Dat.toRRel_leaves _ rfl h
    rwa [Nat.sub_add_cancel (Nat.pos_of_ne_zero ht)] at h'

/-- What a point leaves in window 15: its own columns are done too. -/
theorem left15 (c : Dev nD) (t : Fin cfg0.N) (X9 X13 X15 : S12x128x76.Idx → EReal)
    (h : ((dats m 0 c).toRRel rowMark (rowRel m c)).Finds 15 t X15) :
    UpTo (valDB m c) (t.val + 1) ((ms0_15 t).view.read (Elt 𝕀) ((ms0_15 t).view.writes (Elt 𝕀) ((hs0_15 t).unread X15) (rowRun m c t X9 X13 X15).2.2.1)) :=
  upTo_succ (fun y => by
    rw [← blkDB_eq, ← coord t]
    exact rows15 m c t X9 X13 X15 y (y 0).isLt) (found15 m c t X15 h)

/-- What the body is called with at point `t`, -/
def rowPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜((dats m 0 c).toRRel rowMark (rowRel m c)).Finds 8 t Y⌝ ∗ owns (c : Thread nD τ) (ms0_8 t) fullShare Y)
    ∗ (∃ Y, ⌜((dats m 0 c).toRRel rowMark (rowRel m c)).Finds 9 t Y⌝ ∗ owns (c : Thread nD τ) (ms0_9 t) fullShare Y)
    ∗ (∃ Y, ⌜((dats m 0 c).toRRel rowMark (rowRel m c)).Finds 10 t Y⌝ ∗ owns (c : Thread nD τ) (ms0_10 t) fullShare Y)
    ∗ (∃ Y, ⌜((dats m 0 c).toRRel rowMark (rowRel m c)).Finds 11 t Y⌝ ∗ owns (c : Thread nD τ) (ms0_11 t) fullShare Y)
    ∗ (∃ Y, ⌜((dats m 0 c).toRRel rowMark (rowRel m c)).Finds 12 t Y⌝ ∗ owns (c : Thread nD τ) (ms0_12 t) fullShare Y)
    ∗ (∃ Y, ⌜((dats m 0 c).toRRel rowMark (rowRel m c)).Finds 13 t Y⌝ ∗ owns (c : Thread nD τ) (ms0_13 t) fullShare Y)
    ∗ (∃ Y, ⌜((dats m 0 c).toRRel rowMark (rowRel m c)).Finds 14 t Y⌝ ∗ owns (c : Thread nD τ) (ms0_14 t) fullShare Y)
    ∗ (∃ Y, ⌜((dats m 0 c).toRRel rowMark (rowRel m c)).Finds 15 t Y⌝ ∗ owns (c : Thread nD τ) (ms0_15 t) fullShare Y)
    ∗ (∃ Y, ⌜((dats m 0 c).toRRel rowMark (rowRel m c)).Finds 16 t Y⌝ ∗ owns (c : Thread nD τ) (ms0_16 t) fullShare Y)
    ∗ (∃ Y, ⌜((dats m 0 c).toRRel rowMark (rowRel m c)).Finds 17 t Y⌝ ∗ owns (c : Thread nD τ) (ms0_17 t) fullShare Y)
    ∗ (∃ Y, ⌜((dats m 0 c).toRRel rowMark (rowRel m c)).Finds 18 t Y⌝ ∗ owns (c : Thread nD τ) (ms0_18 t) fullShare Y)
    ∗ (∃ Y, ⌜((dats m 0 c).toRRel rowMark (rowRel m c)).Finds 19 t Y⌝ ∗ owns (c : Thread nD τ) (ms0_19 t) fullShare Y)
    ∗ (∃ Y, ⌜((dats m 0 c).toRRel rowMark (rowRel m c)).Finds 20 t Y⌝ ∗ owns (c : Thread nD τ) (ms0_20 t) fullShare Y)
    ∗ (∃ Y, ⌜((dats m 0 c).toRRel rowMark (rowRel m c)).Finds 21 t Y⌝ ∗ owns (c : Thread nD τ) (ms0_21 t) fullShare Y)
    ∗ (∃ Y, ⌜((dats m 0 c).toRRel rowMark (rowRel m c)).Finds 22 t Y⌝ ∗ owns (c : Thread nD τ) (ms0_22 t) fullShare Y))

/-- and what it returns. -/
def rowPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜rowRel m c 8 t X⌝ ∗ owns (c : Thread nD τ) (ms0_8 t) fullShare X)
    ∗ (∃ X, ⌜rowRel m c 9 t X⌝ ∗ owns (c : Thread nD τ) (ms0_9 t) fullShare X)
    ∗ (∃ X, ⌜rowRel m c 10 t X⌝ ∗ owns (c : Thread nD τ) (ms0_10 t) fullShare X)
    ∗ (∃ X, ⌜rowRel m c 11 t X⌝ ∗ owns (c : Thread nD τ) (ms0_11 t) fullShare X)
    ∗ (∃ X, ⌜rowRel m c 12 t X⌝ ∗ owns (c : Thread nD τ) (ms0_12 t) fullShare X)
    ∗ (∃ X, ⌜rowRel m c 13 t X⌝ ∗ owns (c : Thread nD τ) (ms0_13 t) fullShare X)
    ∗ (∃ X, ⌜rowRel m c 14 t X⌝ ∗ owns (c : Thread nD τ) (ms0_14 t) fullShare X)
    ∗ (∃ X, ⌜rowRel m c 15 t X⌝ ∗ owns (c : Thread nD τ) (ms0_15 t) fullShare X)
    ∗ (∃ X, ⌜rowRel m c 16 t X⌝ ∗ owns (c : Thread nD τ) (ms0_16 t) fullShare X)
    ∗ (∃ X, ⌜rowRel m c 17 t X⌝ ∗ owns (c : Thread nD τ) (ms0_17 t) fullShare X)
    ∗ (∃ X, ⌜rowRel m c 18 t X⌝ ∗ owns (c : Thread nD τ) (ms0_18 t) fullShare X)
    ∗ (∃ X, ⌜rowRel m c 19 t X⌝ ∗ owns (c : Thread nD τ) (ms0_19 t) fullShare X)
    ∗ (∃ X, ⌜rowRel m c 20 t X⌝ ∗ owns (c : Thread nD τ) (ms0_20 t) fullShare X)
    ∗ (∃ X, ⌜rowRel m c 21 t X⌝ ∗ owns (c : Thread nD τ) (ms0_21 t) fullShare X)
    ∗ (∃ X, ⌜rowRel m c 22 t X⌝ ∗ owns (c : Thread nD τ) (ms0_22 t) fullShare X))

set_option maxHeartbeats 4000000 in
/-- The body at any point: the run of the body from what the windows of row scales are found to hold. -/
theorem sound_row (c : Dev nD) (t : Fin cfg0.N) :
    rowPre m c t ⊢ wp frame (wpE (defs₀ (F := 𝕀)) Variants.none c none) Set.univ (bodyAt0 t) (fun _ => rowPost m c t) := by
  unfold rowPre rowPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %h8, H8⟩, ⟨%d9, %h9, H9⟩, ⟨%d10, %h10, H10⟩, ⟨%d11, %h11, H11⟩, ⟨%d12, %h12, H12⟩, ⟨%d13, %h13, H13⟩, ⟨%d14, %h14, H14⟩, ⟨%d15, %h15, H15⟩, ⟨%d16, %h16, H16⟩, ⟨%d17, %h17, H17⟩, ⟨%d18, %h18, H18⟩, ⟨%d19, %h19, H19⟩, ⟨%d20, %h20, H20⟩, ⟨%d21, %h21, H21⟩, ⟨%d22, %h22, H22⟩⟩
  iapply ((rowRun m c t d9 d13 d15).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [H11]; · iexists _; iexact H11
  isplitl [H12]; · iexists _; iexact H12
  isplitl [H13]; · iexact H13
  isplitl [H14]; · iexists _; iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%e8, H8⟩, H9, ⟨%e10, H10⟩, ⟨%e11, H11⟩, ⟨%e12, H12⟩, H13, ⟨%e14, H14⟩, H15, ⟨%e16, H16⟩, ⟨%e17, H17⟩, ⟨%e18, H18⟩, ⟨%e19, H19⟩, ⟨%e20, H20⟩, ⟨%e21, H21⟩, ⟨%e22, H22⟩, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists e8; isplitr
    · ipureintro; trivial
    · iexact H8
  isplitl [H9]
  · iexists (ms0_9 t).view.read (Elt 𝕀) ((ms0_9 t).view.writes (Elt 𝕀) ((hs0_9 t).unread d9) (rowRun m c t d9 d13 d15).1); isplitr
    · ipureintro; exact left9 m c t d9 d13 d15 h9
    · unfold owns; iexists _; isplitr
      swap; · iexact H9
      ipureintro; rfl
  isplitl [H10]
  · iexists e10; isplitr
    · ipureintro; trivial
    · iexact H10
  isplitl [H11]
  · iexists e11; isplitr
    · ipureintro; trivial
    · iexact H11
  isplitl [H12]
  · iexists e12; isplitr
    · ipureintro; trivial
    · iexact H12
  isplitl [H13]
  · iexists (ms0_13 t).view.read (Elt 𝕀) ((ms0_13 t).view.writes (Elt 𝕀) ((hs0_13 t).unread d13) (rowRun m c t d9 d13 d15).2.1); isplitr
    · ipureintro; exact left13 m c t d9 d13 d15 h13
    · unfold owns; iexists _; isplitr
      swap; · iexact H13
      ipureintro; rfl
  isplitl [H14]
  · iexists e14; isplitr
    · ipureintro; trivial
    · iexact H14
  isplitl [H15]
  · iexists (ms0_15 t).view.read (Elt 𝕀) ((ms0_15 t).view.writes (Elt 𝕀) ((hs0_15 t).unread d15) (rowRun m c t d9 d13 d15).2.2.1); isplitr
    · ipureintro; exact left15 m c t d9 d13 d15 h15
    · unfold owns; iexists _; isplitr
      swap; · iexact H15
      ipureintro; rfl
  isplitl [H16]
  · iexists e16; isplitr
    · ipureintro; trivial
    · iexact H16
  isplitl [H17]
  · iexists e17; isplitr
    · ipureintro; trivial
    · iexact H17
  isplitl [H18]
  · iexists e18; isplitr
    · ipureintro; trivial
    · iexact H18
  isplitl [H19]
  · iexists e19; isplitr
    · ipureintro; trivial
    · iexact H19
  isplitl [H20]
  · iexists e20; isplitr
    · ipureintro; trivial
    · iexact H20
  isplitl [H21]
  · iexists e21; isplitr
    · ipureintro; trivial
    · iexact H21
  iexists e22; isplitr
  · ipureintro; trivial
  · iexact H22

/-- The body's obligation at every point. -/
theorem row_obligation (c : Dev nD) :
    Pipeline.BodyObligationRel (dats (F := 𝕀) m 0 c) (defs₀ (F := 𝕀)) Variants.none () Set.univ rowMark (rowRel m c) := fun t => by
  rw [bigSep_W0, bigSep_W0, defs₀_row]
  exact triple_restated (sound_row m c t) rfl .rfl fun _ => .rfl

-- the launch theorem's implicit arguments are found by unifying its conclusion with this one, which takes unfolding plain definitions
-- in a metavariable's type
set_option backward.isDefEq.respectTransparency.types false in
/-- The launch, with the windows of row scales followed. -/
theorem run_rows : θ_run defs (onTc (τ := τ) (main (F := 𝕀))) (s₀ m ρ)
    (Pipeline.RDat.FramePost (cfgs 0) (fun c => (dats m 0 c).toRRel rowMark (rowRel m c)) (V m)) :=
  Pipeline.RDat.θ_run_frame (Q' := _) cfgs (0 : Fin 1) launch0 defs₀ Variants.none (fun c => (dats m 0 c).toRRel rowMark (rowRel m c)) m ρ main
    (hbody := fun c => (row_obligation m c).toRRel) (hshare := fun c => (dats m 0 c).share_full fun _ => rfl)
    (howed := fun _ _ => rfl) (V := V m) (hmain := hmain m Variants.none) (hA := A_eq m) (hΦ := fun _ _ => rfl)

/-- The last grid point. -/
def lastPt : Fin cfg0.N := ⟨37, lt_of_lt_of_eq (by decide : 37 < 38) N_0.symm⟩

/-- The last point writes window 9 back, and it alone. -/
theorem whole9 : (cfg0.win 9).WholeAt lastPt :=
  ⟨(flush0_9 _).mpr rfl, fun t h => Fin.ext (by have := (flush0_9 t).mp h; have := pt_lt t; show t.val = 37; omega), fun a => by fin_cases a <;> exact ⟨rfl, rfl⟩⟩

/-- After the run, the array of window 9 holds the row scales. -/
theorem scales9 (r : PUnit × MemSt nD τ sig (Elt 𝕀)) (h : Pipeline.RDat.FramePost (cfgs 0) (fun c => (dats m 0 c).toRRel rowMark (rowRel m c)) (V m) r)
    (c : Dev nD) : r.2.mem ((c : Thread nD τ).loc main_v0_1) = rowScale (valH m c) := by
  obtain ⟨X, hX, hj⟩ := Pipeline.RDat.ArrAt.emb_eq_of_wholeAt ((h c).1 9) whole9
  have hX' : UpTo (valH m c) 38 X := Dat.toRRel_leaves _ rfl hX
  funext j
  exact (hj j).trans (hX' j (j 2).isLt)

/-- The last point writes window 13 back, and it alone. -/
theorem whole13 : (cfg0.win 13).WholeAt lastPt :=
  ⟨(flush0_13 _).mpr rfl, fun t h => Fin.ext (by have := (flush0_13 t).mp h; have := pt_lt t; show t.val = 37; omega), fun a => by fin_cases a <;> exact ⟨rfl, rfl⟩⟩

/-- After the run, the array of window 13 holds the row scales. -/
theorem scales13 (r : PUnit × MemSt nD τ sig (Elt 𝕀)) (h : Pipeline.RDat.FramePost (cfgs 0) (fun c => (dats m 0 c).toRRel rowMark (rowRel m c)) (V m) r)
    (c : Dev nD) : r.2.mem ((c : Thread nD τ).loc main_v0_5) = rowScale (valDA m c) := by
  obtain ⟨X, hX, hj⟩ := Pipeline.RDat.ArrAt.emb_eq_of_wholeAt ((h c).1 13) whole13
  have hX' : UpTo (valDA m c) 38 X := Dat.toRRel_leaves _ rfl hX
  funext j
  exact (hj j).trans (hX' j (j 2).isLt)

/-- The last point writes window 15 back, and it alone. -/
theorem whole15 : (cfg0.win 15).WholeAt lastPt :=
  ⟨(flush0_15 _).mpr rfl, fun t h => Fin.ext (by have := (flush0_15 t).mp h; have := pt_lt t; show t.val = 37; omega), fun a => by fin_cases a <;> exact ⟨rfl, rfl⟩⟩

/-- After the run, the array of window 15 holds the row scales. -/
theorem scales15 (r : PUnit × MemSt nD τ sig (Elt 𝕀)) (h : Pipeline.RDat.FramePost (cfgs 0) (fun c => (dats m 0 c).toRRel rowMark (rowRel m c)) (V m) r)
    (c : Dev nD) : r.2.mem ((c : Thread nD τ).loc main_v0_7) = rowScale (valDB m c) := by
  obtain ⟨X, hX, hj⟩ := Pipeline.RDat.ArrAt.emb_eq_of_wholeAt ((h c).1 15) whole15
  have hX' : UpTo (valDB m c) 38 X := Dat.toRRel_leaves _ rfl hX
  funext j
  exact (hj j).trans (hX' j (j 2).isLt)

/-- What the gate call's fifteen results hold at the end of a run, the arguments unchanged. -/
theorem run_all : θ_run defs (onTc (τ := τ) (main (F := 𝕀))) ⟨m, fun _ => 0, ρ⟩ fun r => ∀ c : Dev nD,
      r.2.mem ((c : Thread nD τ).loc main_v0_0) = (dats m 0 c).arrAt 8 cfg0.N
      ∧ r.2.mem ((c : Thread nD τ).loc main_v0_1) = rowScale (valH m c)
      ∧ r.2.mem ((c : Thread nD τ).loc main_v0_2) = (dats m 0 c).arrAt 10 cfg0.N
      ∧ r.2.mem ((c : Thread nD τ).loc main_v0_3) = (dats m 0 c).arrAt 11 cfg0.N
      ∧ r.2.mem ((c : Thread nD τ).loc main_v0_4) = (dats m 0 c).arrAt 12 cfg0.N
      ∧ r.2.mem ((c : Thread nD τ).loc main_v0_5) = rowScale (valDA m c)
      ∧ r.2.mem ((c : Thread nD τ).loc main_v0_6) = (dats m 0 c).arrAt 14 cfg0.N
      ∧ r.2.mem ((c : Thread nD τ).loc main_v0_7) = rowScale (valDB m c)
      ∧ r.2.mem ((c : Thread nD τ).loc main_v0_8) = (dats m 0 c).arrAt 16 cfg0.N
      ∧ r.2.mem ((c : Thread nD τ).loc main_v0_9) = (dats m 0 c).arrAt 17 cfg0.N
      ∧ r.2.mem ((c : Thread nD τ).loc main_v0_10) = (dats m 0 c).arrAt 18 cfg0.N
      ∧ r.2.mem ((c : Thread nD τ).loc main_v0_11) = (dats m 0 c).arrAt 19 cfg0.N
      ∧ r.2.mem ((c : Thread nD τ).loc main_v0_12) = (dats m 0 c).arrAt 20 cfg0.N
      ∧ r.2.mem ((c : Thread nD τ).loc main_v0_13) = (dats m 0 c).arrAt 21 cfg0.N
      ∧ r.2.mem ((c : Thread nD τ).loc main_v0_14) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => by
      obtain ⟨g0, g2, g3, g4, g6, g8, g9, g10, g11, g12, g13, g14, hk⟩ := h.1 c
      exact ⟨g0, scales9 m r h.2 c, g2, g3, g4, scales13 m r h.2 c, g6, scales15 m r h.2 c, g8, g9, g10, g11, g12, g13, g14, hk⟩)
    (θ_run_and (Cert.GateIdeal.Value.run_blocks m ρ) (run_rows m ρ))

end Cert.GateProof

end
-- ==== Proof.GateRefQuant.lean ====
module

public import proofs.«01_k».proof.Proof.Gen.GateRefIdeal.Skeleton
public import proofs.«01_k».proof.Proof.GateSpec
public import proofs.«01_k».proof.Proof.GateMax

@[expose] public section

set_option maxRecDepth 16384

noncomputable section

/-! The quantiser of the gate call's reference: its codes and scales at an index. -/

namespace Cert.GateProof.Ref

open Cert.GateRefIdeal Cert.GateRefIdeal.Gen Idealize.ShloMosaic Idealize.ShloMosaic.TcCoe

local notation "𝕀" => Idealize.ShloMosaic.Ideal

/-- A vector over the sequences, tokens and columns holds `V`. -/
def Holds (v : FVec 𝕀 S12x128x9728 .f32) (V : Hidden) : Prop := ∀ b q f, v (ix3 b q f) = V b q f

/-- The greatest absolute values by rows, as the reference takes them. -/
abbrev rmax (v : FVec 𝕀 S12x128x9728 .f32) : FVec 𝕀 S12x128x76 .f32 :=
  multiReduction .maximumf [3] S12x128x76 (absf (shapeCast S12x128x76x128 v shapeCasts_S12x128x9728_S12x128x76x128)) 0xFF800000#32
    reduces_S12x128x76x128_S12x128x76 (.inl rfl) rfl

/-- The greatest absolute values by columns, as the reference takes them. -/
abbrev cmax (u : FVec 𝕀 S12x1x128x9728 .f32) : FVec 𝕀 S12x1x9728 .f32 :=
  multiReduction .maximumf [2] S12x1x9728 (absf u) 0xFF800000#32 reduces_S12x1x128x9728_S12x1x9728 (.inl rfl) rfl

theorem rmax0 (v : FVec 𝕀 S12x128x76x128 .f32) (b : Fin 12) (q : Fin 128) (g : Fin 76) :
    multiReduction (F := 𝕀) .maximumf [3] S12x128x76 v 0xFF800000#32 reduces_S12x128x76x128_S12x128x76 (.inl rfl) rfl (ix3 b q g)
      = Finset.univ.fold max (Ideal.ofBits .f32 0xFF800000#32) (fun k : Fin 128 => v (ix4 b q g k)) :=
  max4_3 (n0 := 12) (n1 := 128) (n2 := 76) (n3 := 128) v _ reduces_S12x128x76x128_S12x128x76 _ _ b q g

theorem cmax0 (v : FVec 𝕀 S12x1x128x9728 .f32) (b : Fin 12) (q : Fin 1) (f : Fin 9728) :
    multiReduction (F := 𝕀) .maximumf [2] S12x1x9728 v 0xFF800000#32 reduces_S12x1x128x9728_S12x1x9728 (.inl rfl) rfl (ix3 b q f)
      = Finset.univ.fold max (Ideal.ofBits .f32 0xFF800000#32) (fun k : Fin 128 => v (ix4 b q k f)) :=
  max4_2 (n0 := 12) (n1 := 1) (n2 := 128) (n3 := 9728) v _ reduces_S12x1x128x9728_S12x1x9728 _ _ b q f

theorem split_apply (v : FVec 𝕀 S12x128x9728 .f32) (b : Fin 12) (q : Fin 128) (g : Fin 76) (k : Fin 128) :
    absf (shapeCast S12x128x76x128 v shapeCasts_S12x128x9728_S12x128x76x128) (ix4 b q g k)
      = (FloatOps.absf (F := 𝕀) (φ := .f32) (v (ix3 b q ⟨g.val * 128 + k.val, by omega⟩)) : EReal) := by
  pointwise

theorem rmax_apply {v : FVec 𝕀 S12x128x9728 .f32} {V : Hidden} (hv : Holds v V) (b : Fin 12) (q : Fin 128) (g : Fin 76) :
    rmax v (ix3 b q g) = rowTop V b q g := by
  refine (rmax0 _ b q g).trans ?_
  unfold rowTop top
  refine congrArg (Finset.univ.fold max (Ideal.ofBits .f32 0xFF800000#32)) (funext fun k => ?_)
  rw [split_apply, hv]

theorem cmax_apply {u : FVec 𝕀 S12x1x128x9728 .f32} {V : Hidden} (hu : ∀ b q f, u (ix4 b 0 q f) = V b q f) (b : Fin 12) (f : Fin 9728) :
    cmax u (ix3 b 0 f) = colTop V b f := by
  refine (cmax0 _ b 0 f).trans ?_
  unfold colTop top
  refine congrArg (Finset.univ.fold max (Ideal.ofBits .f32 0xFF800000#32)) (funext fun k => ?_)
  rw [absf, hu]

theorem rowCode_of (v : FVec 𝕀 S12x128x9728 .f32) (M : FVec 𝕀 S12x128x76 .f32)
    (hM : multiReduction (F := 𝕀) .maximumf [3] S12x128x76 (absf (shapeCast S12x128x76x128 v shapeCasts_S12x128x9728_S12x128x76x128)) 0xFF800000#32
      reduces_S12x128x76x128_S12x128x76 (.inl rfl) rfl = M) (b : Fin 12) (q : Fin 128) (f : Fin 9728) :
    k0_pay13 v (ix3 b q f) = code (v (ix3 b q f)) (M (ix3 b q ⟨f.val / 128, by omega⟩)) := by
  unfold k0_pay13 k0_pay12 k0_pay11
  dsimp only
  rw [hM]
  pointwise [code, ex, up]

theorem rowScl_of (v : FVec 𝕀 S12x128x9728 .f32) (M : FVec 𝕀 S12x128x76 .f32)
    (hM : multiReduction (F := 𝕀) .maximumf [3] S12x128x76 (absf (shapeCast S12x128x76x128 v shapeCasts_S12x128x9728_S12x128x76x128)) 0xFF800000#32
      reduces_S12x128x76x128_S12x128x76 (.inl rfl) rfl = M) (b : Fin 12) (q : Fin 128) (g : Fin 76) :
    k0_pay14 v (ix3 b q g) = scl (M (ix3 b q g)) := by
  unfold k0_pay14 k0_pay12 k0_pay11
  dsimp only
  rw [hM]
  pointwise [scl, ex, up]

theorem colCode_of (u w : FVec 𝕀 S12x1x128x9728 .f32) (M : FVec 𝕀 S12x1x9728 .f32)
    (hM : multiReduction (F := 𝕀) .maximumf [2] S12x1x9728 w 0xFF800000#32 reduces_S12x1x128x9728_S12x1x9728 (.inl rfl) rfl = M)
    (b : Fin 12) (q : Fin 128) (f : Fin 9728) :
    k0_pay18 u w (ix3 b q f) = code (u (ix4 b 0 q f)) (M (ix3 b 0 f)) := by
  unfold k0_pay18 k0_pay17
  dsimp only
  rw [hM]
  pointwise [code, ex, up]

theorem colScl_of (w : FVec 𝕀 S12x1x128x9728 .f32) (M : FVec 𝕀 S12x1x9728 .f32)
    (hM : multiReduction (F := 𝕀) .maximumf [2] S12x1x9728 w 0xFF800000#32 reduces_S12x1x128x9728_S12x1x9728 (.inl rfl) rfl = M)
    (b : Fin 12) (f : Fin 9728) :
    k0_pay19 w (ix3 b 0 f) = scl (M (ix3 b 0 f)) := by
  unfold k0_pay19 k0_pay17
  dsimp only
  rw [hM]
  pointwise [scl, ex, up]

/-- The codes by rows of a vector, at an index. -/
theorem rowCode_apply {v : FVec 𝕀 S12x128x9728 .f32} {V : Hidden} (hv : Holds v V) (b : Fin 12) (q : Fin 128) (f : Fin 9728) :
    k0_pay13 v (ix3 b q f) = rowCode V b q f :=
  (rowCode_of v _ rfl b q f).trans (congrArg₂ code (hv b q f) (rmax_apply hv b q _))

/-- The scales by rows. -/
theorem rowScl_apply {v : FVec 𝕀 S12x128x9728 .f32} {V : Hidden} (hv : Holds v V) (b : Fin 12) (q : Fin 128) (g : Fin 76) :
    k0_pay14 v (ix3 b q g) = scl (rowTop V b q g) :=
  (rowScl_of v _ rfl b q g).trans (congrArg scl (rmax_apply hv b q g))

/-- The codes by columns of a vector given with a unit axis. -/
theorem colCode_apply {u : FVec 𝕀 S12x1x128x9728 .f32} {V : Hidden} (hu : ∀ b q f, u (ix4 b 0 q f) = V b q f) (b : Fin 12) (q : Fin 128) (f : Fin 9728) :
    k0_pay18 u (absf u) (ix3 b q f) = colCode V b q f :=
  (colCode_of u _ _ rfl b q f).trans (congrArg₂ code (hu b q f) (cmax_apply hu b f))

/-- The scales by columns. -/
theorem colScl_apply {u : FVec 𝕀 S12x1x128x9728 .f32} {V : Hidden} (hu : ∀ b q f, u (ix4 b 0 q f) = V b q f) (b : Fin 12) (f : Fin 9728) :
    k0_pay19 (absf u) (ix3 b 0 f) = scl (colTop V b f) :=
  (colScl_of _ _ rfl b f).trans (congrArg scl (cmax_apply hu b f))

theorem deq_of (x : FVec 𝕀 S12x128x9728 .fp8e4m3) (s : FVec 𝕀 S12x128x76 .f32) (v : FVec 𝕀 S12x128x9728 .f32)
    (hx : k0_pay13 v = x) (hs : k0_pay14 v = s) (b : Fin 12) (q : Fin 128) (f : Fin 9728) :
    k0_pay15 v (ix4 b 0 q f) = x (ix3 b q f) * s (ix3 b q ⟨f.val / 128, by omega⟩) := by
  unfold k0_pay15
  rw [hx, hs]
  pointwise

/-- The dequantised rows, with a unit axis. -/
theorem deq_apply {v : FVec 𝕀 S12x128x9728 .f32} {V : Hidden} (hv : Holds v V) (b : Fin 12) (q : Fin 128) (f : Fin 9728) :
    k0_pay15 v (ix4 b 0 q f) = rowWide V b q f :=
  (deq_of _ _ v rfl rfl b q f).trans (congrArg₂ (· * ·) (rowCode_apply hv b q f) (rowScl_apply hv b q _))

/-- A vector with a unit axis put in. -/
theorem unit_apply {v : FVec 𝕀 S12x128x9728 .f32} {V : Hidden} (hv : Holds v V) (b : Fin 12) (q : Fin 128) (f : Fin 9728) :
    k0_pay24 v (ix4 b 0 q f) = V b q f := by
  rw [← hv b q f]
  unfold k0_pay24
  pointwise

theorem wide_of (x : FVec 𝕀 S12x128x9728 .fp8e4m3) (s : FVec 𝕀 S12x128x76 .f32) (r : Fin 1536) (f : Fin 9728) :
    k0_pay2 x s (ix2 r f) = x (ix3 ⟨r.val / 128, by omega⟩ ⟨r.val % 128, Nat.mod_lt _ (by decide)⟩ f)
      * s (ix3 ⟨r.val / 128, by omega⟩ ⟨r.val % 128, Nat.mod_lt _ (by decide)⟩ ⟨f.val / 128, by omega⟩) := by
  unfold k0_pay2
  pointwise

/-- The widened rows. -/
theorem wide_apply {v : FVec 𝕀 S12x128x9728 .f32} {V : Hidden} (hv : Holds v V) :
    k0_pay2 (k0_pay13 v) (k0_pay14 v) = at2 (rowWide V) := by
  funext i
  rw [eq_ix2 i]
  generalize i 0 = r
  generalize i 1 = f
  exact (wide_of _ _ r f).trans (congrArg₂ (· * ·) (rowCode_apply hv _ _ f) (rowScl_apply hv _ _ _))

/-- The codes by rows. -/
theorem rowCode_eq {v : FVec 𝕀 S12x128x9728 .f32} {V : Hidden} (hv : Holds v V) : k0_pay13 v = at3 (rowCode V) := by
  funext i
  rw [eq_ix3 i]
  exact rowCode_apply hv (i 0) (i 1) (i 2)

/-- The scales by rows. -/
theorem rowScale_eq {v : FVec 𝕀 S12x128x9728 .f32} {V : Hidden} (hv : Holds v V) : k0_pay14 v = rowScale V := by
  funext i
  rw [eq_ix3 i]
  exact rowScl_apply hv (i 0) (i 1) (i 2)

/-- The codes by columns of a vector. -/
theorem colCode_eq {v : FVec 𝕀 S12x128x9728 .f32} {V : Hidden} (hv : Holds v V) : k0_pay26 v = at3 (colCode V) := by
  funext i
  rw [eq_ix3 i]
  exact colCode_apply (unit_apply hv) (i 0) (i 1) (i 2)

/-- The scales by columns of a vector. -/
theorem colScale_eq {v : FVec 𝕀 S12x128x9728 .f32} {V : Hidden} (hv : Holds v V) : k0_pay27 v = colScale V := by
  funext i
  have h0 : i 1 = (0 : Fin 1) := Subsingleton.elim (α := Fin 1) _ _
  rw [eq_ix3 i, h0]
  exact colScl_apply (unit_apply hv) (i 0) (i 2)

/-- The codes by columns of the dequantised rows. -/
theorem deqCode_eq {v : FVec 𝕀 S12x128x9728 .f32} {V : Hidden} (hv : Holds v V) :
    k0_pay18 (k0_pay15 v) (k0_pay16 v) = at3 (colCode (rowWide V)) := by
  funext i
  rw [eq_ix3 i]
  exact colCode_apply (deq_apply hv) (i 0) (i 1) (i 2)

/-- The scales by columns of the dequantised rows. -/
theorem deqScale_eq {v : FVec 𝕀 S12x128x9728 .f32} {V : Hidden} (hv : Holds v V) :
    k0_pay19 (k0_pay16 v) = colScale (rowWide V) := by
  funext i
  have h0 : i 1 = (0 : Fin 1) := Subsingleton.elim (α := Fin 1) _ _
  rw [eq_ix3 i, h0]
  exact colScl_apply (deq_apply hv) (i 0) (i 2)

end Cert.GateProof.Ref
-- ==== Proof.GateRef.lean ====
module

public import proofs.«01_k».proof.Proof.Gen.GateRefIdeal.Value
public import proofs.«01_k».proof.Proof.GateRefQuant
public import Idealize.ShloMosaic.Lib.Pipeline.ValueKit

@[expose] public section

set_option maxRecDepth 16384

noncomputable section

/-! The reference of the gate call leaves what `GateSpec` states. -/

namespace Cert.GateProof.Ref

open Cert.GateRefIdeal Cert.GateRefIdeal.Gen Cert.GateRefIdeal.Value Idealize.ShloMosaic Idealize.ShloMosaic.TcCoe

local notation "𝕀" => Idealize.ShloMosaic.Ideal

variable (x0 x1 : Vec 𝕀 S28x76 .f32) (x2 : Vec 𝕀 S76x28 .f32) (x3 x4 : Vec 𝕀 S1536x3584 .bf16)
  (x5 x6 : Vec 𝕀 S3584x9728 .fp8e4m3) (x7 : Vec 𝕀 S9728x3584 .fp8e4m3)

theorem pay4_apply (w : Vec 𝕀 S3584x9728 .fp8e4m3) (s : Vec 𝕀 S28x76 .f32) (x : Vec 𝕀 S1536x3584 .bf16) :
    Holds (k0_pay4 w s x) (prodN x w s) := by
  intro b q f
  unfold k0_pay4
  pointwise [prodN]

theorem pay5_apply (w : Vec 𝕀 S3584x9728 .fp8e4m3) (s : Vec 𝕀 S28x76 .f32) (x : Vec 𝕀 S1536x3584 .bf16) :
    Holds (k0_pay5 w s x) (prodN x w s) := by
  intro b q f
  unfold k0_pay5
  pointwise [prodN]

theorem pay6_apply (w : Vec 𝕀 S9728x3584 .fp8e4m3) (s : Vec 𝕀 S76x28 .f32) (x : Vec 𝕀 S1536x3584 .bf16) :
    Holds (k0_pay6 w s x) (prodT x w s) := by
  intro b q f
  unfold k0_pay6
  pointwise [prodT]

theorem ld0 (x : Vec 𝕀 S3584x9728 .fp8e4m3) : View.ld x r0_0 = x := View.ld_unit_lit _ x (by decide)
theorem ld1 (x : Vec 𝕀 S28x76 .f32) : View.ld x r0_1 = x := View.ld_unit_lit _ x (by decide)
theorem ld2 (x : Vec 𝕀 S9728x3584 .fp8e4m3) : View.ld x r0_2 = x := View.ld_unit_lit _ x (by decide)
theorem ld3 (x : Vec 𝕀 S76x28 .f32) : View.ld x r0_3 = x := View.ld_unit_lit _ x (by decide)
theorem ld4 (x : Vec 𝕀 S1536x3584 .bf16) : View.ld x r0_4 = x := View.ld_unit_lit _ x (by decide)

/-- The activations. -/
theorem h_holds : Holds (k0_pay41 x0 x1 x2 x3 x4 x5 x6 x7) (specH x0 x1 x3 x5 x6) := by
  intro b q f
  have ha := pay4_apply x5 x0 x3 b q f
  have hb := pay5_apply x6 x1 x3 b q f
  unfold k0_pay41
  rw [ld0, ld0, ld1, ld1, ld4]
  unfold k0_pay8 k0_pay7
  generalize k0_pay4 x5 x0 x3 = a at ha ⊢
  generalize k0_pay5 x6 x1 x3 = b' at hb ⊢
  unfold specH
  rw [← ha, ← hb]
  pointwise [act]

/-- The gradients with respect to the first product. -/
theorem da_holds : Holds (k0_pay42 x0 x1 x2 x3 x4 x5 x6 x7) (specDA x0 x1 x2 x3 x4 x5 x6 x7) := by
  intro b q f
  have ha := pay4_apply x5 x0 x3 b q f
  have hb := pay5_apply x6 x1 x3 b q f
  have hd := pay6_apply x7 x2 x4 b q f
  unfold k0_pay42 k0_pay38 k0_pay39 k0_pay40
  rw [ld0, ld0, ld1, ld1, ld2, ld3, ld4, ld4]
  unfold k0_pay9 k0_pay7
  generalize k0_pay4 x5 x0 x3 = a at ha ⊢
  generalize k0_pay5 x6 x1 x3 = b' at hb ⊢
  generalize k0_pay6 x7 x2 x4 = d at hd ⊢
  unfold specDA
  rw [← ha, ← hb, ← hd]
  pointwise [gradA]

/-- The gradients with respect to the second product. -/
theorem db_holds : Holds (k0_pay43 x0 x1 x2 x3 x4 x5 x6 x7) (specDB x0 x2 x3 x4 x5 x7) := by
  intro b q f
  have ha := pay4_apply x5 x0 x3 b q f
  have hd := pay6_apply x7 x2 x4 b q f
  unfold k0_pay43 k0_pay38 k0_pay39 k0_pay40
  rw [ld0, ld1, ld2, ld3, ld4, ld4]
  unfold k0_pay10 k0_pay7
  generalize k0_pay4 x5 x0 x3 = a at ha ⊢
  generalize k0_pay6 x7 x2 x4 = d at hd ⊢
  unfold specDB
  rw [← ha, ← hd]
  pointwise [gradB]

theorem G8_eq : G8 x0 x1 x2 x3 x4 x5 x6 x7 = at3 (rowCode (specH x0 x1 x3 x5 x6)) := rowCode_eq (h_holds x0 x1 x2 x3 x4 x5 x6 x7)
theorem G10_eq : G10 x0 x1 x2 x3 x4 x5 x6 x7 = at3 (colCode (rowWide (specH x0 x1 x3 x5 x6))) := deqCode_eq (h_holds x0 x1 x2 x3 x4 x5 x6 x7)
theorem G11_eq : G11 x0 x1 x2 x3 x4 x5 x6 x7 = colScale (rowWide (specH x0 x1 x3 x5 x6)) := deqScale_eq (h_holds x0 x1 x2 x3 x4 x5 x6 x7)
theorem G12_eq : G12 x0 x1 x2 x3 x4 x5 x6 x7 = at3 (rowCode (specDA x0 x1 x2 x3 x4 x5 x6 x7)) := rowCode_eq (da_holds x0 x1 x2 x3 x4 x5 x6 x7)
theorem G14_eq : G14 x0 x1 x2 x3 x4 x5 x6 x7 = at3 (rowCode (specDB x0 x2 x3 x4 x5 x7)) := rowCode_eq (db_holds x0 x1 x2 x3 x4 x5 x6 x7)
theorem G16_eq : G16 x0 x1 x2 x3 x4 x5 x6 x7 = at3 (colCode (specDA x0 x1 x2 x3 x4 x5 x6 x7)) := colCode_eq (da_holds x0 x1 x2 x3 x4 x5 x6 x7)
theorem G17_eq : G17 x0 x1 x2 x3 x4 x5 x6 x7 = colScale (specDA x0 x1 x2 x3 x4 x5 x6 x7) := colScale_eq (da_holds x0 x1 x2 x3 x4 x5 x6 x7)
theorem G18_eq : G18 x0 x1 x2 x3 x4 x5 x6 x7 = at3 (colCode (specDB x0 x2 x3 x4 x5 x7)) := colCode_eq (db_holds x0 x1 x2 x3 x4 x5 x6 x7)
theorem G19_eq : G19 x0 x1 x2 x3 x4 x5 x6 x7 = colScale (specDB x0 x2 x3 x4 x5 x7) := colScale_eq (db_holds x0 x1 x2 x3 x4 x5 x6 x7)
theorem G20_eq : G20 x0 x1 x2 x3 x4 x5 x6 x7 = at2 (rowWide (specH x0 x1 x3 x5 x6)) := wide_apply (h_holds x0 x1 x2 x3 x4 x5 x6 x7)
theorem G21_eq : G21 x0 x1 x2 x3 x4 x5 x6 x7 = at2 (rowWide (specDA x0 x1 x2 x3 x4 x5 x6 x7)) := wide_apply (da_holds x0 x1 x2 x3 x4 x5 x6 x7)
theorem G22_eq : G22 x0 x1 x2 x3 x4 x5 x6 x7 = at2 (rowWide (specDB x0 x2 x3 x4 x5 x7)) := wide_apply (db_holds x0 x1 x2 x3 x4 x5 x6 x7)
theorem G9_eq : G9 x0 x1 x2 x3 x4 x5 x6 x7 = rowScale (specH x0 x1 x3 x5 x6) := rowScale_eq (h_holds x0 x1 x2 x3 x4 x5 x6 x7)
theorem G13_eq : G13 x0 x1 x2 x3 x4 x5 x6 x7 = rowScale (specDA x0 x1 x2 x3 x4 x5 x6 x7) := rowScale_eq (da_holds x0 x1 x2 x3 x4 x5 x6 x7)

/-- The scales of the third vector, split over two statements of the body, are the scales by rows of the vector. -/
theorem split_scale (v : FVec 𝕀 S12x128x9728 .f32) : k0_pay32 (k0_pay29 v) (Scalar.ofBits .f32 0x3B124925#32) = k0_pay14 v := by
  unfold k0_pay32 k0_pay30 k0_pay29 k0_pay28 k0_pay14 k0_pay12 k0_pay11
  rfl

theorem G15_eq : G15 x0 x1 x2 x3 x4 x5 x6 x7 = rowScale (specDB x0 x2 x3 x4 x5 x7) := by
  unfold G15 k0_pay52 k0_pay50
  rw [split_scale]
  exact rowScale_eq (db_holds x0 x1 x2 x3 x4 x5 x6 x7)

end Cert.GateProof.Ref
-- ==== Proof.TokenBlock.lean ====
module

public import proofs.«01_k».proof.Proof.Gen.TokenIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.TokenProof

open Cert.TokenIdeal Cert.TokenIdeal.Gen Idealize.ShloMosaic Idealize.ShloMosaic.TcCoe Idealize.SL.Sem
open Idealize.ShloMosaic.Pipeline (Dat)

local notation "𝕀" => Idealize.ShloMosaic.Ideal

variable (m : (ℓ : Loc nD τ sig) → Buf (Elt 𝕀) ℓ)

/-- A load of a whole buffer gives back what the stores into it left. -/
theorem readCov_whole {S : Shape} {e : EltTy} {sig : RefSig} {κ : Kind} {sp : Space} (v : View sig κ sp S e)
    (L : List (View.Piece (Elt 𝕀) S e)) {off : Fin S.rank → Nat} (inb : ∀ a, off a + S.size a ≤ S.size a) (h : ∀ a, off a = 0) :
    v.readCov L (Rect.unit off S.size inb).toLoadRect = View.canon L := by
  rw [View.readCov_eq_canon']
  exact View.ld_unit_lit inb (View.canon L) h

theorem lt_N (t : Fin cfg0.N) : t.val < 133 := lt_of_lt_of_eq t.isLt N_0
theorem lt0 (y : S512x512.Idx) : (y 0).val < 512 := (y 0).isLt
theorem lt1 (y : S512x512.Idx) : (y 1).val < 512 := (y 1).isLt

/-! The scale a tile is multiplied by: block row and block column, as the body computes them. -/

/-- A 512 x 512 block of codes, each times the scale of its 128 x 128 block; the scales of the blocks are the 4 x 4 entries
    of `s` from row `4 * r` and column `4 * q` on. -/
def scaled {R C : ℕ} (x : Vec 𝕀 S512x512 .fp8e4m3) (s : Vec 𝕀 (⟨2, ![R, C]⟩ : Shape) .f32) (r q : ℕ)
    (hr : 4 * r + 4 ≤ R) (hq : 4 * q + 4 ≤ C) : Vec 𝕀 S512x512 .bf16 := fun y =>
  (x y : EReal) * (s (ix2 (⟨4 * r + (y 0).val / 128, by have := lt0 y; omega⟩ : Fin R)
    (⟨4 * q + (y 1).val / 128, by have := lt1 y; omega⟩ : Fin C)) : EReal)

/-- One stored tile of it. -/
theorem tile {R C : ℕ} (x : Vec 𝕀 S512x512 .fp8e4m3) (s : Vec 𝕀 (⟨2, ![R, C]⟩ : Shape) .f32) (r q : ℕ)
    (hr : 4 * r + 4 ≤ R) (hq : 4 * q + 4 ≤ C) (y : S512x512.Idx) (u v : Fin 512) (i : Fin R) (j : Fin C)
    (hu : u.val = (y 0).val) (hv : v.val = (y 1).val)
    (hi : i.val = 4 * r + (y 0).val / 128) (hj : j.val = 4 * q + (y 1).val / 128) :
    (x (ix2 u v) : EReal) * (s (ix2 i j) : EReal) = scaled x s r q hr hq y := by
  have ey : y = ix2 u v := (eq_ix2 y).trans (congrArg₂ ix2 (Fin.ext hu.symm) (Fin.ext hv.symm))
  have ei : i = ⟨4 * r + (y 0).val / 128, by have := lt0 y; omega⟩ := Fin.ext hi
  have ej : j = ⟨4 * q + (y 1).val / 128, by have := lt1 y; omega⟩ := Fin.ext hj
  rw [ei, ej]
  simp only [scaled]
  rw [← ey]

theorem off1' : ∀ (t : Fin cfg0.N) (i j : Fin 4), k0_off1 (grid0.coords t) (BitVec.ofNat 32 i.val) (BitVec.ofNat 32 j.val) 0 = 4 * (t.val % 19) + i.val
    ∧ k0_off1 (grid0.coords t) (BitVec.ofNat 32 i.val) (BitVec.ofNat 32 j.val) 1 = 4 * (t.val / 19) + j.val :=
  (by decide +kernel : ∀ (t : Fin grid0.N) (i j : Fin 4), _)

theorem off1 (t : Fin cfg0.N) (u v : BitVec 32) (hu : u.toNat < 4) (hv : v.toNat < 4) :
    k0_off1 (grid0.coords t) u v 0 = 4 * (t.val % 19) + u.toNat ∧ k0_off1 (grid0.coords t) u v 1 = 4 * (t.val / 19) + v.toNat := by
  have h := off1' t ⟨u.toNat, hu⟩ ⟨v.toNat, hv⟩
  simpa only [BitVec.ofNat_toNat, BitVec.setWidth_eq] using h

theorem off2' : ∀ (t : Fin cfg0.N) (i j : Fin 4), k0_off2 (grid0.coords t) (BitVec.ofNat 32 i.val) (BitVec.ofNat 32 j.val) 0 = 4 * (t.val / 19) + i.val
    ∧ k0_off2 (grid0.coords t) (BitVec.ofNat 32 i.val) (BitVec.ofNat 32 j.val) 1 = 4 * (t.val % 19) + j.val :=
  (by decide +kernel : ∀ (t : Fin grid0.N) (i j : Fin 4), _)

theorem off2 (t : Fin cfg0.N) (u v : BitVec 32) (hu : u.toNat < 4) (hv : v.toNat < 4) :
    k0_off2 (grid0.coords t) u v 0 = 4 * (t.val / 19) + u.toNat ∧ k0_off2 (grid0.coords t) u v 1 = 4 * (t.val % 19) + v.toNat := by
  have h := off2' t ⟨u.toNat, hu⟩ ⟨v.toNat, hv⟩
  simpa only [BitVec.ofNat_toNat, BitVec.setWidth_eq] using h

/-- Weight block 2 at grid point `t`: each code times the scale of its 128 x 128 block. -/
def w2b (c : Dev nD) (t : Fin cfg0.N) : Vec 𝕀 S512x512 .bf16 :=
  scaled (R := 76) (C := 28) (iblk m c 8 t) (iblk m c 2 t) (t.val % 19) (t.val / 19) (by have := lt_N t; omega) (by have := lt_N t; omega)

/-- Weight block 1 at grid point `t`: each code times the scale of its 128 x 128 block. -/
def w1b (c : Dev nD) (t : Fin cfg0.N) : Vec 𝕀 S512x512 .bf16 :=
  scaled (R := 28) (C := 76) (iblk m c 6 t) (iblk m c 0 t) (t.val / 19) (t.val % 19) (by have := lt_N t; omega) (by have := lt_N t; omega)

/-- Weight block 3 at grid point `t`: each code times the scale of its 128 x 128 block. -/
def w3b (c : Dev nD) (t : Fin cfg0.N) : Vec 𝕀 S512x512 .bf16 :=
  scaled (R := 28) (C := 76) (iblk m c 7 t) (iblk m c 1 t) (t.val / 19) (t.val % 19) (by have := lt_N t; omega) (by have := lt_N t; omega)

/-- Case A: the first accumulator after the point. -/
theorem y_A (c : Dev nD) (t : Fin cfg0.N) (h : t.val % 19 = 0) :
    (outsAt0 m c t.val t.isLt).2.2.1 = k0_pay70 k0_pay4 (iblk m c 3 t) (w2b m c t) := by
  rw [outsAt0_A m c t h (by omega)]
  frame_out
  refine congrArg (k0_pay70 _ _) ?_
  rw [readCov_whole _ _ _ (by decide)]
  funext y
  canon_tiles x hx
  all_goals
    open_payloads
    pointwise
    refine tile _ _ _ _ _ _ _ _ _ _ _ ?_ ?_ ?_ ?_
    · simp only []; omega
    · simp only []; omega
    · dsimp only
      rw [(off1 t _ _ ?_ ?_).1]
      · simp only [BitVec.toNat_ofNat]; omega
      · decide
      · decide
    · dsimp only
      rw [(off1 t _ _ ?_ ?_).2]
      · simp only [BitVec.toNat_ofNat]; omega
      · decide
      · decide

/-- Case A: the second accumulator after the point. -/
theorem dx_A (c : Dev nD) (t : Fin cfg0.N) (h : t.val % 19 = 0) :
    (outsAt0 m c t.val t.isLt).2.2.2
      = k0_pay1 (k0_pay72 (k0_pay71 k0_pay5 (iblk m c 4 t) (w1b m c t)) (iblk m c 5 t) (w3b m c t)) := by
  rw [outsAt0_A m c t h (by omega)]
  frame_out
  refine congrArg k0_pay1 (congrArg₂ (fun a b => k0_pay72 (k0_pay71 _ _ a) _ b) ?_ ?_)
  · rw [readCov_whole _ _ _ (by decide)]
    funext y
    canon_tiles x hx
    all_goals
      open_payloads
      pointwise
      refine tile _ _ _ _ _ _ _ _ _ _ _ ?_ ?_ ?_ ?_
      · simp only []; omega
      · simp only []; omega
      · dsimp only
        rw [(off2 t _ _ ?_ ?_).1]
        · simp only [BitVec.toNat_ofNat]; omega
        · decide
        · decide
      · dsimp only
        rw [(off2 t _ _ ?_ ?_).2]
        · simp only [BitVec.toNat_ofNat]; omega
        · decide
        · decide
  · rw [readCov_whole _ _ _ (by decide)]
    funext y
    canon_tiles x hx
    all_goals
      open_payloads
      pointwise
      refine tile _ _ _ _ _ _ _ _ _ _ _ ?_ ?_ ?_ ?_
      · simp only []; omega
      · simp only []; omega
      · dsimp only
        rw [(off2 t _ _ ?_ ?_).1]
        · simp only [BitVec.toNat_ofNat]; omega
        · decide
        · decide
      · dsimp only
        rw [(off2 t _ _ ?_ ?_).2]
        · simp only [BitVec.toNat_ofNat]; omega
        · decide
        · decide

/-- Case B: the first accumulator after the point. -/
theorem y_B (c : Dev nD) (t : Fin cfg0.N) (h : ¬ t.val % 19 = 0) (h1 : ¬ t.val % 19 = 18) :
    (outsAt0 m c t.val t.isLt).2.2.1 = k0_pay70 (outsAt0 m c (t.val - 1) (by have := t.isLt; omega)).2.2.1 (iblk m c 3 t) (w2b m c t) := by
  rw [outsAt0_B m c t h h1]
  frame_out
  simp only [read_unread_whole]
  refine congrArg (k0_pay70 _ _) ?_
  rw [readCov_whole _ _ _ (by decide)]
  funext y
  canon_tiles x hx
  all_goals
    open_payloads
    pointwise
    refine tile _ _ _ _ _ _ _ _ _ _ _ ?_ ?_ ?_ ?_
    · simp only []; omega
    · simp only []; omega
    · dsimp only
      rw [(off1 t _ _ ?_ ?_).1]
      · simp only [BitVec.toNat_ofNat]; omega
      · decide
      · decide
    · dsimp only
      rw [(off1 t _ _ ?_ ?_).2]
      · simp only [BitVec.toNat_ofNat]; omega
      · decide
      · decide

/-- Case B: the second accumulator after the point. -/
theorem dx_B (c : Dev nD) (t : Fin cfg0.N) (h : ¬ t.val % 19 = 0) (h1 : ¬ t.val % 19 = 18) :
    (outsAt0 m c t.val t.isLt).2.2.2
      = k0_pay1 (k0_pay72 (k0_pay71 (outsAt0 m c (t.val - 1) (by have := t.isLt; omega)).2.2.2 (iblk m c 4 t) (w1b m c t)) (iblk m c 5 t) (w3b m c t)) := by
  rw [outsAt0_B m c t h h1]
  frame_out
  simp only [read_unread_whole]
  refine congrArg k0_pay1 (congrArg₂ (fun a b => k0_pay72 (k0_pay71 _ _ a) _ b) ?_ ?_)
  · rw [readCov_whole _ _ _ (by decide)]
    funext y
    canon_tiles x hx
    all_goals
      open_payloads
      pointwise
      refine tile _ _ _ _ _ _ _ _ _ _ _ ?_ ?_ ?_ ?_
      · simp only []; omega
      · simp only []; omega
      · dsimp only
        rw [(off2 t _ _ ?_ ?_).1]
        · simp only [BitVec.toNat_ofNat]; omega
        · decide
        · decide
      · dsimp only
        rw [(off2 t _ _ ?_ ?_).2]
        · simp only [BitVec.toNat_ofNat]; omega
        · decide
        · decide
  · rw [readCov_whole _ _ _ (by decide)]
    funext y
    canon_tiles x hx
    all_goals
      open_payloads
      pointwise
      refine tile _ _ _ _ _ _ _ _ _ _ _ ?_ ?_ ?_ ?_
      · simp only []; omega
      · simp only []; omega
      · dsimp only
        rw [(off2 t _ _ ?_ ?_).1]
        · simp only [BitVec.toNat_ofNat]; omega
        · decide
        · decide
      · dsimp only
        rw [(off2 t _ _ ?_ ?_).2]
        · simp only [BitVec.toNat_ofNat]; omega
        · decide
        · decide

/-- Case C: the first accumulator after the point. -/
theorem y_C (c : Dev nD) (t : Fin cfg0.N) (h : t.val % 19 = 18) :
    (outsAt0 m c t.val t.isLt).2.2.1 = k0_pay70 (outsAt0 m c (t.val - 1) (by have := t.isLt; omega)).2.2.1 (iblk m c 3 t) (w2b m c t) := by
  rw [outsAt0_C m c t (by omega) h]
  frame_out
  simp only [read_unread_whole]
  refine congrArg (k0_pay70 _ _) ?_
  rw [readCov_whole _ _ _ (by decide)]
  funext y
  canon_tiles x hx
  all_goals
    open_payloads
    pointwise
    refine tile _ _ _ _ _ _ _ _ _ _ _ ?_ ?_ ?_ ?_
    · simp only []; omega
    · simp only []; omega
    · dsimp only
      rw [(off1 t _ _ ?_ ?_).1]
      · simp only [BitVec.toNat_ofNat]; omega
      · decide
      · decide
    · dsimp only
      rw [(off1 t _ _ ?_ ?_).2]
      · simp only [BitVec.toNat_ofNat]; omega
      · decide
      · decide

/-- Case C: the second accumulator after the point. -/
theorem dx_C (c : Dev nD) (t : Fin cfg0.N) (h : t.val % 19 = 18) :
    (outsAt0 m c t.val t.isLt).2.2.2
      = k0_pay1 (k0_pay72 (k0_pay71 (outsAt0 m c (t.val - 1) (by have := t.isLt; omega)).2.2.2 (iblk m c 4 t) (w1b m c t)) (iblk m c 5 t) (w3b m c t)) := by
  rw [outsAt0_C m c t (by omega) h]
  frame_out
  simp only [read_unread_whole]
  refine congrArg k0_pay1 (congrArg₂ (fun a b => k0_pay72 (k0_pay71 _ _ a) _ b) ?_ ?_)
  · rw [readCov_whole _ _ _ (by decide)]
    funext y
    canon_tiles x hx
    all_goals
      open_payloads
      pointwise
      refine tile _ _ _ _ _ _ _ _ _ _ _ ?_ ?_ ?_ ?_
      · simp only []; omega
      · simp only []; omega
      · dsimp only
        rw [(off2 t _ _ ?_ ?_).1]
        · simp only [BitVec.toNat_ofNat]; omega
        · decide
        · decide
      · dsimp only
        rw [(off2 t _ _ ?_ ?_).2]
        · simp only [BitVec.toNat_ofNat]; omega
        · decide
        · decide
  · rw [readCov_whole _ _ _ (by decide)]
    funext y
    canon_tiles x hx
    all_goals
      open_payloads
      pointwise
      refine tile _ _ _ _ _ _ _ _ _ _ _ ?_ ?_ ?_ ?_
      · simp only []; omega
      · simp only []; omega
      · dsimp only
        rw [(off2 t _ _ ?_ ?_).1]
        · simp only [BitVec.toNat_ofNat]; omega
        · decide
        · decide
      · dsimp only
        rw [(off2 t _ _ ?_ ?_).2]
        · simp only [BitVec.toNat_ofNat]; omega
        · decide
        · decide

/-- At the last point of a run the two results' blocks are the accumulators, rounded. -/
theorem out_C (c : Dev nD) (t : Fin cfg0.N) (h : t.val % 19 = 18) :
    (outsAt0 m c t.val t.isLt).1 = k0_pay2 (outsAt0 m c t.val t.isLt).2.2.1
    ∧ (outsAt0 m c t.val t.isLt).2.1 = k0_pay3 (outsAt0 m c t.val t.isLt).2.2.2 := by
  rw [outsAt0_C m c t (by omega) h]
  constructor
  · frame_out
  · frame_out

end Cert.TokenProof
-- ==== Proof.TokenSpec.lean ====
module

public import Idealize.ShloMosaic.Lib.Pointwise

@[expose] public section

noncomputable section

/-! What the token call computes: products over all 9728 hidden columns of a [1536, 9728] array with a weight, given by its
    codes and one scale for each of its 128 x 128 blocks. -/

namespace Cert.TokenProof

open Idealize.ShloMosaic

/-- One entry of a weight: the code times the scale of its 128 x 128 block. -/
def weight {R C : ℕ} (x : (⟨2, ![128 * R, 128 * C]⟩ : Shape).Idx → EReal) (s : (⟨2, ![R, C]⟩ : Shape).Idx → EReal)
    (i : Fin (128 * R)) (j : Fin (128 * C)) : EReal :=
  x (ix2 i j) * s (ix2 (⟨i.val / 128, by omega⟩ : Fin R) (⟨j.val / 128, by omega⟩ : Fin C))

/-- The product of an array with the second weight, entry by entry. -/
def prodN (a : (⟨2, ![1536, 9728]⟩ : Shape).Idx → EReal) (x : (⟨2, ![9728, 3584]⟩ : Shape).Idx → EReal)
    (s : (⟨2, ![76, 28]⟩ : Shape).Idx → EReal) : (⟨2, ![1536, 3584]⟩ : Shape).Idx → EReal := fun i =>
  ∑ k : Fin 9728, a (ix2 (i 0) k) * weight (R := 76) (C := 28) x s k (i 1)

/-- The product of an array with the transpose of a first-layer weight, entry by entry. -/
def prodT (a : (⟨2, ![1536, 9728]⟩ : Shape).Idx → EReal) (x : (⟨2, ![3584, 9728]⟩ : Shape).Idx → EReal)
    (s : (⟨2, ![28, 76]⟩ : Shape).Idx → EReal) : (⟨2, ![1536, 3584]⟩ : Shape).Idx → EReal := fun i =>
  ∑ k : Fin 9728, a (ix2 (i 0) k) * weight (R := 28) (C := 76) x s (i 1) k

end Cert.TokenProof
-- ==== Proof.TokenValue.lean ====
module

public import proofs.«01_k».proof.Proof.TokenBlock
public import proofs.«01_k».proof.Proof.TokenSpec

@[expose] public section

set_option maxRecDepth 16384

noncomputable section

/-! The two arrays that the token call leaves, as sums over all hidden columns of the argument arrays. -/

namespace Cert.TokenProof

open Cert.TokenIdeal Cert.TokenIdeal.Gen Cert.TokenIdeal.Value
open Idealize.ShloMosaic Idealize.ShloMosaic.TcCoe Idealize.SL.Sem
open Idealize.ShloMosaic.Pipeline (Dat)

local notation "𝕀" => Idealize.ShloMosaic.Ideal

variable (m : (ℓ : Loc nD τ sig) → Buf (Elt 𝕀) ℓ)

/-- One step's contribution to the first accumulator: the product of two blocks. -/
def part (a : Vec 𝕀 S1536x512 .bf16) (b : Vec 𝕀 S512x512 .bf16) : S1536x512.Idx → EReal := fun y =>
  ∑ k : Fin 512, (a (ix2 (y 0) k) : EReal) * (b (ix2 k (y 1)) : EReal)

/-- The product of a block with the transpose of another. -/
def partT (a : Vec 𝕀 S1536x512 .bf16) (b : Vec 𝕀 S512x512 .bf16) : S1536x512.Idx → EReal := fun y =>
  ∑ k : Fin 512, (a (ix2 (y 0) k) : EReal) * (b (ix2 (y 1) k) : EReal)

/-- The two accumulators' contents, as functions to the extended reals. -/
def yAcc (c : Dev nD) (n : ℕ) (h : n < cfg0.N) : S1536x512.Idx → EReal := (outsAt0 m c n h).2.2.1
def dxAcc (c : Dev nD) (n : ℕ) (h : n < cfg0.N) : S1536x512.Idx → EReal := (outsAt0 m c n h).2.2.2

theorem pay70 (acc : Vec 𝕀 S1536x512 .f32) (a : Vec 𝕀 S1536x512 .bf16) (b : Vec 𝕀 S512x512 .bf16) (y : S1536x512.Idx) :
    k0_pay70 acc a b y = (acc y : EReal) + part a b y := by
  idx_vars y
  pointwise [k0_pay70, part]

theorem pay72 (acc : Vec 𝕀 S1536x512 .f32) (a a' : Vec 𝕀 S1536x512 .bf16) (b b' : Vec 𝕀 S512x512 .bf16) (y : S1536x512.Idx) :
    k0_pay1 (k0_pay72 (k0_pay71 acc a b) a' b') y = (acc y : EReal) + (partT a b y + partT a' b' y) := by
  idx_vars y
  rw [← add_assoc]
  pointwise [k0_pay1, k0_pay72, k0_pay71, partT]

theorem zero4 (y : S1536x512.Idx) : (k0_pay4 (F := 𝕀) y : EReal) = 0 := by
  idx_vars y
  pointwise [k0_pay4]

theorem zero5 (y : S1536x512.Idx) : (k0_pay5 (F := 𝕀) y : EReal) = 0 := by
  idx_vars y
  pointwise [k0_pay5]

/-- At the last step of a column block the first accumulator is the sum of the nineteen contributions. -/
theorem y_sum (c : Dev nD) (t : Fin cfg0.N) (h : t.val % 19 = 18) (y : S1536x512.Idx) :
    yAcc m c t.val t.isLt y = 0 + ∑ s : Fin 19,
      part (iblk m c 3 ⟨19 * (t.val / 19) + s.val, Pipeline.run_point_lt_of_flush t h s⟩)
        (w2b m c ⟨19 * (t.val / 19) + s.val, Pipeline.run_point_lt_of_flush t h s⟩) y := by
  refine Pipeline.eq_sum_fin_of_reset_step_apply_of_flush (fun n h => yAcc m c n h) 19 (fun _ => 0)
    (fun t y => part (iblk m c 3 t) (w2b m c t) y) ?_ ?_ t h y
  · intro t h y
    have e := congrFun (y_A m c t h) y
    rw [pay70, zero4] at e
    exact e
  · intro t h y
    by_cases h1 : t.val % 19 = 18
    · have e := congrFun (y_C m c t h1) y
      rw [pay70] at e
      exact e
    · have e := congrFun (y_B m c t h h1) y
      rw [pay70] at e
      exact e

/-- At the last step of a column block the second accumulator is the sum of the nineteen pairs of contributions. -/
theorem dx_sum (c : Dev nD) (t : Fin cfg0.N) (h : t.val % 19 = 18) (y : S1536x512.Idx) :
    dxAcc m c t.val t.isLt y = 0 + ∑ s : Fin 19,
      (partT (iblk m c 4 ⟨19 * (t.val / 19) + s.val, Pipeline.run_point_lt_of_flush t h s⟩)
        (w1b m c ⟨19 * (t.val / 19) + s.val, Pipeline.run_point_lt_of_flush t h s⟩) y
      + partT (iblk m c 5 ⟨19 * (t.val / 19) + s.val, Pipeline.run_point_lt_of_flush t h s⟩)
        (w3b m c ⟨19 * (t.val / 19) + s.val, Pipeline.run_point_lt_of_flush t h s⟩) y) := by
  refine Pipeline.eq_sum_fin_of_reset_step_apply_of_flush (fun n h => dxAcc m c n h) 19 (fun _ => 0)
    (fun t y => partT (iblk m c 4 t) (w1b m c t) y + partT (iblk m c 5 t) (w3b m c t) y) ?_ ?_ t h y
  · intro t h y
    have e := congrFun (dx_A m c t h) y
    rw [pay72, zero5] at e
    exact e
  · intro t h y
    by_cases h1 : t.val % 19 = 18
    · have e := congrFun (dx_C m c t h1) y
      rw [pay72] at e
      exact e
    · have e := congrFun (dx_B m c t h h1) y
      rw [pay72] at e
      exact e

/-- The block index of each input window at each grid point. -/
theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val % 19] := (by decide +kernel : ∀ t : Fin grid0.N, _)
theorem idx4 : ∀ t : Fin cfg0.N, win0_4.index t = ![0, t.val % 19] := (by decide +kernel : ∀ t : Fin grid0.N, _)
theorem idx5 : ∀ t : Fin cfg0.N, win0_5.index t = ![0, t.val % 19] := (by decide +kernel : ∀ t : Fin grid0.N, _)
theorem idx6 : ∀ t : Fin cfg0.N, win0_6.index t = ![t.val / 19, t.val % 19] := (by decide +kernel : ∀ t : Fin grid0.N, _)
theorem idx7 : ∀ t : Fin cfg0.N, win0_7.index t = ![t.val / 19, t.val % 19] := (by decide +kernel : ∀ t : Fin grid0.N, _)
theorem idx8 : ∀ t : Fin cfg0.N, win0_8.index t = ![t.val % 19, t.val / 19] := (by decide +kernel : ∀ t : Fin grid0.N, _)

/-- The first result: the widened `h` times the dequantised second weight. -/
theorem G9_eq (c : Dev nD) : G9 m c = prodN (m ((c : Thread nD τ).loc main_arg3)) (m ((c : Thread nD τ).loc main_arg8)) (m ((c : Thread nD τ).loc main_arg2)) := by
  funext i
  idx_vars i
  have hN : cfg0.N = 133 := N_0
  have hv : pt9Of (ix2 i0 i1) = 19 * (7 * (i0.val / 1536 - 0) + 1 * (i1.val / 512 - 0)) + 18 := rfl
  have h0 : (ix2 i0 i1 0).val = i0.val := rfl
  have h1 : (ix2 i0 i1 1).val = i1.val := rfl
  have hp : pt9Of (ix2 i0 i1) < cfg0.N := by rw [hN, hv]; omega
  have hm : (⟨_, hp⟩ : Fin cfg0.N).val % 19 = 18 := by simp only [hv]; omega
  unfold G9
  rw [dif_pos hp, ← outsAt0_sweep m c _ hp, (out_C m c ⟨_, hp⟩ hm).1]
  have e := y_sum m c ⟨_, hp⟩ hm (loc9Of (ix2 i0 i1))
  rw [zero_add] at e
  refine (show _ = yAcc m c _ hp (loc9Of (ix2 i0 i1)) by pointwise [k0_pay2, yAcc]).trans (e.trans ?_)
  unfold part prodN
  refine Fin.sum_mul_add_congr fun s k hl => ?_
  generalize htt : (⟨19 * ((⟨_, hp⟩ : Fin cfg0.N).val / 19) + s.val, _⟩ : Fin cfg0.N) = t
  have ht : t.val = 19 * (pt9Of (ix2 i0 i1) / 19) + s.val := by rw [← htt]
  have hs := s.isLt
  have hk := k.isLt
  unfold w2b scaled weight
  blk_point [iblk, V, idx2 t, idx3 t, idx8 t]
  all_goals
    simp only [ht, hv, h0, h1]
    omega

/-- The second result: the widened `da` times the transposed dequantised first weight, plus the same of `db` and the third. -/
theorem G10_eq (c : Dev nD) : G10 m c = fun i =>
    prodT (m ((c : Thread nD τ).loc main_arg4)) (m ((c : Thread nD τ).loc main_arg6)) (m ((c : Thread nD τ).loc main_arg0)) i
    + prodT (m ((c : Thread nD τ).loc main_arg5)) (m ((c : Thread nD τ).loc main_arg7)) (m ((c : Thread nD τ).loc main_arg1)) i := by
  funext i
  idx_vars i
  have hN : cfg0.N = 133 := N_0
  have hv : pt10Of (ix2 i0 i1) = 19 * (7 * (i0.val / 1536 - 0) + 1 * (i1.val / 512 - 0)) + 18 := rfl
  have h0 : (ix2 i0 i1 0).val = i0.val := rfl
  have h1 : (ix2 i0 i1 1).val = i1.val := rfl
  have hp : pt10Of (ix2 i0 i1) < cfg0.N := by rw [hN, hv]; omega
  have hm : (⟨_, hp⟩ : Fin cfg0.N).val % 19 = 18 := by simp only [hv]; omega
  unfold G10
  rw [dif_pos hp, ← outsAt0_sweep m c _ hp, (out_C m c ⟨_, hp⟩ hm).2]
  have e := dx_sum m c ⟨_, hp⟩ hm (loc10Of (ix2 i0 i1))
  rw [zero_add, Finset.sum_add_distrib] at e
  refine (show _ = dxAcc m c _ hp (loc10Of (ix2 i0 i1)) by pointwise [k0_pay3, dxAcc]).trans (e.trans ?_)
  unfold partT prodT
  refine congrArg₂ (fun a b : EReal => a + b) ?_ ?_
  all_goals
    refine Fin.sum_mul_add_congr fun s k hl => ?_
    generalize htt : (⟨19 * ((⟨_, hp⟩ : Fin cfg0.N).val / 19) + s.val, _⟩ : Fin cfg0.N) = t
    have ht : t.val = 19 * (pt10Of (ix2 i0 i1) / 19) + s.val := by rw [← htt]
    have hs := s.isLt
    have hk := k.isLt
    simp only [w1b, w3b, scaled, weight]
    blk_point [iblk, V, idx0 t, idx1 t, idx4 t, idx5 t, idx6 t, idx7 t]
    all_goals
      simp only [ht, hv, h0, h1]
      omega

end Cert.TokenProof
-- ==== Proof.TokenRef.lean ====
module

public import proofs.«01_k».proof.Proof.Gen.TokenRefIdeal.Value
public import proofs.«01_k».proof.Proof.TokenSpec
public import Idealize.ShloMosaic.Lib.Pipeline.ValueKit
public import Idealize.ShloMosaic.Lib.Pointwise

@[expose] public section

set_option maxRecDepth 16384

noncomputable section

/-! The reference of the token call leaves the same sums. -/

namespace Cert.TokenProof.Ref

open Cert.TokenRefIdeal Cert.TokenRefIdeal.Gen Cert.TokenRefIdeal.Value
open Idealize.ShloMosaic Idealize.ShloMosaic.TcCoe

local notation "𝕀" => Idealize.ShloMosaic.Ideal

variable (x0 x1 : Vec 𝕀 S28x76 .f32) (x2 : Vec 𝕀 S76x28 .f32) (x3 x4 x5 : Vec 𝕀 S1536x9728 .bf16)
  (x6 x7 : Vec 𝕀 S3584x9728 .fp8e4m3) (x8 : Vec 𝕀 S9728x3584 .fp8e4m3)

/-- The reference's first result. -/
theorem G9_eq : G9 x0 x1 x2 x3 x4 x5 x6 x7 x8 = prodN x3 x8 x2 := by
  funext i
  idx_vars i
  unfold G9
  unfold_payloads
  pointwise [prodN, weight]

/-- The reference's second result. -/
theorem G10_eq : G10 x0 x1 x2 x3 x4 x5 x6 x7 x8 = fun i => prodT x4 x6 x0 i + prodT x5 x7 x1 i := by
  funext i
  idx_vars i
  unfold G10
  unfold_payloads
  pointwise [prodT, weight]

end Cert.TokenProof.Ref
-- ==== Proof.WeightBlock.lean ====
module

public import proofs.«01_k».proof.Proof.Gen.WeightIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WeightProof

open Cert.WeightIdeal Cert.WeightIdeal.Gen Idealize.ShloMosaic Idealize.ShloMosaic.TcCoe Idealize.SL.Sem
open Idealize.ShloMosaic.Pipeline (Dat)

local notation "𝕀" => Idealize.ShloMosaic.Ideal

variable (m : (ℓ : Loc nD τ sig) → Buf (Elt 𝕀) ℓ)

/-- The codes of one column block times their scales, the sequence and the position in it taken as one token axis. -/
def wide (x : Vec 𝕀 S12x128x512 .fp8e4m3) (s : Vec 𝕀 S12x1x512 .f32) : Vec 𝕀 S1536x512 .bf16 := fun y =>
  (x (ix3 (⟨(y 0).val / 128, by have := (y 0).isLt; change _ < 1536 at this; omega⟩ : Fin 12)
      (⟨(y 0).val % 128, Nat.mod_lt _ (by decide)⟩ : Fin 128) (y 1)) : EReal)
    * (s (ix3 (⟨(y 0).val / 128, by have := (y 0).isLt; change _ < 1536 at this; omega⟩ : Fin 12) (0 : Fin 1) (y 1)) : EReal)

/-- The same, transposed. -/
def wideT (x : Vec 𝕀 S12x128x512 .fp8e4m3) (s : Vec 𝕀 S12x1x512 .f32) : Vec 𝕀 S512x1536 .bf16 := fun y =>
  wide x s (ix2 (y 1) (y 0))

/-- One sequence's codes and scales, read at a token of that sequence, are the widened block there. -/
theorem wide_of (x : Vec 𝕀 S12x128x512 .fp8e4m3) (s : Vec 𝕀 S12x1x512 .f32) (y : S1536x512.Idx)
    (g : Fin 12) (r : Fin 128) (f : Fin 512) (h0 : (y 0).val = 128 * g.val + r.val) (h1 : (y 1).val = f.val) :
    (x (ix3 g r f) : EReal) * (s (ix3 g (0 : Fin 1) f) : EReal) = wide x s y := by
  have e0 : (y 0).val / 128 = g.val := by omega
  have e1 : (y 0).val % 128 = r.val := by omega
  have e2 : y 1 = f := Fin.ext h1
  simp only [wide, e0, e1, e2]

/-- The same for the transposed block. -/
theorem wideT_of (x : Vec 𝕀 S12x128x512 .fp8e4m3) (s : Vec 𝕀 S12x1x512 .f32) (y : S512x1536.Idx)
    (g : Fin 12) (r : Fin 128) (f : Fin 512) (h1 : (y 1).val = 128 * g.val + r.val) (h0 : (y 0).val = f.val) :
    (x (ix3 g r f) : EReal) * (s (ix3 g (0 : Fin 1) f) : EReal) = wideT x s y :=
  wide_of x s _ g r f h1 h0

/-- At the first point of a column block the first scratch is filled with the widened `hc` block, transposed. -/
theorem A_scr0 (c : Dev nD) (t : Fin cfg0.N) (h : t.val % 4 = 0)  :
    (outsAt0 m c t.val t.isLt).2.2.2.1 = wideT (iblk m c 0 t) (iblk m c 1 t) := by
  rw [outsAt0_A m c t h]
  funext y
  frame_out
  canon_tiles x hx
  all_goals
    open_payloads
    pointwise
    refine wideT_of _ _ _ _ _ _ ?_ (by omega)
    show _ = 128 * ((_ : Fin 12) : ℕ) + _
    simp
    omega

/-- At the first point of a column block the second scratch is filled with the widened `da` block. -/
theorem A_scr1 (c : Dev nD) (t : Fin cfg0.N) (h : t.val % 4 = 0)  :
    (outsAt0 m c t.val t.isLt).2.2.2.2.1 = wide (iblk m c 2 t) (iblk m c 3 t) := by
  rw [outsAt0_A m c t h]
  funext y
  frame_out
  canon_tiles x hx
  all_goals
    open_payloads
    pointwise
    refine wide_of _ _ _ _ _ _ ?_ (by omega)
    show _ = 128 * ((_ : Fin 12) : ℕ) + _
    simp
    omega

/-- At the first point of a column block the third scratch is filled with the widened `db` block. -/
theorem A_scr2 (c : Dev nD) (t : Fin cfg0.N) (h : t.val % 4 = 0)  :
    (outsAt0 m c t.val t.isLt).2.2.2.2.2 = wide (iblk m c 4 t) (iblk m c 5 t) := by
  rw [outsAt0_A m c t h]
  funext y
  frame_out
  canon_tiles x hx
  all_goals
    open_payloads
    pointwise
    refine wide_of _ _ _ _ _ _ ?_ (by omega)
    show _ = 128 * ((_ : Fin 12) : ℕ) + _
    simp
    omega

/-- A load of a whole buffer gives back what the stores into it left. -/
theorem readCov_whole {S : Shape} {e : EltTy} {sig : RefSig} {κ : Kind} {sp : Space} (v : View sig κ sp S e)
    (L : List (View.Piece (Elt 𝕀) S e)) {off : Fin S.rank → Nat} (inb : ∀ a, off a + S.size a ≤ S.size a) (h : ∀ a, off a = 0) :
    v.readCov L (Rect.unit off S.size inb).toLoadRect = View.canon L := by
  rw [View.readCov_eq_canon']
  exact View.ld_unit_lit inb (View.canon L) h

/-- What a point stores into its block of the first result: the product of its `xc` block with the second scratch. -/
theorem out8 (c : Dev nD) (t : Fin cfg0.N)  :
    (outsAt0 m c t.val t.isLt).1
      = k0_pay2 (iblk m c 6 t) (outsAt0 m c t.val t.isLt).2.2.2.2.1 := by
  by_cases h : t.val % 4 = 0
  · rw [outsAt0_A m c t h]
    frame_out
    exact congrArg _ (readCov_whole _ _ _ (by decide))
  · rw [outsAt0_B m c t h]
    frame_out
    simp only [read_unread_whole, sout0_B_1]

/-- The second result's block: the product of the `xc` block with the third scratch. -/
theorem out9 (c : Dev nD) (t : Fin cfg0.N)  :
    (outsAt0 m c t.val t.isLt).2.1
      = k0_pay3 (iblk m c 6 t) (outsAt0 m c t.val t.isLt).2.2.2.2.2 := by
  by_cases h : t.val % 4 = 0
  · rw [outsAt0_A m c t h]
    frame_out
    exact congrArg _ (readCov_whole _ _ _ (by decide))
  · rw [outsAt0_B m c t h]
    frame_out
    simp only [read_unread_whole, sout0_B_2]

/-- The third result's block: the product of the first scratch with the `dyc` block. -/
theorem out10 (c : Dev nD) (t : Fin cfg0.N)  :
    (outsAt0 m c t.val t.isLt).2.2.1
      = k0_pay4 (outsAt0 m c t.val t.isLt).2.2.2.1 (iblk m c 7 t) := by
  by_cases h : t.val % 4 = 0
  · rw [outsAt0_A m c t h]
    frame_out
    exact congrArg (fun a => k0_pay4 a _) (readCov_whole _ _ _ (by decide))
  · rw [outsAt0_B m c t h]
    frame_out
    simp only [read_unread_whole, sout0_B_0]

/-- A point that is not the first of its column block leaves the three scratches as the point before did. -/
theorem B_scr (c : Dev nD) (t : Fin cfg0.N) (h : ¬ t.val % 4 = 0)  :
    (outsAt0 m c t.val t.isLt).2.2.2 = (outsAt0 m c (t.val - 1) (by have := t.isLt; omega)).2.2.2 := by
  rw [outsAt0_B m c t h]
  simp only [sout0_B_0, sout0_B_1, sout0_B_2]

/-- The first point of the column block that grid point `n` belongs to. -/
abbrev first (n : ℕ) (hn : n < cfg0.N) : Fin cfg0.N := ⟨4 * (n / 4), by omega⟩

/-- Throughout a column block the scratches hold that block, widened. -/
theorem scr (c : Dev nD) : ∀ (n : ℕ) (hn : n < cfg0.N),
    (outsAt0 m c n hn).2.2.2
      = (wideT (iblk m c 0 (first n hn)) (iblk m c 1 (first n hn)),
         wide (iblk m c 2 (first n hn)) (iblk m c 3 (first n hn)),
         wide (iblk m c 4 (first n hn)) (iblk m c 5 (first n hn))) := by
  intro n
  induction n with
  | zero =>
    intro hn
    exact Prod.ext (A_scr0 m c ⟨0, hn⟩ rfl) (Prod.ext (A_scr1 m c ⟨0, hn⟩ rfl) (A_scr2 m c ⟨0, hn⟩ rfl))
  | succ n ih =>
    intro hn
    by_cases h : (n + 1) % 4 = 0
    · have e : first (n + 1) hn = ⟨n + 1, hn⟩ := Fin.ext (by show 4 * ((n + 1) / 4) = n + 1; omega)
      rw [e]
      exact Prod.ext (A_scr0 m c ⟨n + 1, hn⟩ h) (Prod.ext (A_scr1 m c ⟨n + 1, hn⟩ h) (A_scr2 m c ⟨n + 1, hn⟩ h))
    · have e : first (n + 1) hn = first n (by omega) := Fin.ext (by show 4 * ((n + 1) / 4) = 4 * (n / 4); omega)
      rw [e, ← ih (by omega)]
      exact B_scr m c ⟨n + 1, hn⟩ h

end Cert.WeightProof
-- ==== Proof.WeightSpec.lean ====
module

public import Idealize.ShloMosaic.Lib.Pointwise

@[expose] public section

noncomputable section

/-! What the weight-gradient call computes: three products over all 1536 tokens of a given array with the dequantised
    columns of an array of codes and scales. -/

namespace Cert.WeightProof

open Idealize.ShloMosaic

/-- The codes at column `j` of token `k`, dequantised. -/
def deq (x : (⟨3, ![12, 128, 9728]⟩ : Shape).Idx → EReal) (s : (⟨3, ![12, 1, 9728]⟩ : Shape).Idx → EReal) (k : Fin 1536) (j : Fin 9728) : EReal :=
  x (ix3 (⟨k.val / 128, by omega⟩ : Fin 12) (⟨k.val % 128, Nat.mod_lt _ (by decide)⟩ : Fin 128) j)
    * s (ix3 (⟨k.val / 128, by omega⟩ : Fin 12) (0 : Fin 1) j)

/-- The product of a [3584, tokens] array with the dequantised columns, entry by entry. -/
def prodR (p : (⟨2, ![3584, 1536]⟩ : Shape).Idx → EReal) (x : (⟨3, ![12, 128, 9728]⟩ : Shape).Idx → EReal) (s : (⟨3, ![12, 1, 9728]⟩ : Shape).Idx → EReal) :
    (⟨2, ![3584, 9728]⟩ : Shape).Idx → EReal := fun i =>
  ∑ k : Fin 1536, p (ix2 (i 0) k) * deq x s k (i 1)

/-- The product of the transposed dequantised columns with a [tokens, 3584] array, entry by entry. -/
def prodL (x : (⟨3, ![12, 128, 9728]⟩ : Shape).Idx → EReal) (s : (⟨3, ![12, 1, 9728]⟩ : Shape).Idx → EReal) (p : (⟨2, ![1536, 3584]⟩ : Shape).Idx → EReal) :
    (⟨2, ![9728, 3584]⟩ : Shape).Idx → EReal := fun i =>
  ∑ k : Fin 1536, deq x s k (i 0) * p (ix2 k (i 1))

end Cert.WeightProof
-- ==== Proof.WeightValue.lean ====
module

public import proofs.«01_k».proof.Proof.WeightBlock
public import proofs.«01_k».proof.Proof.WeightSpec

@[expose] public section

set_option maxRecDepth 16384

noncomputable section

/-! The three arrays that the weight-gradient call leaves, as sums over all tokens of the argument arrays. -/

namespace Cert.WeightProof

open Cert.WeightIdeal Cert.WeightIdeal.Gen Cert.WeightIdeal.Value
open Idealize.ShloMosaic Idealize.ShloMosaic.TcCoe Idealize.SL.Sem
open Idealize.ShloMosaic.Pipeline (Dat)

local notation "𝕀" => Idealize.ShloMosaic.Ideal

variable (m : (ℓ : Loc nD τ sig) → Buf (Elt 𝕀) ℓ)

/-- The block index of each input window at each grid point. -/
theorem idx0 : ∀ t : Fin cfg0.N, win0_0.index t = ![0, 0, t.val / 4] := (by decide +kernel : ∀ t : Fin grid0.N, _)
theorem idx1 : ∀ t : Fin cfg0.N, win0_1.index t = ![0, 0, t.val / 4] := (by decide +kernel : ∀ t : Fin grid0.N, _)
theorem idx2 : ∀ t : Fin cfg0.N, win0_2.index t = ![0, 0, t.val / 4] := (by decide +kernel : ∀ t : Fin grid0.N, _)
theorem idx3 : ∀ t : Fin cfg0.N, win0_3.index t = ![0, 0, t.val / 4] := (by decide +kernel : ∀ t : Fin grid0.N, _)
theorem idx4 : ∀ t : Fin cfg0.N, win0_4.index t = ![0, 0, t.val / 4] := (by decide +kernel : ∀ t : Fin grid0.N, _)
theorem idx5 : ∀ t : Fin cfg0.N, win0_5.index t = ![0, 0, t.val / 4] := (by decide +kernel : ∀ t : Fin grid0.N, _)
theorem idx6 : ∀ t : Fin cfg0.N, win0_6.index t = ![t.val % 4, 0] := (by decide +kernel : ∀ t : Fin grid0.N, _)
theorem idx7 : ∀ t : Fin cfg0.N, win0_7.index t = ![0, t.val % 4] := (by decide +kernel : ∀ t : Fin grid0.N, _)

/-- The first result: `xc` transposed times dequantised `da`, summed over all tokens. -/
theorem G8_eq (c : Dev nD) : G8 m c = prodR (m ((c : Thread nD τ).loc main_arg6)) (m ((c : Thread nD τ).loc main_arg2)) (m ((c : Thread nD τ).loc main_arg3)) := by
  funext i
  idx_vars i
  have hN : cfg0.N = 76 := N_0
  have hv : pt8Of (ix2 i0 i1) = 1 * (i0.val / 896 - 0) + 4 * (i1.val / 512 - 0) := rfl
  have h0 : (ix2 i0 i1 0).val = i0.val := rfl
  have h1 : (ix2 i0 i1 1).val = i1.val := rfl
  have hp : pt8Of (ix2 i0 i1) < cfg0.N := by rw [hN, hv]; omega
  unfold G8
  rw [dif_pos hp, ← outsAt0_sweep m c _ hp, out8 m c ⟨_, hp⟩, scr]
  pointwise [k0_pay2, wide, prodR, deq]
  blk_point [iblk, V, idx6 ⟨_, hp⟩, idx2 (first _ hp), idx3 (first _ hp)]
  all_goals
    simp only [hv, h0, h1]
    omega

/-- The second result: `xc` transposed times dequantised `db`. -/
theorem G9_eq (c : Dev nD) : G9 m c = prodR (m ((c : Thread nD τ).loc main_arg6)) (m ((c : Thread nD τ).loc main_arg4)) (m ((c : Thread nD τ).loc main_arg5)) := by
  funext i
  idx_vars i
  have hN : cfg0.N = 76 := N_0
  have hv : pt9Of (ix2 i0 i1) = 1 * (i0.val / 896 - 0) + 4 * (i1.val / 512 - 0) := rfl
  have h0 : (ix2 i0 i1 0).val = i0.val := rfl
  have h1 : (ix2 i0 i1 1).val = i1.val := rfl
  have hp : pt9Of (ix2 i0 i1) < cfg0.N := by rw [hN, hv]; omega
  unfold G9
  rw [dif_pos hp, ← outsAt0_sweep m c _ hp, out9 m c ⟨_, hp⟩, scr]
  pointwise [k0_pay3, wide, prodR, deq]
  blk_point [iblk, V, idx6 ⟨_, hp⟩, idx4 (first _ hp), idx5 (first _ hp)]
  all_goals
    simp only [hv, h0, h1]
    omega

/-- The third result: dequantised `hc` transposed times `dyc`. -/
theorem G10_eq (c : Dev nD) : G10 m c = prodL (m ((c : Thread nD τ).loc main_arg0)) (m ((c : Thread nD τ).loc main_arg1)) (m ((c : Thread nD τ).loc main_arg7)) := by
  funext i
  idx_vars i
  have hN : cfg0.N = 76 := N_0
  have hv : pt10Of (ix2 i0 i1) = 4 * (i0.val / 512 - 0) + 1 * (i1.val / 896 - 0) := rfl
  have h0 : (ix2 i0 i1 0).val = i0.val := rfl
  have h1 : (ix2 i0 i1 1).val = i1.val := rfl
  have hp : pt10Of (ix2 i0 i1) < cfg0.N := by rw [hN, hv]; omega
  unfold G10
  rw [dif_pos hp, ← outsAt0_sweep m c _ hp, out10 m c ⟨_, hp⟩, scr]
  pointwise [k0_pay4, wideT, wide, prodL, deq]
  blk_point [iblk, V, idx7 ⟨_, hp⟩, idx0 (first _ hp), idx1 (first _ hp)]
  all_goals
    simp only [hv, h0, h1]
    omega

end Cert.WeightProof
-- ==== Proof.WeightRef.lean ====
module

public import proofs.«01_k».proof.Proof.Gen.WeightRefIdeal.Value
public import proofs.«01_k».proof.Proof.WeightSpec
public import Idealize.ShloMosaic.Lib.Pipeline.ValueKit
public import Idealize.ShloMosaic.Lib.Pointwise

@[expose] public section

set_option maxRecDepth 16384

noncomputable section

/-! The reference of the weight-gradient call leaves the same three sums. -/

namespace Cert.WeightProof.Ref

open Cert.WeightRefIdeal Cert.WeightRefIdeal.Gen Cert.WeightRefIdeal.Value
open Idealize.ShloMosaic Idealize.ShloMosaic.TcCoe

local notation "𝕀" => Idealize.ShloMosaic.Ideal

variable (x0 x2 x4 : Vec 𝕀 S12x128x9728 .fp8e4m3) (x1 x3 x5 : Vec 𝕀 S12x1x9728 .f32)
  (x6 : Vec 𝕀 S3584x1536 .bf16) (x7 : Vec 𝕀 S1536x3584 .bf16)

/-- The reference's first result. -/
theorem G8_eq : G8 x0 x1 x2 x3 x4 x5 x6 x7 = prodR x6 x2 x3 := by
  funext i
  idx_vars i
  unfold G8
  unfold_payloads
  pointwise [prodR, deq]

/-- The reference's second result. -/
theorem G9_eq : G9 x0 x1 x2 x3 x4 x5 x6 x7 = prodR x6 x4 x5 := by
  funext i
  idx_vars i
  unfold G9
  unfold_payloads
  pointwise [prodR, deq]

/-- The reference's third result. -/
theorem G10_eq : G10 x0 x1 x2 x3 x4 x5 x6 x7 = prodL x0 x1 x7 := by
  funext i
  idx_vars i
  unfold G10
  unfold_payloads
  pointwise [prodL, deq]

end Cert.WeightProof.Ref
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateRefIdeal
public import proofs.«01_k».proof.Proof.Gen.GateRefIdeal.Skeleton
public import proofs.«01_k».proof.Proof.Gen.GateRefIdeal.Launch
public import proofs.«01_k».proof.Proof.Gen.GateRefIdeal.Points
public import proofs.«01_k».proof.Proof.Gen.GateRefIdeal.Frame
public import proofs.«01_k».proof.Proof.Gen.GateRefIdeal.Value
public import proofs.«01_k».proof.Proof.Gen.Token
public import proofs.«01_k».proof.Proof.Gen.Token.Skeleton
public import proofs.«01_k».proof.Proof.Gen.Token.Launch
public import proofs.«01_k».proof.Proof.Gen.Token.Points
public import proofs.«01_k».proof.Proof.Gen.Token.Frame
public import proofs.«01_k».proof.Proof.Gen.TokenIdeal
public import proofs.«01_k».proof.Proof.Gen.TokenIdeal.Skeleton
public import proofs.«01_k».proof.Proof.Gen.TokenIdeal.Launch
public import proofs.«01_k».proof.Proof.Gen.TokenIdeal.Points
public import proofs.«01_k».proof.Proof.Gen.TokenIdeal.Frame
public import proofs.«01_k».proof.Proof.Gen.TokenIdeal.Value
public import proofs.«01_k».proof.Proof.Gen.TokenRefIdeal
public import proofs.«01_k».proof.Proof.Gen.TokenRefIdeal.Skeleton
public import proofs.«01_k».proof.Proof.Gen.TokenRefIdeal.Launch
public import proofs.«01_k».proof.Proof.Gen.TokenRefIdeal.Points
public import proofs.«01_k».proof.Proof.Gen.TokenRefIdeal.Frame
public import proofs.«01_k».proof.Proof.Gen.TokenRefIdeal.Value
public import proofs.«01_k».proof.Proof.Gen.Weight
public import proofs.«01_k».proof.Proof.Gen.Weight.Skeleton
public import proofs.«01_k».proof.Proof.Gen.Weight.Launch
public import proofs.«01_k».proof.Proof.Gen.Weight.Points
public import proofs.«01_k».proof.Proof.Gen.Weight.Frame
public import proofs.«01_k».proof.Proof.Gen.WeightIdeal
public import proofs.«01_k».proof.Proof.Gen.WeightIdeal.Skeleton
public import proofs.«01_k».proof.Proof.Gen.WeightIdeal.Launch
public import proofs.«01_k».proof.Proof.Gen.WeightIdeal.Points
public import proofs.«01_k».proof.Proof.Gen.WeightIdeal.Frame
public import proofs.«01_k».proof.Proof.Gen.WeightIdeal.Value
public import proofs.«01_k».proof.Proof.Gen.WeightRefIdeal
public import proofs.«01_k».proof.Proof.Gen.WeightRefIdeal.Skeleton
public import proofs.«01_k».proof.Proof.Gen.WeightRefIdeal.Launch
public import proofs.«01_k».proof.Proof.Gen.WeightRefIdeal.Points
public import proofs.«01_k».proof.Proof.Gen.WeightRefIdeal.Frame
public import proofs.«01_k».proof.Proof.Gen.WeightRefIdeal.Value
public import proofs.«01_k».proof.Proof.GateFrame
public import proofs.«01_k».proof.Proof.GateIdealFrame
public import proofs.«01_k».proof.Proof.GateIdealValue
public import proofs.«01_k».proof.Proof.GateArray
public import proofs.«01_k».proof.Proof.GateRowFrame
public import proofs.«01_k».proof.Proof.GateRef
public import proofs.«01_k».proof.Proof.TokenValue
public import proofs.«01_k».proof.Proof.TokenRef
public import proofs.«01_k».proof.Proof.WeightValue
public import proofs.«01_k».proof.Proof.WeightRef
public import Idealize.ShloMosaic.Adequacy
public import Idealize.ShloMosaic.Init

@[expose] public section

noncomputable section

namespace Cert.Proof

open Idealize.ShloMosaic Idealize.SL.Sem Cert.Token

set_option maxHeartbeats 4000000 in
/-- Gate call: kernel and reference leave the same codes, scales and widened arrays, from equal arguments. -/
theorem algebraic_gate : Cert.algebraic_GateIdeal_GateRefIdeal (hGateIdeal := Cert.GateIdeal.Gen.facts)
    (hGateRefIdeal := Cert.GateRefIdeal.Gen.facts) := by
  intro m ρ m' ρ' _ hag
  refine ⟨fun c => (Cert.GateIdeal.Gen.dats m 0 c).arrAt 8 Cert.GateIdeal.cfg0.N,
    fun c => GateProof.rowScale (GateProof.valH m c),
    fun c => (Cert.GateIdeal.Gen.dats m 0 c).arrAt 10 Cert.GateIdeal.cfg0.N,
    fun c => (Cert.GateIdeal.Gen.dats m 0 c).arrAt 11 Cert.GateIdeal.cfg0.N,
    fun c => (Cert.GateIdeal.Gen.dats m 0 c).arrAt 12 Cert.GateIdeal.cfg0.N,
    fun c => GateProof.rowScale (GateProof.valDA m c),
    fun c => (Cert.GateIdeal.Gen.dats m 0 c).arrAt 14 Cert.GateIdeal.cfg0.N,
    fun c => GateProof.rowScale (GateProof.valDB m c),
    fun c => (Cert.GateIdeal.Gen.dats m 0 c).arrAt 16 Cert.GateIdeal.cfg0.N,
    fun c => (Cert.GateIdeal.Gen.dats m 0 c).arrAt 17 Cert.GateIdeal.cfg0.N,
    fun c => (Cert.GateIdeal.Gen.dats m 0 c).arrAt 18 Cert.GateIdeal.cfg0.N,
    fun c => (Cert.GateIdeal.Gen.dats m 0 c).arrAt 19 Cert.GateIdeal.cfg0.N,
    fun c => (Cert.GateIdeal.Gen.dats m 0 c).arrAt 20 Cert.GateIdeal.cfg0.N,
    fun c => (Cert.GateIdeal.Gen.dats m 0 c).arrAt 21 Cert.GateIdeal.cfg0.N,
    fun c => (Cert.GateIdeal.Gen.dats m 0 c).arrAt 22 Cert.GateIdeal.cfg0.N,
    GateProof.run_all m ρ, ?_⟩
  refine (θ_run (Cert.GateRefIdeal.defs (F := Ideal)) _ _).mono (fun r h c => ?_) (Cert.GateRefIdeal.Value.run (F := Ideal) m' ρ')
  obtain ⟨h8, h9, h10, h11, h12, h13, h14, h15, h16, h17, h18, h19, h20, h21, h22, hk⟩ := h c
  obtain ⟨e0, e1, e2, e3, e4, e5, e6, e7⟩ := hag c
  refine ⟨h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, hk⟩
  all_goals rw [e0, e1, e2, e3, e4, e5, e6, e7]
  · exact (GateProof.Ref.G8_eq _ _ _ _ _ _ _ _).trans (GateProof.arr8 m c).symm
  · exact GateProof.Ref.G9_eq _ _ _ _ _ _ _ _
  · exact (GateProof.Ref.G10_eq _ _ _ _ _ _ _ _).trans (GateProof.arr10 m c).symm
  · exact (GateProof.Ref.G11_eq _ _ _ _ _ _ _ _).trans (GateProof.arr11 m c).symm
  · exact (GateProof.Ref.G12_eq _ _ _ _ _ _ _ _).trans (GateProof.arr12 m c).symm
  · exact GateProof.Ref.G13_eq _ _ _ _ _ _ _ _
  · exact (GateProof.Ref.G14_eq _ _ _ _ _ _ _ _).trans (GateProof.arr14 m c).symm
  · exact GateProof.Ref.G15_eq _ _ _ _ _ _ _ _
  · exact (GateProof.Ref.G16_eq _ _ _ _ _ _ _ _).trans (GateProof.arr16 m c).symm
  · exact (GateProof.Ref.G17_eq _ _ _ _ _ _ _ _).trans (GateProof.arr17 m c).symm
  · exact (GateProof.Ref.G18_eq _ _ _ _ _ _ _ _).trans (GateProof.arr18 m c).symm
  · exact (GateProof.Ref.G19_eq _ _ _ _ _ _ _ _).trans (GateProof.arr19 m c).symm
  · exact (GateProof.Ref.G20_eq _ _ _ _ _ _ _ _).trans (GateProof.arr20 m c).symm
  · exact (GateProof.Ref.G21_eq _ _ _ _ _ _ _ _).trans (GateProof.arr21 m c).symm
  · exact (GateProof.Ref.G22_eq _ _ _ _ _ _ _ _).trans (GateProof.arr22 m c).symm

/-- Token call: kernel and reference leave the same `y` and `dx`, from equal arguments. -/
theorem algebraic_token : Cert.algebraic_TokenIdeal_TokenRefIdeal (hTokenIdeal := Cert.TokenIdeal.Gen.facts)
    (hTokenRefIdeal := Cert.TokenRefIdeal.Gen.facts) := by
  intro m ρ m' ρ' _ hag
  refine ⟨fun c => Cert.TokenIdeal.Value.G9 m c, fun c => Cert.TokenIdeal.Value.G10 m c,
    Cert.TokenIdeal.Value.run m ρ, ?_⟩
  refine (θ_run (Cert.TokenRefIdeal.defs (F := Ideal)) _ _).mono (fun r h c => ?_) (Cert.TokenRefIdeal.Value.run (F := Ideal) m' ρ')
  obtain ⟨h9, h10, hk⟩ := h c
  obtain ⟨e0, e1, e2, e3, e4, e5, e6, e7, e8⟩ := hag c
  refine ⟨h9.trans ?_, h10.trans ?_, hk⟩
  · rw [e0, e1, e2, e3, e4, e5, e6, e7, e8]
    exact (TokenProof.Ref.G9_eq _ _ _ _ _ _ _ _ _).trans (TokenProof.G9_eq m c).symm
  · rw [e0, e1, e2, e3, e4, e5, e6, e7, e8]
    exact (TokenProof.Ref.G10_eq _ _ _ _ _ _ _ _ _).trans (TokenProof.G10_eq m c).symm

/-- Weight-gradient call: kernel and reference leave the same `dw1`, `dw3` and `dw2`, from equal arguments. -/
theorem algebraic_weight : Cert.algebraic_WeightIdeal_WeightRefIdeal (hWeightIdeal := Cert.WeightIdeal.Gen.facts)
    (hWeightRefIdeal := Cert.WeightRefIdeal.Gen.facts) := by
  intro m ρ m' ρ' _ hag
  refine ⟨fun c => Cert.WeightIdeal.Value.G8 m c, fun c => Cert.WeightIdeal.Value.G9 m c,
    fun c => Cert.WeightIdeal.Value.G10 m c, Cert.WeightIdeal.Value.run m ρ, ?_⟩
  refine (θ_run (Cert.WeightRefIdeal.defs (F := Ideal)) _ _).mono (fun r h c => ?_) (Cert.WeightRefIdeal.Value.run (F := Ideal) m' ρ')
  obtain ⟨h8, h9, h10, hk⟩ := h c
  obtain ⟨e0, e1, e2, e3, e4, e5, e6, e7⟩ := hag c
  refine ⟨h8.trans ?_, h9.trans ?_, h10.trans ?_, hk⟩
  · rw [e0, e1, e2, e3, e4, e5, e6, e7]
    exact (WeightProof.Ref.G8_eq _ _ _ _ _ _ _ _).trans (WeightProof.G8_eq m c).symm
  · rw [e0, e1, e2, e3, e4, e5, e6, e7]
    exact (WeightProof.Ref.G9_eq _ _ _ _ _ _ _ _).trans (WeightProof.G9_eq m c).symm
  · rw [e0, e1, e2, e3, e4, e5, e6, e7]
    exact (WeightProof.Ref.G10_eq _ _ _ _ _ _ _ _).trans (WeightProof.G10_eq m c).symm

/-- Every claim of the certificate. -/
theorem claim : Cert.Claim :=
  ⟨Cert.Gate.Gen.facts, Cert.GateIdeal.Gen.facts, Cert.GateRefIdeal.Gen.facts,
    Cert.Token.Gen.facts, Cert.TokenIdeal.Gen.facts, Cert.TokenRefIdeal.Gen.facts, Cert.Weight.Gen.facts, Cert.WeightIdeal.Gen.facts, Cert.WeightRefIdeal.Gen.facts,
    fun m ρ _ => Cert.Gate.Gen.frame m ρ, fun m ρ _ => Cert.GateIdeal.Gen.frame m ρ, fun m ρ _ => Cert.GateRefIdeal.Gen.frame m ρ,
    fun m ρ _ => Cert.Token.Gen.frame m ρ, fun m ρ _ => Cert.TokenIdeal.Gen.frame m ρ, fun m ρ _ => Cert.TokenRefIdeal.Gen.frame m ρ,
    fun m ρ _ => Cert.Weight.Gen.frame m ρ, fun m ρ _ => Cert.WeightIdeal.Gen.frame m ρ, fun m ρ _ => Cert.WeightRefIdeal.Gen.frame m ρ,
    trivial, algebraic_gate, trivial, algebraic_token, trivial, algebraic_weight⟩

end Cert.Proof

end
